-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "far" .f32 0x7F61B1E6#32 ⊤

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v211)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v211) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4x256x2048 : Shape := ⟨3, ![4, 256, 2048]⟩
abbrev S4x128x16 : Shape := ⟨3, ![4, 128, 16]⟩
abbrev S256x64x3 : Shape := ⟨3, ![256, 64, 3]⟩
abbrev S256 : Shape := ⟨1, ![256]⟩
abbrev S256x4x1 : Shape := ⟨3, ![256, 4, 1]⟩
abbrev S32x8x16 : Shape := ⟨3, ![32, 8, 16]⟩
abbrev S_ : Shape := ⟨0, ![]⟩

class Facts : Prop where
  bcast_S_S4x256x2048 : S_.BroadcastsInDim S4x256x2048 (![] : Fin 0 → Fin S4x256x2048.rank)
  reducesTo_S4x256x2048_S_d0_1_2 : S4x256x2048.ReducesTo [0, 1, 2] S_
  h_S_ : 0 < S_.numel
  bcast_S_S256x64x3 : S_.BroadcastsInDim S256x64x3 (![] : Fin 0 → Fin S256x64x3.rank)
  reducesTo_S256x64x3_S_d0_1_2 : S256x64x3.ReducesTo [0, 1, 2] S_
  bcast_S_S256 : S_.BroadcastsInDim S256 (![] : Fin 0 → Fin S256.rank)
  reducesTo_S256_S_d0 : S256.ReducesTo [0] S_
  bcast_S_S32x8x16 : S_.BroadcastsInDim S32x8x16 (![] : Fin 0 → Fin S32x8x16.rank)
  reducesTo_S32x8x16_S_d0_1_2 : S32x8x16.ReducesTo [0, 1, 2] S_

variable [Facts]

def fn_part2 {F : FTy → Type} [FloatOps F] (main_arg10 : FVec F S32x8x16 .f32) (main_arg11 : FVec F S256 .f32) (main_arg12 : FVec F S32x8x16 .f32) (main_v29 : IVec S_ 1) (main_v32 : IVec S256 1) (main_c_12 : IVec S_ 1) : IVec S_ 1 :=
  let main_v33 : IVec S_ 1 := (fun x v => Host.reduce IntOp.andi x v reducesTo_S256_S_d0 h_S_) main_v32 main_c_12
  let main_v34 : IVec S_ 1 := andi main_v29 main_v33
  let main_v35 : FVec F S32x8x16 .f32 := Host.absf main_arg10
  let main_cst_13 : FVec F S_ .f32 := constant S_ .f32 0x7F800000#32
  let main_v36 : FVec F S32x8x16 .f32 := broadcastInDim S32x8x16 ![] bcast_S_S32x8x16 main_cst_13
  let main_v37 : IVec S32x8x16 1 := cmpf .olt main_v35 main_v36
  let main_c_14 : IVec S_ 1 := constantI S_ 1 1#1
  let main_v38 : IVec S_ 1 := (fun x v => Host.reduce IntOp.andi x v reducesTo_S32x8x16_S_d0_1_2 h_S_) main_v37 main_c_14
  let main_v39 : IVec S_ 1 := andi main_v34 main_v38
  let main_v40 : FVec F S256 .f32 := Host.absf main_arg11
  let main_cst_15 : FVec F S_ .f32 := constant S_ .f32 0x7F800000#32
  let main_v41 : FVec F S256 .f32 := broadcastInDim S256 ![] bcast_S_S256 main_cst_15
  let main_v42 : IVec S256 1 := cmpf .olt main_v40 main_v41
  let main_c_16 : IVec S_ 1 := constantI S_ 1 1#1
  let main_v43 : IVec S_ 1 := (fun x v => Host.reduce IntOp.andi x v reducesTo_S256_S_d0 h_S_) main_v42 main_c_16
  let main_v44 : IVec S_ 1 := andi main_v39 main_v43
  let main_v45 : FVec F S32x8x16 .f32 := Host.absf main_arg12
  let main_cst_17 : FVec F S_ .f32 := constant S_ .f32 0x7F800000#32
  let main_v46 : FVec F S32x8x16 .f32 := broadcastInDim S32x8x16 ![] bcast_S_S32x8x16 main_cst_17
  let main_v47 : IVec S32x8x16 1 := cmpf .olt main_v45 main_v46
  let main_c_18 : IVec S_ 1 := constantI S_ 1 1#1
  let main_v48 : IVec S_ 1 := (fun x v => Host.reduce IntOp.andi x v reducesTo_S32x8x16_S_d0_1_2 h_S_) main_v47 main_c_18
  let main_v49 : IVec S_ 1 := andi main_v44 main_v48
  main_v49

def fn_part1 {F : FTy → Type} [FloatOps F] (main_arg5 : FVec F S256 .f32) (main_arg8 : FVec F S256 .f32) (main_arg9 : FVec F S256 .f32) (main_arg10 : FVec F S32x8x16 .f32) (main_arg11 : FVec F S256 .f32) (main_arg12 : FVec F S32x8x16 .f32) (main_v14 : IVec S_ 1) (main_v15 : FVec F S256 .f32) (main_cst_5 : FVec F S_ .f32) : IVec S_ 1 :=
  let main_v16 : FVec F S256 .f32 := broadcastInDim S256 ![] bcast_S_S256 main_cst_5
  let main_v17 : IVec S256 1 := cmpf .olt main_v15 main_v16
  let main_c_6 : IVec S_ 1 := constantI S_ 1 1#1
  let main_v18 : IVec S_ 1 := (fun x v => Host.reduce IntOp.andi x v reducesTo_S256_S_d0 h_S_) main_v17 main_c_6
  let main_v19 : IVec S_ 1 := andi main_v14 main_v18
  let main_v20 : FVec F S256 .f32 := Host.absf main_arg5
  let main_cst_7 : FVec F S_ .f32 := constant S_ .f32 0x7F800000#32
  let main_v21 : FVec F S256 .f32 := broadcastInDim S256 ![] bcast_S_S256 main_cst_7
  let main_v22 : IVec S256 1 := cmpf .olt main_v20 main_v21
  let main_c_8 : IVec S_ 1 := constantI S_ 1 1#1
  let main_v23 : IVec S_ 1 := (fun x v => Host.reduce IntOp.andi x v reducesTo_S256_S_d0 h_S_) main_v22 main_c_8
  let main_v24 : IVec S_ 1 := andi main_v19 main_v23
  let main_v25 : FVec F S256 .f32 := Host.absf main_arg8
  let main_cst_9 : FVec F S_ .f32 := constant S_ .f32 0x7F800000#32
  let main_v26 : FVec F S256 .f32 := broadcastInDim S256 ![] bcast_S_S256 main_cst_9
  let main_v27 : IVec S256 1 := cmpf .olt main_v25 main_v26
  let main_c_10 : IVec S_ 1 := constantI S_ 1 1#1
  let main_v28 : IVec S_ 1 := (fun x v => Host.reduce IntOp.andi x v reducesTo_S256_S_d0 h_S_) main_v27 main_c_10
  let main_v29 : IVec S_ 1 := andi main_v24 main_v28
  let main_v30 : FVec F S256 .f32 := Host.absf main_arg9
  let main_cst_11 : FVec F S_ .f32 := constant S_ .f32 0x7F800000#32
  let main_v31 : FVec F S256 .f32 := broadcastInDim S256 ![] bcast_S_S256 main_cst_11
  let main_v32 : IVec S256 1 := cmpf .olt main_v30 main_v31
  let main_c_12 : IVec S_ 1 := constantI S_ 1 1#1
  fn_part2 (F := F) main_arg10 main_arg11 main_arg12 main_v29 main_v32 main_c_12

def fn {F : FTy → Type} [FloatOps F] (main_arg0 : FVec F S4x256x2048 .f32) (main_arg1 : FVec F S4x128x16 .f32) (main_arg2 : FVec F S256x64x3 .f32) (main_arg3 : FVec F S256 .f32) (main_arg4 : FVec F S256 .f32) (main_arg5 : FVec F S256 .f32) (main_arg6 : FVec F S256x4x1 .f32) (main_arg7 : FVec F S256 .f32) (main_arg8 : FVec F S256 .f32) (main_arg9 : FVec F S256 .f32) (main_arg10 : FVec F S32x8x16 .f32) (main_arg11 : FVec F S256 .f32) (main_arg12 : FVec F S32x8x16 .f32) (main_arg13 : FVec F S256 .f32) : IVec S_ 1 :=
  let main_v0 : FVec F S4x256x2048 .f32 := Host.absf main_arg0
  let main_cst : FVec F S_ .f32 := constant S_ .f32 0x7F800000#32
  let main_v1 : FVec F S4x256x2048 .f32 := broadcastInDim S4x256x2048 ![] bcast_S_S4x256x2048 main_cst
  let main_v2 : IVec S4x256x2048 1 := cmpf .olt main_v0 main_v1
  let main_c : IVec S_ 1 := constantI S_ 1 1#1
  let main_v3 : IVec S_ 1 := (fun x v => Host.reduce IntOp.andi x v reducesTo_S4x256x2048_S_d0_1_2 h_S_) main_v2 main_c
  let main_c_0 : IVec S_ 1 := constantI S_ 1 1#1
  let main_v4 : IVec S_ 1 := andi main_c_0 main_v3
  let main_v5 : FVec F S256x64x3 .f32 := Host.absf main_arg2
  let main_cst_1 : FVec F S_ .f32 := constant S_ .f32 0x7F800000#32
  let main_v6 : FVec F S256x64x3 .f32 := broadcastInDim S256x64x3 ![] bcast_S_S256x64x3 main_cst_1
  let main_v7 : IVec S256x64x3 1 := cmpf .olt main_v5 main_v6
  let main_c_2 : IVec S_ 1 := constantI S_ 1 1#1
  let main_v8 : IVec S_ 1 := (fun x v => Host.reduce IntOp.andi x v reducesTo_S256x64x3_S_d0_1_2 h_S_) main_v7 main_c_2
  let main_v9 : IVec S_ 1 := andi main_v4 main_v8
  let main_v10 : FVec F S256 .f32 := Host.absf main_arg3
  let main_cst_3 : FVec F S_ .f32 := constant S_ .f32 0x7F800000#32
  let main_v11 : FVec F S256 .f32 := broadcastInDim S256 ![] bcast_S_S256 main_cst_3
  let main_v12 : IVec S256 1 := cmpf .olt main_v10 main_v11
  let main_c_4 : IVec S_ 1 := constantI S_ 1 1#1
  let main_v13 : IVec S_ 1 := (fun x v => Host.reduce IntOp.andi x v reducesTo_S256_S_d0 h_S_) main_v12 main_c_4
  let main_v14 : IVec S_ 1 := andi main_v9 main_v13
  let main_v15 : FVec F S256 .f32 := Host.absf main_arg4
  let main_cst_5 : FVec F S_ .f32 := constant S_ .f32 0x7F800000#32
  fn_part1 (F := F) main_arg5 main_arg8 main_arg9 main_arg10 main_arg11 main_arg12 main_v14 main_v15 main_cst_5
-- ==== Kernel.lean ====
abbrev S4x256x2048 : Shape := ⟨3, ![4, 256, 2048]⟩
abbrev S4x128x16 : Shape := ⟨3, ![4, 128, 16]⟩
abbrev S256x64x3 : Shape := ⟨3, ![256, 64, 3]⟩
abbrev S256 : Shape := ⟨1, ![256]⟩
abbrev S256x4x1 : Shape := ⟨3, ![256, 4, 1]⟩
abbrev S32x8x16 : Shape := ⟨3, ![32, 8, 16]⟩
abbrev S64x64x1 : Shape := ⟨3, ![64, 64, 1]⟩
abbrev S64x64 : Shape := ⟨2, ![64, 64]⟩
abbrev S_ : Shape := ⟨0, ![]⟩
abbrev S64x256 : Shape := ⟨2, ![64, 256]⟩
abbrev S256x256 : Shape := ⟨2, ![256, 256]⟩
abbrev S64x4x1 : Shape := ⟨3, ![64, 4, 1]⟩
abbrev S64x4 : Shape := ⟨2, ![64, 4]⟩
abbrev S4x64 : Shape := ⟨2, ![4, 64]⟩
abbrev S4x256 : Shape := ⟨2, ![4, 256]⟩
abbrev S16x256 : Shape := ⟨2, ![16, 256]⟩
abbrev S1x8x16 : Shape := ⟨3, ![1, 8, 16]⟩
abbrev S8x16 : Shape := ⟨2, ![8, 16]⟩
abbrev S8x256 : Shape := ⟨2, ![8, 256]⟩
abbrev S128x256 : Shape := ⟨2, ![128, 256]⟩
abbrev S256x1 : Shape := ⟨2, ![256, 1]⟩
abbrev S256x128 : Shape := ⟨2, ![256, 128]⟩
abbrev S1x256 : Shape := ⟨2, ![1, 256]⟩
abbrev S3x256 : Shape := ⟨2, ![3, 256]⟩
abbrev S4x256x128 : Shape := ⟨3, ![4, 256, 128]⟩
abbrev S1x256x2048 : Shape := ⟨3, ![1, 256, 2048]⟩
abbrev S1x256x128 : Shape := ⟨3, ![1, 256, 128]⟩
abbrev S256x2048 : Shape := ⟨2, ![256, 2048]⟩
abbrev S256x2047 : Shape := ⟨2, ![256, 2047]⟩
abbrev S256x2 : Shape := ⟨2, ![256, 2]⟩
abbrev S256x126 : Shape := ⟨2, ![256, 126]⟩
abbrev S4x256x1 : Shape := ⟨3, ![4, 256, 1]⟩
abbrev S4x128x256 : Shape := ⟨3, ![4, 128, 256]⟩
abbrev S4x128x128 : Shape := ⟨3, ![4, 128, 128]⟩
abbrev S1x128x16 : Shape := ⟨3, ![1, 128, 16]⟩
abbrev S128x16 : Shape := ⟨2, ![128, 16]⟩
abbrev S1x128x256 : Shape := ⟨3, ![1, 128, 256]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩
abbrev S1x256x512 : Shape := ⟨3, ![1, 256, 512]⟩
abbrev S256x512 : Shape := ⟨2, ![256, 512]⟩
abbrev S128x512 : Shape := ⟨2, ![128, 512]⟩
abbrev S512 : Shape := ⟨1, ![512]⟩
abbrev S1x512 : Shape := ⟨2, ![1, 512]⟩

abbrev nBuf : Space → Nat
  | .hbm => 397
  | .vmem => 39
  | .smem => 0
  | _ => 0

abbrev hbmTy0_0 (i : Nat) : BufTy := match i % 128 with
  | 0 => ⟨S4x256x2048, .f32⟩
  | 1 => ⟨S4x128x16, .f32⟩
  | 2 => ⟨S256x64x3, .f32⟩
  | 3 => ⟨S256, .f32⟩
  | 4 => ⟨S256, .f32⟩
  | 5 => ⟨S256, .f32⟩
  | 6 => ⟨S256x4x1, .f32⟩
  | 7 => ⟨S256, .f32⟩
  | 8 => ⟨S256, .f32⟩
  | 9 => ⟨S256, .f32⟩
  | 10 => ⟨S32x8x16, .f32⟩
  | 11 => ⟨S256, .f32⟩
  | 12 => ⟨S32x8x16, .f32⟩
  | 13 => ⟨S256, .f32⟩
  | 14 => ⟨S64x64x1, .f32⟩
  | 15 => ⟨S64x64, .f32⟩
  | 16 => ⟨S64x64x1, .f32⟩
  | 17 => ⟨S64x64, .f32⟩
  | 18 => ⟨S64x64x1, .f32⟩
  | 19 => ⟨S64x64, .f32⟩
  | 20 => ⟨S64x64x1, .f32⟩
  | 21 => ⟨S64x64, .f32⟩
  | 22 => ⟨S_, .f32⟩
  | 23 => ⟨S64x256, .f32⟩
  | 24 => ⟨S_, .f32⟩
  | 25 => ⟨S64x256, .f32⟩
  | 26 => ⟨S_, .f32⟩
  | 27 => ⟨S64x256, .f32⟩
  | 28 => ⟨S_, .f32⟩
  | 29 => ⟨S64x256, .f32⟩
  | 30 => ⟨S256x256, .f32⟩
  | 31 => ⟨S64x64x1, .f32⟩
  | 32 => ⟨S64x64, .f32⟩
  | 33 => ⟨S64x64x1, .f32⟩
  | 34 => ⟨S64x64, .f32⟩
  | 35 => ⟨S64x64x1, .f32⟩
  | 36 => ⟨S64x64, .f32⟩
  | 37 => ⟨S64x64x1, .f32⟩
  | 38 => ⟨S64x64, .f32⟩
  | 39 => ⟨S_, .f32⟩
  | 40 => ⟨S64x256, .f32⟩
  | 41 => ⟨S_, .f32⟩
  | 42 => ⟨S64x256, .f32⟩
  | 43 => ⟨S_, .f32⟩
  | 44 => ⟨S64x256, .f32⟩
  | 45 => ⟨S_, .f32⟩
  | 46 => ⟨S64x256, .f32⟩
  | 47 => ⟨S256x256, .f32⟩
  | 48 => ⟨S64x64x1, .f32⟩
  | 49 => ⟨S64x64, .f32⟩
  | 50 => ⟨S64x64x1, .f32⟩
  | 51 => ⟨S64x64, .f32⟩
  | 52 => ⟨S64x64x1, .f32⟩
  | 53 => ⟨S64x64, .f32⟩
  | 54 => ⟨S64x64x1, .f32⟩
  | 55 => ⟨S64x64, .f32⟩
  | 56 => ⟨S_, .f32⟩
  | 57 => ⟨S64x256, .f32⟩
  | 58 => ⟨S_, .f32⟩
  | 59 => ⟨S64x256, .f32⟩
  | 60 => ⟨S_, .f32⟩
  | 61 => ⟨S64x256, .f32⟩
  | 62 => ⟨S_, .f32⟩
  | 63 => ⟨S64x256, .f32⟩
  | 64 => ⟨S256x256, .f32⟩
  | 65 => ⟨S64x4x1, .f32⟩
  | 66 => ⟨S64x4, .f32⟩
  | 67 => ⟨S4x64, .f32⟩
  | 68 => ⟨S64x4x1, .f32⟩
  | 69 => ⟨S64x4, .f32⟩
  | 70 => ⟨S4x64, .f32⟩
  | 71 => ⟨S64x4x1, .f32⟩
  | 72 => ⟨S64x4, .f32⟩
  | 73 => ⟨S4x64, .f32⟩
  | 74 => ⟨S64x4x1, .f32⟩
  | 75 => ⟨S64x4, .f32⟩
  | 76 => ⟨S4x64, .f32⟩
  | 77 => ⟨S_, .f32⟩
  | 78 => ⟨S4x256, .f32⟩
  | 79 => ⟨S_, .f32⟩
  | 80 => ⟨S4x256, .f32⟩
  | 81 => ⟨S_, .f32⟩
  | 82 => ⟨S4x256, .f32⟩
  | 83 => ⟨S_, .f32⟩
  | 84 => ⟨S4x256, .f32⟩
  | 85 => ⟨S16x256, .f32⟩
  | 86 => ⟨S1x8x16, .f32⟩
  | 87 => ⟨S8x16, .f32⟩
  | 88 => ⟨S1x8x16, .f32⟩
  | 89 => ⟨S8x16, .f32⟩
  | 90 => ⟨S1x8x16, .f32⟩
  | 91 => ⟨S8x16, .f32⟩
  | 92 => ⟨S1x8x16, .f32⟩
  | 93 => ⟨S8x16, .f32⟩
  | 94 => ⟨S1x8x16, .f32⟩
  | 95 => ⟨S8x16, .f32⟩
  | 96 => ⟨S1x8x16, .f32⟩
  | 97 => ⟨S8x16, .f32⟩
  | 98 => ⟨S1x8x16, .f32⟩
  | 99 => ⟨S8x16, .f32⟩
  | 100 => ⟨S1x8x16, .f32⟩
  | 101 => ⟨S8x16, .f32⟩
  | 102 => ⟨S1x8x16, .f32⟩
  | 103 => ⟨S8x16, .f32⟩
  | 104 => ⟨S1x8x16, .f32⟩
  | 105 => ⟨S8x16, .f32⟩
  | 106 => ⟨S1x8x16, .f32⟩
  | 107 => ⟨S8x16, .f32⟩
  | 108 => ⟨S1x8x16, .f32⟩
  | 109 => ⟨S8x16, .f32⟩
  | 110 => ⟨S1x8x16, .f32⟩
  | 111 => ⟨S8x16, .f32⟩
  | 112 => ⟨S1x8x16, .f32⟩
  | 113 => ⟨S8x16, .f32⟩
  | 114 => ⟨S1x8x16, .f32⟩
  | 115 => ⟨S8x16, .f32⟩
  | 116 => ⟨S1x8x16, .f32⟩
  | 117 => ⟨S8x16, .f32⟩
  | 118 => ⟨S_, .f32⟩
  | 119 => ⟨S8x256, .f32⟩
  | 120 => ⟨S_, .f32⟩
  | 121 => ⟨S8x256, .f32⟩
  | 122 => ⟨S_, .f32⟩
  | 123 => ⟨S8x256, .f32⟩
  | 124 => ⟨S_, .f32⟩
  | 125 => ⟨S8x256, .f32⟩
  | 126 => ⟨S_, .f32⟩
  | 127 => ⟨S8x256, .f32⟩
  | _ => ⟨S4x256x2048, .f32⟩

abbrev hbmTy0_1 (i : Nat) : BufTy := match i % 128 with
  | 0 => ⟨S_, .f32⟩
  | 1 => ⟨S8x256, .f32⟩
  | 2 => ⟨S_, .f32⟩
  | 3 => ⟨S8x256, .f32⟩
  | 4 => ⟨S_, .f32⟩
  | 5 => ⟨S8x256, .f32⟩
  | 6 => ⟨S_, .f32⟩
  | 7 => ⟨S8x256, .f32⟩
  | 8 => ⟨S_, .f32⟩
  | 9 => ⟨S8x256, .f32⟩
  | 10 => ⟨S_, .f32⟩
  | 11 => ⟨S8x256, .f32⟩
  | 12 => ⟨S_, .f32⟩
  | 13 => ⟨S8x256, .f32⟩
  | 14 => ⟨S_, .f32⟩
  | 15 => ⟨S8x256, .f32⟩
  | 16 => ⟨S_, .f32⟩
  | 17 => ⟨S8x256, .f32⟩
  | 18 => ⟨S_, .f32⟩
  | 19 => ⟨S8x256, .f32⟩
  | 20 => ⟨S_, .f32⟩
  | 21 => ⟨S8x256, .f32⟩
  | 22 => ⟨S128x256, .f32⟩
  | 23 => ⟨S1x8x16, .f32⟩
  | 24 => ⟨S8x16, .f32⟩
  | 25 => ⟨S1x8x16, .f32⟩
  | 26 => ⟨S8x16, .f32⟩
  | 27 => ⟨S1x8x16, .f32⟩
  | 28 => ⟨S8x16, .f32⟩
  | 29 => ⟨S1x8x16, .f32⟩
  | 30 => ⟨S8x16, .f32⟩
  | 31 => ⟨S1x8x16, .f32⟩
  | 32 => ⟨S8x16, .f32⟩
  | 33 => ⟨S1x8x16, .f32⟩
  | 34 => ⟨S8x16, .f32⟩
  | 35 => ⟨S1x8x16, .f32⟩
  | 36 => ⟨S8x16, .f32⟩
  | 37 => ⟨S1x8x16, .f32⟩
  | 38 => ⟨S8x16, .f32⟩
  | 39 => ⟨S1x8x16, .f32⟩
  | 40 => ⟨S8x16, .f32⟩
  | 41 => ⟨S1x8x16, .f32⟩
  | 42 => ⟨S8x16, .f32⟩
  | 43 => ⟨S1x8x16, .f32⟩
  | 44 => ⟨S8x16, .f32⟩
  | 45 => ⟨S1x8x16, .f32⟩
  | 46 => ⟨S8x16, .f32⟩
  | 47 => ⟨S1x8x16, .f32⟩
  | 48 => ⟨S8x16, .f32⟩
  | 49 => ⟨S1x8x16, .f32⟩
  | 50 => ⟨S8x16, .f32⟩
  | 51 => ⟨S1x8x16, .f32⟩
  | 52 => ⟨S8x16, .f32⟩
  | 53 => ⟨S1x8x16, .f32⟩
  | 54 => ⟨S8x16, .f32⟩
  | 55 => ⟨S_, .f32⟩
  | 56 => ⟨S8x256, .f32⟩
  | 57 => ⟨S_, .f32⟩
  | 58 => ⟨S8x256, .f32⟩
  | 59 => ⟨S_, .f32⟩
  | 60 => ⟨S8x256, .f32⟩
  | 61 => ⟨S_, .f32⟩
  | 62 => ⟨S8x256, .f32⟩
  | 63 => ⟨S_, .f32⟩
  | 64 => ⟨S8x256, .f32⟩
  | 65 => ⟨S_, .f32⟩
  | 66 => ⟨S8x256, .f32⟩
  | 67 => ⟨S_, .f32⟩
  | 68 => ⟨S8x256, .f32⟩
  | 69 => ⟨S_, .f32⟩
  | 70 => ⟨S8x256, .f32⟩
  | 71 => ⟨S_, .f32⟩
  | 72 => ⟨S8x256, .f32⟩
  | 73 => ⟨S_, .f32⟩
  | 74 => ⟨S8x256, .f32⟩
  | 75 => ⟨S_, .f32⟩
  | 76 => ⟨S8x256, .f32⟩
  | 77 => ⟨S_, .f32⟩
  | 78 => ⟨S8x256, .f32⟩
  | 79 => ⟨S_, .f32⟩
  | 80 => ⟨S8x256, .f32⟩
  | 81 => ⟨S_, .f32⟩
  | 82 => ⟨S8x256, .f32⟩
  | 83 => ⟨S_, .f32⟩
  | 84 => ⟨S8x256, .f32⟩
  | 85 => ⟨S_, .f32⟩
  | 86 => ⟨S8x256, .f32⟩
  | 87 => ⟨S128x256, .f32⟩
  | 88 => ⟨S1x8x16, .f32⟩
  | 89 => ⟨S8x16, .f32⟩
  | 90 => ⟨S1x8x16, .f32⟩
  | 91 => ⟨S8x16, .f32⟩
  | 92 => ⟨S1x8x16, .f32⟩
  | 93 => ⟨S8x16, .f32⟩
  | 94 => ⟨S1x8x16, .f32⟩
  | 95 => ⟨S8x16, .f32⟩
  | 96 => ⟨S1x8x16, .f32⟩
  | 97 => ⟨S8x16, .f32⟩
  | 98 => ⟨S1x8x16, .f32⟩
  | 99 => ⟨S8x16, .f32⟩
  | 100 => ⟨S1x8x16, .f32⟩
  | 101 => ⟨S8x16, .f32⟩
  | 102 => ⟨S1x8x16, .f32⟩
  | 103 => ⟨S8x16, .f32⟩
  | 104 => ⟨S1x8x16, .f32⟩
  | 105 => ⟨S8x16, .f32⟩
  | 106 => ⟨S1x8x16, .f32⟩
  | 107 => ⟨S8x16, .f32⟩
  | 108 => ⟨S1x8x16, .f32⟩
  | 109 => ⟨S8x16, .f32⟩
  | 110 => ⟨S1x8x16, .f32⟩
  | 111 => ⟨S8x16, .f32⟩
  | 112 => ⟨S1x8x16, .f32⟩
  | 113 => ⟨S8x16, .f32⟩
  | 114 => ⟨S1x8x16, .f32⟩
  | 115 => ⟨S8x16, .f32⟩
  | 116 => ⟨S1x8x16, .f32⟩
  | 117 => ⟨S8x16, .f32⟩
  | 118 => ⟨S1x8x16, .f32⟩
  | 119 => ⟨S8x16, .f32⟩
  | 120 => ⟨S_, .f32⟩
  | 121 => ⟨S8x256, .f32⟩
  | 122 => ⟨S_, .f32⟩
  | 123 => ⟨S8x256, .f32⟩
  | 124 => ⟨S_, .f32⟩
  | 125 => ⟨S8x256, .f32⟩
  | 126 => ⟨S_, .f32⟩
  | 127 => ⟨S8x256, .f32⟩
  | _ => ⟨S4x256x2048, .f32⟩

abbrev hbmTy0_2 (i : Nat) : BufTy := match i % 128 with
  | 0 => ⟨S_, .f32⟩
  | 1 => ⟨S8x256, .f32⟩
  | 2 => ⟨S_, .f32⟩
  | 3 => ⟨S8x256, .f32⟩
  | 4 => ⟨S_, .f32⟩
  | 5 => ⟨S8x256, .f32⟩
  | 6 => ⟨S_, .f32⟩
  | 7 => ⟨S8x256, .f32⟩
  | 8 => ⟨S_, .f32⟩
  | 9 => ⟨S8x256, .f32⟩
  | 10 => ⟨S_, .f32⟩
  | 11 => ⟨S8x256, .f32⟩
  | 12 => ⟨S_, .f32⟩
  | 13 => ⟨S8x256, .f32⟩
  | 14 => ⟨S_, .f32⟩
  | 15 => ⟨S8x256, .f32⟩
  | 16 => ⟨S_, .f32⟩
  | 17 => ⟨S8x256, .f32⟩
  | 18 => ⟨S_, .f32⟩
  | 19 => ⟨S8x256, .f32⟩
  | 20 => ⟨S_, .f32⟩
  | 21 => ⟨S8x256, .f32⟩
  | 22 => ⟨S_, .f32⟩
  | 23 => ⟨S8x256, .f32⟩
  | 24 => ⟨S128x256, .f32⟩
  | 25 => ⟨S1x8x16, .f32⟩
  | 26 => ⟨S8x16, .f32⟩
  | 27 => ⟨S1x8x16, .f32⟩
  | 28 => ⟨S8x16, .f32⟩
  | 29 => ⟨S1x8x16, .f32⟩
  | 30 => ⟨S8x16, .f32⟩
  | 31 => ⟨S1x8x16, .f32⟩
  | 32 => ⟨S8x16, .f32⟩
  | 33 => ⟨S1x8x16, .f32⟩
  | 34 => ⟨S8x16, .f32⟩
  | 35 => ⟨S1x8x16, .f32⟩
  | 36 => ⟨S8x16, .f32⟩
  | 37 => ⟨S1x8x16, .f32⟩
  | 38 => ⟨S8x16, .f32⟩
  | 39 => ⟨S1x8x16, .f32⟩
  | 40 => ⟨S8x16, .f32⟩
  | 41 => ⟨S1x8x16, .f32⟩
  | 42 => ⟨S8x16, .f32⟩
  | 43 => ⟨S1x8x16, .f32⟩
  | 44 => ⟨S8x16, .f32⟩
  | 45 => ⟨S1x8x16, .f32⟩
  | 46 => ⟨S8x16, .f32⟩
  | 47 => ⟨S1x8x16, .f32⟩
  | 48 => ⟨S8x16, .f32⟩
  | 49 => ⟨S1x8x16, .f32⟩
  | 50 => ⟨S8x16, .f32⟩
  | 51 => ⟨S1x8x16, .f32⟩
  | 52 => ⟨S8x16, .f32⟩
  | 53 => ⟨S1x8x16, .f32⟩
  | 54 => ⟨S8x16, .f32⟩
  | 55 => ⟨S1x8x16, .f32⟩
  | 56 => ⟨S8x16, .f32⟩
  | 57 => ⟨S_, .f32⟩
  | 58 => ⟨S8x256, .f32⟩
  | 59 => ⟨S_, .f32⟩
  | 60 => ⟨S8x256, .f32⟩
  | 61 => ⟨S_, .f32⟩
  | 62 => ⟨S8x256, .f32⟩
  | 63 => ⟨S_, .f32⟩
  | 64 => ⟨S8x256, .f32⟩
  | 65 => ⟨S_, .f32⟩
  | 66 => ⟨S8x256, .f32⟩
  | 67 => ⟨S_, .f32⟩
  | 68 => ⟨S8x256, .f32⟩
  | 69 => ⟨S_, .f32⟩
  | 70 => ⟨S8x256, .f32⟩
  | 71 => ⟨S_, .f32⟩
  | 72 => ⟨S8x256, .f32⟩
  | 73 => ⟨S_, .f32⟩
  | 74 => ⟨S8x256, .f32⟩
  | 75 => ⟨S_, .f32⟩
  | 76 => ⟨S8x256, .f32⟩
  | 77 => ⟨S_, .f32⟩
  | 78 => ⟨S8x256, .f32⟩
  | 79 => ⟨S_, .f32⟩
  | 80 => ⟨S8x256, .f32⟩
  | 81 => ⟨S_, .f32⟩
  | 82 => ⟨S8x256, .f32⟩
  | 83 => ⟨S_, .f32⟩
  | 84 => ⟨S8x256, .f32⟩
  | 85 => ⟨S_, .f32⟩
  | 86 => ⟨S8x256, .f32⟩
  | 87 => ⟨S_, .f32⟩
  | 88 => ⟨S8x256, .f32⟩
  | 89 => ⟨S128x256, .f32⟩
  | 90 => ⟨S256x256, .f32⟩
  | 91 => ⟨S256x256, .f32⟩
  | 92 => ⟨S256x1, .f32⟩
  | 93 => ⟨S256x128, .f32⟩
  | 94 => ⟨S1x256, .f32⟩
  | 95 => ⟨S1x256, .f32⟩
  | 96 => ⟨S1x256, .f32⟩
  | 97 => ⟨S3x256, .f32⟩
  | 98 => ⟨S_, .i32⟩
  | 99 => ⟨S_, .f32⟩
  | 100 => ⟨S8x256, .f32⟩
  | 101 => ⟨S256x1, .f32⟩
  | 102 => ⟨S256x128, .f32⟩
  | 103 => ⟨S256x1, .f32⟩
  | 104 => ⟨S256x128, .f32⟩
  | 105 => ⟨S4x256x2048, .f32⟩
  | 106 => ⟨S4x256x128, .f32⟩
  | 107 => ⟨S4x256x1, .f32⟩
  | 108 => ⟨S4x256, .f32⟩
  | 109 => ⟨S_, .f32⟩
  | 110 => ⟨S256, .f32⟩
  | 111 => ⟨S_, .f32⟩
  | 112 => ⟨S256, .f32⟩
  | 113 => ⟨S256, .f32⟩
  | 114 => ⟨S4x256x1, .f32⟩
  | 115 => ⟨S4x256, .f32⟩
  | 116 => ⟨S_, .f32⟩
  | 117 => ⟨S256, .f32⟩
  | 118 => ⟨S_, .f32⟩
  | 119 => ⟨S256, .f32⟩
  | 120 => ⟨S256, .f32⟩
  | 121 => ⟨S256, .f32⟩
  | 122 => ⟨S256, .f32⟩
  | 123 => ⟨S_, .f32⟩
  | 124 => ⟨S256, .f32⟩
  | 125 => ⟨S256, .f32⟩
  | 126 => ⟨S256, .f32⟩
  | 127 => ⟨S256, .f32⟩
  | _ => ⟨S4x256x2048, .f32⟩

abbrev hbmTy0_3 (i : Nat) : BufTy := match i % 128 with
  | 0 => ⟨S256, .f32⟩
  | 1 => ⟨S256, .f32⟩
  | 2 => ⟨S256x1, .f32⟩
  | 3 => ⟨S256x128, .f32⟩
  | 4 => ⟨S256x1, .f32⟩
  | 5 => ⟨S256x128, .f32⟩
  | 6 => ⟨S256x128, .f32⟩
  | 7 => ⟨S256x128, .f32⟩
  | 8 => ⟨S4x128x256, .f32⟩
  | 9 => ⟨S4x128x128, .f32⟩
  | 10 => ⟨S4x128x128, .f32⟩
  | 11 => ⟨S4x128x128, .f32⟩
  | 12 => ⟨S4x256x2048, .f32⟩
  | _ => ⟨S4x256x2048, .f32⟩

abbrev hbmTy (i : Nat) : BufTy := match i / 128 with
  | 0 => hbmTy0_0 i
  | 1 => hbmTy0_1 i
  | 2 => hbmTy0_2 i
  | 3 => hbmTy0_3 i
  | _ => ⟨S4x256x2048, .f32⟩

abbrev bufTy : (tb : Table) → Fin (tcTables nBuf tb) → BufTy
  | .hbm, ⟨i, _⟩ => hbmTy i
  | .local _ .vmem, ⟨0, _⟩ => ⟨S1x256x2048, .f32⟩
  | .local _ .vmem, ⟨1, _⟩ => ⟨S1x256x2048, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x128, .f32⟩
  | .local _ .vmem, ⟨6, _⟩ => ⟨S1x256x2048, .f32⟩
  | .local _ .vmem, ⟨7, _⟩ => ⟨S1x256x2048, .f32⟩
  | .local _ .vmem, ⟨8, _⟩ => ⟨S1x256x128, .f32⟩
  | .local _ .vmem, ⟨9, _⟩ => ⟨S1x256x128, .f32⟩
  | .local _ .vmem, ⟨10, _⟩ => ⟨S4x128x16, .f32⟩
  | .local _ .vmem, ⟨11, _⟩ => ⟨S16x256, .f32⟩
  | .local _ .vmem, ⟨12, _⟩ => ⟨S8x256, .f32⟩
  | .local _ .vmem, ⟨13, _⟩ => ⟨S256x128, .f32⟩
  | .local _ .vmem, ⟨14, _⟩ => ⟨S256x128, .f32⟩
  | .local _ .vmem, ⟨15, _⟩ => ⟨S4x128x256, .f32⟩
  | .local _ .vmem, ⟨16, _⟩ => ⟨S4x128x128, .f32⟩
  | .local _ .vmem, ⟨17, _⟩ => ⟨S4x128x128, .f32⟩
  | .local _ .vmem, ⟨18, _⟩ => ⟨S4x128x128, .f32⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | .local _ .vmem, ⟨22, _⟩ => ⟨S1x256x512, .f32⟩
  | .local _ .vmem, ⟨23, _⟩ => ⟨S1x128x256, .f32⟩
  | .local _ .vmem, ⟨24, _⟩ => ⟨S1x128x256, .f32⟩
  | .local _ .vmem, ⟨25, _⟩ => ⟨S1x128x128, .f32⟩
  | .local _ .vmem, ⟨26, _⟩ => ⟨S1x128x128, .f32⟩
  | .local _ .vmem, ⟨27, _⟩ => ⟨S1x128x128, .f32⟩
  | .local _ .vmem, ⟨28, _⟩ => ⟨S1x128x128, .f32⟩
  | .local _ .vmem, ⟨29, _⟩ => ⟨S1x128x128, .f32⟩
  | .local _ .vmem, ⟨30, _⟩ => ⟨S1x128x128, .f32⟩
  | .local _ .vmem, ⟨31, _⟩ => ⟨S256x128, .f32⟩
  | .local _ .vmem, ⟨32, _⟩ => ⟨S256x128, .f32⟩
  | .local _ .vmem, ⟨33, _⟩ => ⟨S256x256, .f32⟩
  | .local _ .vmem, ⟨34, _⟩ => ⟨S256x256, .f32⟩
  | .local _ .vmem, ⟨35, _⟩ => ⟨S256x128, .f32⟩
  | .local _ .vmem, ⟨36, _⟩ => ⟨S256x128, .f32⟩
  | .local _ .vmem, ⟨37, _⟩ => ⟨S1x256x512, .f32⟩
  | .local _ .vmem, ⟨38, _⟩ => ⟨S1x256x512, .f32⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call0_cst : Ref sig .tc := ⟨.hbm, 22, rfl⟩
abbrev main_call0_v4 : Ref sig .tc := ⟨.hbm, 23, rfl⟩
abbrev main_call0_cst_0 : Ref sig .tc := ⟨.hbm, 24, rfl⟩
abbrev main_call0_v5 : Ref sig .tc := ⟨.hbm, 25, rfl⟩
abbrev main_call0_cst_1 : Ref sig .tc := ⟨.hbm, 26, rfl⟩
abbrev main_call0_v6 : Ref sig .tc := ⟨.hbm, 27, rfl⟩
abbrev main_call0_cst_2 : Ref sig .tc := ⟨.hbm, 28, rfl⟩
abbrev main_call0_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_call1_cst : Ref sig .tc := ⟨.hbm, 39, rfl⟩
abbrev main_call1_v4 : Ref sig .tc := ⟨.hbm, 40, rfl⟩
abbrev main_call1_cst_0 : Ref sig .tc := ⟨.hbm, 41, rfl⟩
abbrev main_call1_v5 : Ref sig .tc := ⟨.hbm, 42, rfl⟩
abbrev main_call1_cst_1 : Ref sig .tc := ⟨.hbm, 43, rfl⟩
abbrev main_call1_v6 : Ref sig .tc := ⟨.hbm, 44, rfl⟩
abbrev main_call1_cst_2 : Ref sig .tc := ⟨.hbm, 45, rfl⟩
abbrev main_call1_v7 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_call2_cst : Ref sig .tc := ⟨.hbm, 56, rfl⟩
abbrev main_call2_v4 : Ref sig .tc := ⟨.hbm, 57, rfl⟩
abbrev main_call2_cst_0 : Ref sig .tc := ⟨.hbm, 58, rfl⟩
abbrev main_call2_v5 : Ref sig .tc := ⟨.hbm, 59, rfl⟩
abbrev main_call2_cst_1 : Ref sig .tc := ⟨.hbm, 60, rfl⟩
abbrev main_call2_v6 : Ref sig .tc := ⟨.hbm, 61, rfl⟩
abbrev main_call2_cst_2 : Ref sig .tc := ⟨.hbm, 62, rfl⟩
abbrev main_call2_v7 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_call3_cst : Ref sig .tc := ⟨.hbm, 77, rfl⟩
abbrev main_call3_v4 : Ref sig .tc := ⟨.hbm, 78, rfl⟩
abbrev main_call3_cst_0 : Ref sig .tc := ⟨.hbm, 79, rfl⟩
abbrev main_call3_v5 : Ref sig .tc := ⟨.hbm, 80, rfl⟩
abbrev main_call3_cst_1 : Ref sig .tc := ⟨.hbm, 81, rfl⟩
abbrev main_call3_v6 : Ref sig .tc := ⟨.hbm, 82, rfl⟩
abbrev main_call3_cst_2 : Ref sig .tc := ⟨.hbm, 83, rfl⟩
abbrev main_call3_v7 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_call4_cst : Ref sig .tc := ⟨.hbm, 118, rfl⟩
abbrev main_call4_v16 : Ref sig .tc := ⟨.hbm, 119, rfl⟩
abbrev main_call4_cst_0 : Ref sig .tc := ⟨.hbm, 120, rfl⟩
abbrev main_call4_v17 : Ref sig .tc := ⟨.hbm, 121, rfl⟩
abbrev main_call4_cst_1 : Ref sig .tc := ⟨.hbm, 122, rfl⟩
abbrev main_call4_v18 : Ref sig .tc := ⟨.hbm, 123, rfl⟩
abbrev main_call4_cst_2 : Ref sig .tc := ⟨.hbm, 124, rfl⟩
abbrev main_call4_v19 : Ref sig .tc := ⟨.hbm, 125, rfl⟩
abbrev main_call4_cst_3 : Ref sig .tc := ⟨.hbm, 126, rfl⟩
abbrev main_call4_v20 : Ref sig .tc := ⟨.hbm, 127, rfl⟩
abbrev main_call4_cst_4 : Ref sig .tc := ⟨.hbm, 128, rfl⟩
abbrev main_call4_v21 : Ref sig .tc := ⟨.hbm, 129, rfl⟩
abbrev main_call4_cst_5 : Ref sig .tc := ⟨.hbm, 130, rfl⟩
abbrev main_call4_v22 : Ref sig .tc := ⟨.hbm, 131, rfl⟩
abbrev main_call4_cst_6 : Ref sig .tc := ⟨.hbm, 132, rfl⟩
abbrev main_call4_v23 : Ref sig .tc := ⟨.hbm, 133, rfl⟩
abbrev main_call4_cst_7 : Ref sig .tc := ⟨.hbm, 134, rfl⟩
abbrev main_call4_v24 : Ref sig .tc := ⟨.hbm, 135, rfl⟩
abbrev main_call4_cst_8 : Ref sig .tc := ⟨.hbm, 136, rfl⟩
abbrev main_call4_v25 : Ref sig .tc := ⟨.hbm, 137, rfl⟩
abbrev main_call4_cst_9 : Ref sig .tc := ⟨.hbm, 138, rfl⟩
abbrev main_call4_v26 : Ref sig .tc := ⟨.hbm, 139, rfl⟩
abbrev main_call4_cst_10 : Ref sig .tc := ⟨.hbm, 140, rfl⟩
abbrev main_call4_v27 : Ref sig .tc := ⟨.hbm, 141, rfl⟩
abbrev main_call4_cst_11 : Ref sig .tc := ⟨.hbm, 142, rfl⟩
abbrev main_call4_v28 : Ref sig .tc := ⟨.hbm, 143, rfl⟩
abbrev main_call4_cst_12 : Ref sig .tc := ⟨.hbm, 144, rfl⟩
abbrev main_call4_v29 : Ref sig .tc := ⟨.hbm, 145, rfl⟩
abbrev main_call4_cst_13 : Ref sig .tc := ⟨.hbm, 146, rfl⟩
abbrev main_call4_v30 : Ref sig .tc := ⟨.hbm, 147, rfl⟩
abbrev main_call4_cst_14 : Ref sig .tc := ⟨.hbm, 148, rfl⟩
abbrev main_call4_v31 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_call5_cst : Ref sig .tc := ⟨.hbm, 183, rfl⟩
abbrev main_call5_v16 : Ref sig .tc := ⟨.hbm, 184, rfl⟩
abbrev main_call5_cst_0 : Ref sig .tc := ⟨.hbm, 185, rfl⟩
abbrev main_call5_v17 : Ref sig .tc := ⟨.hbm, 186, rfl⟩
abbrev main_call5_cst_1 : Ref sig .tc := ⟨.hbm, 187, rfl⟩
abbrev main_call5_v18 : Ref sig .tc := ⟨.hbm, 188, rfl⟩
abbrev main_call5_cst_2 : Ref sig .tc := ⟨.hbm, 189, rfl⟩
abbrev main_call5_v19 : Ref sig .tc := ⟨.hbm, 190, rfl⟩
abbrev main_call5_cst_3 : Ref sig .tc := ⟨.hbm, 191, rfl⟩
abbrev main_call5_v20 : Ref sig .tc := ⟨.hbm, 192, rfl⟩
abbrev main_call5_cst_4 : Ref sig .tc := ⟨.hbm, 193, rfl⟩
abbrev main_call5_v21 : Ref sig .tc := ⟨.hbm, 194, rfl⟩
abbrev main_call5_cst_5 : Ref sig .tc := ⟨.hbm, 195, rfl⟩
abbrev main_call5_v22 : Ref sig .tc := ⟨.hbm, 196, rfl⟩
abbrev main_call5_cst_6 : Ref sig .tc := ⟨.hbm, 197, rfl⟩
abbrev main_call5_v23 : Ref sig .tc := ⟨.hbm, 198, rfl⟩
abbrev main_call5_cst_7 : Ref sig .tc := ⟨.hbm, 199, rfl⟩
abbrev main_call5_v24 : Ref sig .tc := ⟨.hbm, 200, rfl⟩
abbrev main_call5_cst_8 : Ref sig .tc := ⟨.hbm, 201, rfl⟩
abbrev main_call5_v25 : Ref sig .tc := ⟨.hbm, 202, rfl⟩
abbrev main_call5_cst_9 : Ref sig .tc := ⟨.hbm, 203, rfl⟩
abbrev main_call5_v26 : Ref sig .tc := ⟨.hbm, 204, rfl⟩
abbrev main_call5_cst_10 : Ref sig .tc := ⟨.hbm, 205, rfl⟩
abbrev main_call5_v27 : Ref sig .tc := ⟨.hbm, 206, rfl⟩
abbrev main_call5_cst_11 : Ref sig .tc := ⟨.hbm, 207, rfl⟩
abbrev main_call5_v28 : Ref sig .tc := ⟨.hbm, 208, rfl⟩
abbrev main_call5_cst_12 : Ref sig .tc := ⟨.hbm, 209, rfl⟩
abbrev main_call5_v29 : Ref sig .tc := ⟨.hbm, 210, rfl⟩
abbrev main_call5_cst_13 : Ref sig .tc := ⟨.hbm, 211, rfl⟩
abbrev main_call5_v30 : Ref sig .tc := ⟨.hbm, 212, rfl⟩
abbrev main_call5_cst_14 : Ref sig .tc := ⟨.hbm, 213, rfl⟩
abbrev main_call5_v31 : Ref sig .tc := ⟨.hbm, 214, rfl⟩
abbrev main_v105 : Ref sig .tc := ⟨.hbm, 215, rfl⟩
abbrev main_v106 : Ref sig .tc := ⟨.hbm, 216, rfl⟩
abbrev main_v107 : Ref sig .tc := ⟨.hbm, 217, rfl⟩
abbrev main_v108 : Ref sig .tc := ⟨.hbm, 218, rfl⟩
abbrev main_v109 : Ref sig .tc := ⟨.hbm, 219, rfl⟩
abbrev main_v110 : Ref sig .tc := ⟨.hbm, 220, rfl⟩
abbrev main_v111 : Ref sig .tc := ⟨.hbm, 221, rfl⟩
abbrev main_v112 : Ref sig .tc := ⟨.hbm, 222, rfl⟩
abbrev main_v113 : Ref sig .tc := ⟨.hbm, 223, rfl⟩
abbrev main_v114 : Ref sig .tc := ⟨.hbm, 224, rfl⟩
abbrev main_v115 : Ref sig .tc := ⟨.hbm, 225, rfl⟩
abbrev main_v116 : Ref sig .tc := ⟨.hbm, 226, rfl⟩
abbrev main_v117 : Ref sig .tc := ⟨.hbm, 227, rfl⟩
abbrev main_v118 : Ref sig .tc := ⟨.hbm, 228, rfl⟩
abbrev main_v119 : Ref sig .tc := ⟨.hbm, 229, rfl⟩
abbrev main_v120 : Ref sig .tc := ⟨.hbm, 230, rfl⟩
abbrev main_v121 : Ref sig .tc := ⟨.hbm, 231, rfl⟩
abbrev main_v122 : Ref sig .tc := ⟨.hbm, 232, rfl⟩
abbrev main_v123 : Ref sig .tc := ⟨.hbm, 233, rfl⟩
abbrev main_v124 : Ref sig .tc := ⟨.hbm, 234, rfl⟩
abbrev main_v125 : Ref sig .tc := ⟨.hbm, 235, rfl⟩
abbrev main_v126 : Ref sig .tc := ⟨.hbm, 236, rfl⟩
abbrev main_v127 : Ref sig .tc := ⟨.hbm, 237, rfl⟩
abbrev main_v128 : Ref sig .tc := ⟨.hbm, 238, rfl⟩
abbrev main_v129 : Ref sig .tc := ⟨.hbm, 239, rfl⟩
abbrev main_v130 : Ref sig .tc := ⟨.hbm, 240, rfl⟩
abbrev main_v131 : Ref sig .tc := ⟨.hbm, 241, rfl⟩
abbrev main_v132 : Ref sig .tc := ⟨.hbm, 242, rfl⟩
abbrev main_v133 : Ref sig .tc := ⟨.hbm, 243, rfl⟩
abbrev main_v134 : Ref sig .tc := ⟨.hbm, 244, rfl⟩
abbrev main_v135 : Ref sig .tc := ⟨.hbm, 245, rfl⟩
abbrev main_v136 : Ref sig .tc := ⟨.hbm, 246, rfl⟩
abbrev main_v137 : Ref sig .tc := ⟨.hbm, 247, rfl⟩
abbrev main_call6_cst : Ref sig .tc := ⟨.hbm, 248, rfl⟩
abbrev main_call6_v16 : Ref sig .tc := ⟨.hbm, 249, rfl⟩
abbrev main_call6_cst_0 : Ref sig .tc := ⟨.hbm, 250, rfl⟩
abbrev main_call6_v17 : Ref sig .tc := ⟨.hbm, 251, rfl⟩
abbrev main_call6_cst_1 : Ref sig .tc := ⟨.hbm, 252, rfl⟩
abbrev main_call6_v18 : Ref sig .tc := ⟨.hbm, 253, rfl⟩
abbrev main_call6_cst_2 : Ref sig .tc := ⟨.hbm, 254, rfl⟩
abbrev main_call6_v19 : Ref sig .tc := ⟨.hbm, 255, rfl⟩
abbrev main_call6_cst_3 : Ref sig .tc := ⟨.hbm, 256, rfl⟩
abbrev main_call6_v20 : Ref sig .tc := ⟨.hbm, 257, rfl⟩
abbrev main_call6_cst_4 : Ref sig .tc := ⟨.hbm, 258, rfl⟩
abbrev main_call6_v21 : Ref sig .tc := ⟨.hbm, 259, rfl⟩
abbrev main_call6_cst_5 : Ref sig .tc := ⟨.hbm, 260, rfl⟩
abbrev main_call6_v22 : Ref sig .tc := ⟨.hbm, 261, rfl⟩
abbrev main_call6_cst_6 : Ref sig .tc := ⟨.hbm, 262, rfl⟩
abbrev main_call6_v23 : Ref sig .tc := ⟨.hbm, 263, rfl⟩
abbrev main_call6_cst_7 : Ref sig .tc := ⟨.hbm, 264, rfl⟩
abbrev main_call6_v24 : Ref sig .tc := ⟨.hbm, 265, rfl⟩
abbrev main_call6_cst_8 : Ref sig .tc := ⟨.hbm, 266, rfl⟩
abbrev main_call6_v25 : Ref sig .tc := ⟨.hbm, 267, rfl⟩
abbrev main_call6_cst_9 : Ref sig .tc := ⟨.hbm, 268, rfl⟩
abbrev main_call6_v26 : Ref sig .tc := ⟨.hbm, 269, rfl⟩
abbrev main_call6_cst_10 : Ref sig .tc := ⟨.hbm, 270, rfl⟩
abbrev main_call6_v27 : Ref sig .tc := ⟨.hbm, 271, rfl⟩
abbrev main_call6_cst_11 : Ref sig .tc := ⟨.hbm, 272, rfl⟩
abbrev main_call6_v28 : Ref sig .tc := ⟨.hbm, 273, rfl⟩
abbrev main_call6_cst_12 : Ref sig .tc := ⟨.hbm, 274, rfl⟩
abbrev main_call6_v29 : Ref sig .tc := ⟨.hbm, 275, rfl⟩
abbrev main_call6_cst_13 : Ref sig .tc := ⟨.hbm, 276, rfl⟩
abbrev main_call6_v30 : Ref sig .tc := ⟨.hbm, 277, rfl⟩
abbrev main_call6_cst_14 : Ref sig .tc := ⟨.hbm, 278, rfl⟩
abbrev main_call6_v31 : Ref sig .tc := ⟨.hbm, 279, rfl⟩
abbrev main_v138 : Ref sig .tc := ⟨.hbm, 280, rfl⟩
abbrev main_v139 : Ref sig .tc := ⟨.hbm, 281, rfl⟩
abbrev main_v140 : Ref sig .tc := ⟨.hbm, 282, rfl⟩
abbrev main_v141 : Ref sig .tc := ⟨.hbm, 283, rfl⟩
abbrev main_v142 : Ref sig .tc := ⟨.hbm, 284, rfl⟩
abbrev main_v143 : Ref sig .tc := ⟨.hbm, 285, rfl⟩
abbrev main_v144 : Ref sig .tc := ⟨.hbm, 286, rfl⟩
abbrev main_v145 : Ref sig .tc := ⟨.hbm, 287, rfl⟩
abbrev main_v146 : Ref sig .tc := ⟨.hbm, 288, rfl⟩
abbrev main_v147 : Ref sig .tc := ⟨.hbm, 289, rfl⟩
abbrev main_v148 : Ref sig .tc := ⟨.hbm, 290, rfl⟩
abbrev main_v149 : Ref sig .tc := ⟨.hbm, 291, rfl⟩
abbrev main_v150 : Ref sig .tc := ⟨.hbm, 292, rfl⟩
abbrev main_v151 : Ref sig .tc := ⟨.hbm, 293, rfl⟩
abbrev main_v152 : Ref sig .tc := ⟨.hbm, 294, rfl⟩
abbrev main_v153 : Ref sig .tc := ⟨.hbm, 295, rfl⟩
abbrev main_v154 : Ref sig .tc := ⟨.hbm, 296, rfl⟩
abbrev main_v155 : Ref sig .tc := ⟨.hbm, 297, rfl⟩
abbrev main_v156 : Ref sig .tc := ⟨.hbm, 298, rfl⟩
abbrev main_v157 : Ref sig .tc := ⟨.hbm, 299, rfl⟩
abbrev main_v158 : Ref sig .tc := ⟨.hbm, 300, rfl⟩
abbrev main_v159 : Ref sig .tc := ⟨.hbm, 301, rfl⟩
abbrev main_v160 : Ref sig .tc := ⟨.hbm, 302, rfl⟩
abbrev main_v161 : Ref sig .tc := ⟨.hbm, 303, rfl⟩
abbrev main_v162 : Ref sig .tc := ⟨.hbm, 304, rfl⟩
abbrev main_v163 : Ref sig .tc := ⟨.hbm, 305, rfl⟩
abbrev main_v164 : Ref sig .tc := ⟨.hbm, 306, rfl⟩
abbrev main_v165 : Ref sig .tc := ⟨.hbm, 307, rfl⟩
abbrev main_v166 : Ref sig .tc := ⟨.hbm, 308, rfl⟩
abbrev main_v167 : Ref sig .tc := ⟨.hbm, 309, rfl⟩
abbrev main_v168 : Ref sig .tc := ⟨.hbm, 310, rfl⟩
abbrev main_v169 : Ref sig .tc := ⟨.hbm, 311, rfl⟩
abbrev main_v170 : Ref sig .tc := ⟨.hbm, 312, rfl⟩
abbrev main_call7_cst : Ref sig .tc := ⟨.hbm, 313, rfl⟩
abbrev main_call7_v16 : Ref sig .tc := ⟨.hbm, 314, rfl⟩
abbrev main_call7_cst_0 : Ref sig .tc := ⟨.hbm, 315, rfl⟩
abbrev main_call7_v17 : Ref sig .tc := ⟨.hbm, 316, rfl⟩
abbrev main_call7_cst_1 : Ref sig .tc := ⟨.hbm, 317, rfl⟩
abbrev main_call7_v18 : Ref sig .tc := ⟨.hbm, 318, rfl⟩
abbrev main_call7_cst_2 : Ref sig .tc := ⟨.hbm, 319, rfl⟩
abbrev main_call7_v19 : Ref sig .tc := ⟨.hbm, 320, rfl⟩
abbrev main_call7_cst_3 : Ref sig .tc := ⟨.hbm, 321, rfl⟩
abbrev main_call7_v20 : Ref sig .tc := ⟨.hbm, 322, rfl⟩
abbrev main_call7_cst_4 : Ref sig .tc := ⟨.hbm, 323, rfl⟩
abbrev main_call7_v21 : Ref sig .tc := ⟨.hbm, 324, rfl⟩
abbrev main_call7_cst_5 : Ref sig .tc := ⟨.hbm, 325, rfl⟩
abbrev main_call7_v22 : Ref sig .tc := ⟨.hbm, 326, rfl⟩
abbrev main_call7_cst_6 : Ref sig .tc := ⟨.hbm, 327, rfl⟩
abbrev main_call7_v23 : Ref sig .tc := ⟨.hbm, 328, rfl⟩
abbrev main_call7_cst_7 : Ref sig .tc := ⟨.hbm, 329, rfl⟩
abbrev main_call7_v24 : Ref sig .tc := ⟨.hbm, 330, rfl⟩
abbrev main_call7_cst_8 : Ref sig .tc := ⟨.hbm, 331, rfl⟩
abbrev main_call7_v25 : Ref sig .tc := ⟨.hbm, 332, rfl⟩
abbrev main_call7_cst_9 : Ref sig .tc := ⟨.hbm, 333, rfl⟩
abbrev main_call7_v26 : Ref sig .tc := ⟨.hbm, 334, rfl⟩
abbrev main_call7_cst_10 : Ref sig .tc := ⟨.hbm, 335, rfl⟩
abbrev main_call7_v27 : Ref sig .tc := ⟨.hbm, 336, rfl⟩
abbrev main_call7_cst_11 : Ref sig .tc := ⟨.hbm, 337, rfl⟩
abbrev main_call7_v28 : Ref sig .tc := ⟨.hbm, 338, rfl⟩
abbrev main_call7_cst_12 : Ref sig .tc := ⟨.hbm, 339, rfl⟩
abbrev main_call7_v29 : Ref sig .tc := ⟨.hbm, 340, rfl⟩
abbrev main_call7_cst_13 : Ref sig .tc := ⟨.hbm, 341, rfl⟩
abbrev main_call7_v30 : Ref sig .tc := ⟨.hbm, 342, rfl⟩
abbrev main_call7_cst_14 : Ref sig .tc := ⟨.hbm, 343, rfl⟩
abbrev main_call7_v31 : Ref sig .tc := ⟨.hbm, 344, rfl⟩
abbrev main_v171 : Ref sig .tc := ⟨.hbm, 345, rfl⟩
abbrev main_v172 : Ref sig .tc := ⟨.hbm, 346, rfl⟩
abbrev main_v173 : Ref sig .tc := ⟨.hbm, 347, rfl⟩
abbrev main_v174 : Ref sig .tc := ⟨.hbm, 348, rfl⟩
abbrev main_v175 : Ref sig .tc := ⟨.hbm, 349, rfl⟩
abbrev main_v176 : Ref sig .tc := ⟨.hbm, 350, rfl⟩
abbrev main_v177 : Ref sig .tc := ⟨.hbm, 351, rfl⟩
abbrev main_v178 : Ref sig .tc := ⟨.hbm, 352, rfl⟩
abbrev main_v179 : Ref sig .tc := ⟨.hbm, 353, rfl⟩
abbrev main_c : Ref sig .tc := ⟨.hbm, 354, rfl⟩
abbrev main_call8_v0 : Ref sig .tc := ⟨.hbm, 355, rfl⟩
abbrev main_v180 : Ref sig .tc := ⟨.hbm, 356, rfl⟩
abbrev main_v181 : Ref sig .tc := ⟨.hbm, 357, rfl⟩
abbrev main_v182 : Ref sig .tc := ⟨.hbm, 358, rfl⟩
abbrev main_v183 : Ref sig .tc := ⟨.hbm, 359, rfl⟩
abbrev main_v184 : Ref sig .tc := ⟨.hbm, 360, rfl⟩
abbrev main_v185_0 : Ref sig .tc := ⟨.hbm, 361, rfl⟩
abbrev main_v185_1 : Ref sig .tc := ⟨.hbm, 362, rfl⟩
abbrev main_v186 : Ref sig .tc := ⟨.hbm, 363, rfl⟩
abbrev main_v187 : Ref sig .tc := ⟨.hbm, 364, rfl⟩
abbrev main_cst : Ref sig .tc := ⟨.hbm, 365, rfl⟩
abbrev main_v188 : Ref sig .tc := ⟨.hbm, 366, rfl⟩
abbrev main_cst_0 : Ref sig .tc := ⟨.hbm, 367, rfl⟩
abbrev main_v189 : Ref sig .tc := ⟨.hbm, 368, rfl⟩
abbrev main_v190 : Ref sig .tc := ⟨.hbm, 369, rfl⟩
abbrev main_v191 : Ref sig .tc := ⟨.hbm, 370, rfl⟩
abbrev main_v192 : Ref sig .tc := ⟨.hbm, 371, rfl⟩
abbrev main_cst_1 : Ref sig .tc := ⟨.hbm, 372, rfl⟩
abbrev main_v193 : Ref sig .tc := ⟨.hbm, 373, rfl⟩
abbrev main_cst_2 : Ref sig .tc := ⟨.hbm, 374, rfl⟩
abbrev main_v194 : Ref sig .tc := ⟨.hbm, 375, rfl⟩
abbrev main_v195 : Ref sig .tc := ⟨.hbm, 376, rfl⟩
abbrev main_v196 : Ref sig .tc := ⟨.hbm, 377, rfl⟩
abbrev main_v197 : Ref sig .tc := ⟨.hbm, 378, rfl⟩
abbrev main_cst_3 : Ref sig .tc := ⟨.hbm, 379, rfl⟩
abbrev main_v198 : Ref sig .tc := ⟨.hbm, 380, rfl⟩
abbrev main_v199 : Ref sig .tc := ⟨.hbm, 381, rfl⟩
abbrev main_v200 : Ref sig .tc := ⟨.hbm, 382, rfl⟩
abbrev main_v201 : Ref sig .tc := ⟨.hbm, 383, rfl⟩
abbrev main_v202 : Ref sig .tc := ⟨.hbm, 384, rfl⟩
abbrev main_v203 : Ref sig .tc := ⟨.hbm, 385, rfl⟩
abbrev main_v204 : Ref sig .tc := ⟨.hbm, 386, rfl⟩
abbrev main_v205 : Ref sig .tc := ⟨.hbm, 387, rfl⟩
abbrev main_v206 : Ref sig .tc := ⟨.hbm, 388, rfl⟩
abbrev main_v207 : Ref sig .tc := ⟨.hbm, 389, rfl⟩
abbrev main_v208 : Ref sig .tc := ⟨.hbm, 390, rfl⟩
abbrev main_v209 : Ref sig .tc := ⟨.hbm, 391, rfl⟩
abbrev main_v210_0 : Ref sig .tc := ⟨.hbm, 392, rfl⟩
abbrev main_v210_1 : Ref sig .tc := ⟨.hbm, 393, rfl⟩
abbrev main_v210_2 : Ref sig .tc := ⟨.hbm, 394, rfl⟩
abbrev main_v210_3 : Ref sig .tc := ⟨.hbm, 395, rfl⟩
abbrev main_v211 : Ref sig .tc := ⟨.hbm, 396, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg10_0 : Ref sig .tc := ⟨.vmem, 35, rfl⟩
abbrev cc2_stg11_0 : Ref sig .tc := ⟨.vmem, 36, rfl⟩
abbrev cc2_stg12_0 : Ref sig .tc := ⟨.vmem, 37, rfl⟩
abbrev cc2_stg12_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem4_1 : DmaSem sig := 28
abbrev cc2_sem5_0 : DmaSem sig := 29
abbrev cc2_sem5_1 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem10_0 : DmaSem sig := 35
abbrev cc2_sem11_0 : DmaSem sig := 36
abbrev cc2_sem12_0 : DmaSem sig := 37
abbrev cc2_sem12_1 : DmaSem sig := 38

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 1 → Memref sig .tc .vmem S4x128x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S16x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4x128x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4x128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4x128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S4x128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨2, ![4, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x256x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x256x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x128x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x128x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x128x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x128x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 1 → Memref sig .tc .vmem S256x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S256x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S256x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S256x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S256x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 1 → Memref sig .tc .vmem S256x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false]

abbrev stage2_12 : Fin 2 → Memref sig .tc .vmem S1x256x512 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true, true]
-- ==== KernelIdeal.lean ====
variable {F : FTy → Type} [FloatOps F] [Named F]
def κ : String → Option EReal := fun
  | "far" => some ⊤
  | _ => none
-- ==== ReferenceIdeal.lean ====
abbrev S4x256x2048 : Shape := ⟨3, ![4, 256, 2048]⟩
abbrev S4x128x16 : Shape := ⟨3, ![4, 128, 16]⟩
abbrev S256x64x3 : Shape := ⟨3, ![256, 64, 3]⟩
abbrev S256 : Shape := ⟨1, ![256]⟩
abbrev S256x4x1 : Shape := ⟨3, ![256, 4, 1]⟩
abbrev S32x8x16 : Shape := ⟨3, ![32, 8, 16]⟩
abbrev S4x16x128 : Shape := ⟨3, ![4, 16, 128]⟩
abbrev S_ : Shape := ⟨0, ![]⟩
abbrev S4x256x2050 : Shape := ⟨3, ![4, 256, 2050]⟩
abbrev S4x64x64x3 : Shape := ⟨4, ![4, 64, 64, 3]⟩
abbrev S4x4x64x2048 : Shape := ⟨4, ![4, 4, 64, 2048]⟩
abbrev S4x64x64x1 : Shape := ⟨4, ![4, 64, 64, 1]⟩
abbrev S4x64x64 : Shape := ⟨3, ![4, 64, 64]⟩
abbrev S4x64x4x2048 : Shape := ⟨4, ![4, 64, 4, 2048]⟩
abbrev S1x256x1 : Shape := ⟨3, ![1, 256, 1]⟩
abbrev S4x64x4x1 : Shape := ⟨4, ![4, 64, 4, 1]⟩
abbrev S4x4x4x128 : Shape := ⟨4, ![4, 4, 4, 128]⟩
abbrev S4x64x4 : Shape := ⟨3, ![4, 64, 4]⟩
abbrev S4x64x4x128 : Shape := ⟨4, ![4, 64, 4, 128]⟩
abbrev S4x4x64x128 : Shape := ⟨4, ![4, 4, 64, 128]⟩
abbrev S4x256x128 : Shape := ⟨3, ![4, 256, 128]⟩
abbrev S4x2048 : Shape := ⟨2, ![4, 2048]⟩
abbrev S4x128 : Shape := ⟨2, ![4, 128]⟩
abbrev S4x2048x128 : Shape := ⟨3, ![4, 2048, 128]⟩
abbrev S4x2048x1 : Shape := ⟨3, ![4, 2048, 1]⟩
abbrev S4x1x128 : Shape := ⟨3, ![4, 1, 128]⟩
abbrev S4x2048x6 : Shape := ⟨3, ![4, 2048, 6]⟩
abbrev S4x128x256 : Shape := ⟨3, ![4, 128, 256]⟩
abbrev S4x1x128x256 : Shape := ⟨4, ![4, 1, 128, 256]⟩
abbrev S4x2048x6x1 : Shape := ⟨4, ![4, 2048, 6, 1]⟩
abbrev S1 : Shape := ⟨1, ![1]⟩
abbrev S1x1x1x1 : Shape := ⟨4, ![1, 1, 1, 1]⟩
abbrev S4x2048x6x256 : Shape := ⟨4, ![4, 2048, 6, 256]⟩
abbrev S4x2048x256 : Shape := ⟨3, ![4, 2048, 256]⟩
abbrev S4x2048x1x256 : Shape := ⟨4, ![4, 2048, 1, 256]⟩
abbrev S4x2048x6x512 : Shape := ⟨4, ![4, 2048, 6, 512]⟩
abbrev S4x2048x6x32x16 : Shape := ⟨5, ![4, 2048, 6, 32, 16]⟩
abbrev S32x8x4x2048x6 : Shape := ⟨5, ![32, 8, 4, 2048, 6]⟩
abbrev S4x2048x6x32x8 : Shape := ⟨5, ![4, 2048, 6, 32, 8]⟩
abbrev S1x1x1x256 : Shape := ⟨4, ![1, 1, 1, 256]⟩

abbrev nBuf : Space → Nat
  | .hbm => 279
  | .vmem => 0
  | .smem => 0
  | _ => 0

abbrev hbmTy0_0 (i : Nat) : BufTy := match i % 128 with
  | 0 => ⟨S4x256x2048, .f32⟩
  | 1 => ⟨S4x128x16, .f32⟩
  | 2 => ⟨S256x64x3, .f32⟩
  | 3 => ⟨S256, .f32⟩
  | 4 => ⟨S256, .f32⟩
  | 5 => ⟨S256, .f32⟩
  | 6 => ⟨S256x4x1, .f32⟩
  | 7 => ⟨S256, .f32⟩
  | 8 => ⟨S256, .f32⟩
  | 9 => ⟨S256, .f32⟩
  | 10 => ⟨S32x8x16, .f32⟩
  | 11 => ⟨S256, .f32⟩
  | 12 => ⟨S32x8x16, .f32⟩
  | 13 => ⟨S256, .f32⟩
  | 14 => ⟨S4x16x128, .f32⟩
  | 15 => ⟨S_, .i32⟩
  | 16 => ⟨S_, .f32⟩
  | 17 => ⟨S4x256x2050, .f32⟩
  | 18 => ⟨S4x64x64x3, .f32⟩
  | 19 => ⟨S4x256x2048, .f32⟩
  | 20 => ⟨S4x4x64x2048, .f32⟩
  | 21 => ⟨S4x64x64x1, .f32⟩
  | 22 => ⟨S4x64x64, .f32⟩
  | 23 => ⟨S4x64x4x2048, .f32⟩
  | 24 => ⟨S4x4x64x2048, .f32⟩
  | 25 => ⟨S4x256x2048, .f32⟩
  | 26 => ⟨S4x256x2048, .f32⟩
  | 27 => ⟨S4x4x64x2048, .f32⟩
  | 28 => ⟨S4x64x64x1, .f32⟩
  | 29 => ⟨S4x64x64, .f32⟩
  | 30 => ⟨S4x64x4x2048, .f32⟩
  | 31 => ⟨S4x4x64x2048, .f32⟩
  | 32 => ⟨S4x256x2048, .f32⟩
  | 33 => ⟨S4x256x2048, .f32⟩
  | 34 => ⟨S4x256x2048, .f32⟩
  | 35 => ⟨S4x4x64x2048, .f32⟩
  | 36 => ⟨S4x64x64x1, .f32⟩
  | 37 => ⟨S4x64x64, .f32⟩
  | 38 => ⟨S4x64x4x2048, .f32⟩
  | 39 => ⟨S4x4x64x2048, .f32⟩
  | 40 => ⟨S4x256x2048, .f32⟩
  | 41 => ⟨S4x256x2048, .f32⟩
  | 42 => ⟨S1x256x1, .f32⟩
  | 43 => ⟨S4x256x2048, .f32⟩
  | 44 => ⟨S4x256x2048, .f32⟩
  | 45 => ⟨S_, .f32⟩
  | 46 => ⟨S256, .f32⟩
  | 47 => ⟨S1x256x1, .f32⟩
  | 48 => ⟨S_, .f32⟩
  | 49 => ⟨S1x256x1, .f32⟩
  | 50 => ⟨S1x256x1, .f32⟩
  | 51 => ⟨S_, .i32⟩
  | 52 => ⟨S_, .f32⟩
  | 53 => ⟨S256, .f32⟩
  | 54 => ⟨S1x256x1, .f32⟩
  | 55 => ⟨S_, .f32⟩
  | 56 => ⟨S1x256x1, .f32⟩
  | 57 => ⟨S1x256x1, .f32⟩
  | 58 => ⟨S4x256x2048, .f32⟩
  | 59 => ⟨S4x256x2048, .f32⟩
  | 60 => ⟨S4x256x2048, .f32⟩
  | 61 => ⟨S_, .f32⟩
  | 62 => ⟨S_, .f32⟩
  | 63 => ⟨S_, .f32⟩
  | 64 => ⟨S_, .f32⟩
  | 65 => ⟨S256, .f32⟩
  | 66 => ⟨S1x256x1, .f32⟩
  | 67 => ⟨S1x256x1, .f32⟩
  | 68 => ⟨S1x256x1, .f32⟩
  | 69 => ⟨S_, .f32⟩
  | 70 => ⟨S_, .i1⟩
  | 71 => ⟨S_, .f32⟩
  | 72 => ⟨S_, .f32⟩
  | 73 => ⟨S1x256x1, .f32⟩
  | 74 => ⟨S1x256x1, .f32⟩
  | 75 => ⟨S4x256x2048, .f32⟩
  | 76 => ⟨S4x256x2048, .f32⟩
  | 77 => ⟨S_, .f32⟩
  | 78 => ⟨S1x256x1, .f32⟩
  | 79 => ⟨S1x256x1, .f32⟩
  | 80 => ⟨S1x256x1, .f32⟩
  | 81 => ⟨S4x256x2048, .f32⟩
  | 82 => ⟨S4x256x2048, .f32⟩
  | 83 => ⟨S1x256x1, .f32⟩
  | 84 => ⟨S4x256x2048, .f32⟩
  | 85 => ⟨S4x256x2048, .f32⟩
  | 86 => ⟨S1x256x1, .f32⟩
  | 87 => ⟨S4x256x2048, .f32⟩
  | 88 => ⟨S4x256x2048, .f32⟩
  | 89 => ⟨S_, .f32⟩
  | 90 => ⟨S4x256x2048, .f32⟩
  | 91 => ⟨S4x256x2048, .f32⟩
  | 92 => ⟨S4x64x4x1, .f32⟩
  | 93 => ⟨S4x4x4x128, .f32⟩
  | 94 => ⟨S4x64x4, .f32⟩
  | 95 => ⟨S4x64x4x128, .f32⟩
  | 96 => ⟨S4x4x64x128, .f32⟩
  | 97 => ⟨S4x256x128, .f32⟩
  | 98 => ⟨S1x256x1, .f32⟩
  | 99 => ⟨S4x256x128, .f32⟩
  | 100 => ⟨S4x256x128, .f32⟩
  | 101 => ⟨S_, .f32⟩
  | 102 => ⟨S256, .f32⟩
  | 103 => ⟨S1x256x1, .f32⟩
  | 104 => ⟨S_, .f32⟩
  | 105 => ⟨S1x256x1, .f32⟩
  | 106 => ⟨S1x256x1, .f32⟩
  | 107 => ⟨S_, .i32⟩
  | 108 => ⟨S_, .f32⟩
  | 109 => ⟨S256, .f32⟩
  | 110 => ⟨S1x256x1, .f32⟩
  | 111 => ⟨S_, .f32⟩
  | 112 => ⟨S1x256x1, .f32⟩
  | 113 => ⟨S1x256x1, .f32⟩
  | 114 => ⟨S4x256x128, .f32⟩
  | 115 => ⟨S4x256x128, .f32⟩
  | 116 => ⟨S4x256x128, .f32⟩
  | 117 => ⟨S_, .f32⟩
  | 118 => ⟨S_, .f32⟩
  | 119 => ⟨S_, .f32⟩
  | 120 => ⟨S_, .f32⟩
  | 121 => ⟨S256, .f32⟩
  | 122 => ⟨S1x256x1, .f32⟩
  | 123 => ⟨S1x256x1, .f32⟩
  | 124 => ⟨S1x256x1, .f32⟩
  | 125 => ⟨S_, .f32⟩
  | 126 => ⟨S_, .i1⟩
  | 127 => ⟨S_, .f32⟩
  | _ => ⟨S4x256x2048, .f32⟩

abbrev hbmTy0_1 (i : Nat) : BufTy := match i % 128 with
  | 0 => ⟨S_, .f32⟩
  | 1 => ⟨S1x256x1, .f32⟩
  | 2 => ⟨S1x256x1, .f32⟩
  | 3 => ⟨S4x256x128, .f32⟩
  | 4 => ⟨S4x256x128, .f32⟩
  | 5 => ⟨S_, .f32⟩
  | 6 => ⟨S1x256x1, .f32⟩
  | 7 => ⟨S1x256x1, .f32⟩
  | 8 => ⟨S1x256x1, .f32⟩
  | 9 => ⟨S4x256x128, .f32⟩
  | 10 => ⟨S4x256x128, .f32⟩
  | 11 => ⟨S1x256x1, .f32⟩
  | 12 => ⟨S4x256x128, .f32⟩
  | 13 => ⟨S4x256x128, .f32⟩
  | 14 => ⟨S1x256x1, .f32⟩
  | 15 => ⟨S4x256x128, .f32⟩
  | 16 => ⟨S4x256x128, .f32⟩
  | 17 => ⟨S_, .f32⟩
  | 18 => ⟨S4x256x128, .f32⟩
  | 19 => ⟨S4x256x128, .f32⟩
  | 20 => ⟨S4x256x2048, .f32⟩
  | 21 => ⟨S_, .f32⟩
  | 22 => ⟨S4x2048, .f32⟩
  | 23 => ⟨S4x256x128, .f32⟩
  | 24 => ⟨S_, .f32⟩
  | 25 => ⟨S4x128, .f32⟩
  | 26 => ⟨S4x2048x128, .f32⟩
  | 27 => ⟨S4x2048x1, .f32⟩
  | 28 => ⟨S_, .f32⟩
  | 29 => ⟨S4x2048x128, .f32⟩
  | 30 => ⟨S4x2048x128, .f32⟩
  | 31 => ⟨S4x2048x128, .f32⟩
  | 32 => ⟨S4x2048x128, .f32⟩
  | 33 => ⟨S4x1x128, .f32⟩
  | 34 => ⟨S4x2048x128, .f32⟩
  | 35 => ⟨S4x2048x128, .f32⟩
  | 36 => ⟨S4x2048x128, .f32⟩
  | 37 => ⟨S4x2048x6, .f32⟩
  | 38 => ⟨S4x2048x6, .i32⟩
  | 39 => ⟨S4x128x256, .f32⟩
  | 40 => ⟨S4x1x128x256, .f32⟩
  | 41 => ⟨S4x2048x6x1, .i32⟩
  | 42 => ⟨S_, .i32⟩
  | 43 => ⟨S4x2048x6x1, .i32⟩
  | 44 => ⟨S4x2048x6x1, .i1⟩
  | 45 => ⟨S_, .i32⟩
  | 46 => ⟨S4x2048x6x1, .i32⟩
  | 47 => ⟨S4x2048x6x1, .i32⟩
  | 48 => ⟨S4x2048x6x1, .i32⟩
  | 49 => ⟨S4x128x256, .f32⟩
  | 50 => ⟨S1, .i32⟩
  | 51 => ⟨S_, .i32⟩
  | 52 => ⟨S4x2048x6x1, .i32⟩
  | 53 => ⟨S4x2048x6x1, .i1⟩
  | 54 => ⟨S1x1x1x1, .i32⟩
  | 55 => ⟨S4x2048x6x1, .i32⟩
  | 56 => ⟨S4x2048x6x1, .i1⟩
  | 57 => ⟨S4x2048x6x1, .i1⟩
  | 58 => ⟨S_, .i1⟩
  | 59 => ⟨S4x2048x6, .i1⟩
  | 60 => ⟨S4x2048x6x256, .f32⟩
  | 61 => ⟨S4x2048x6x256, .i1⟩
  | 62 => ⟨S_, .f32⟩
  | 63 => ⟨S4x2048x6x256, .f32⟩
  | 64 => ⟨S4x2048x6x256, .f32⟩
  | 65 => ⟨S4x2048x256, .f32⟩
  | 66 => ⟨S4x2048x1x256, .f32⟩
  | 67 => ⟨S4x2048x6x256, .f32⟩
  | 68 => ⟨S4x2048x6x256, .f32⟩
  | 69 => ⟨S4x2048x6x256, .f32⟩
  | 70 => ⟨S4x2048x6x512, .f32⟩
  | 71 => ⟨S4x2048x6x32x16, .f32⟩
  | 72 => ⟨S32x8x4x2048x6, .f32⟩
  | 73 => ⟨S4x2048x6x32x8, .f32⟩
  | 74 => ⟨S4x2048x6x256, .f32⟩
  | 75 => ⟨S1x1x1x256, .f32⟩
  | 76 => ⟨S4x2048x6x256, .f32⟩
  | 77 => ⟨S4x2048x6x256, .f32⟩
  | 78 => ⟨S_, .f32⟩
  | 79 => ⟨S4x2048x256, .f32⟩
  | 80 => ⟨S4x256x2048, .f32⟩
  | 81 => ⟨S4x256x2048, .f32⟩
  | 82 => ⟨S_, .f32⟩
  | 83 => ⟨S4x256x2048, .f32⟩
  | 84 => ⟨S4x256x2048, .f32⟩
  | 85 => ⟨S4x256x2048, .f32⟩
  | 86 => ⟨S_, .f32⟩
  | 87 => ⟨S4x2048, .f32⟩
  | 88 => ⟨S4x256x128, .f32⟩
  | 89 => ⟨S_, .f32⟩
  | 90 => ⟨S4x128, .f32⟩
  | 91 => ⟨S4x2048x128, .f32⟩
  | 92 => ⟨S4x2048x1, .f32⟩
  | 93 => ⟨S_, .f32⟩
  | 94 => ⟨S4x2048x128, .f32⟩
  | 95 => ⟨S4x2048x128, .f32⟩
  | 96 => ⟨S4x2048x128, .f32⟩
  | 97 => ⟨S4x2048x128, .f32⟩
  | 98 => ⟨S4x1x128, .f32⟩
  | 99 => ⟨S4x2048x128, .f32⟩
  | 100 => ⟨S4x2048x128, .f32⟩
  | 101 => ⟨S4x2048x128, .f32⟩
  | 102 => ⟨S4x2048x6, .f32⟩
  | 103 => ⟨S4x2048x6, .i32⟩
  | 104 => ⟨S4x128x256, .f32⟩
  | 105 => ⟨S4x1x128x256, .f32⟩
  | 106 => ⟨S4x2048x6x1, .i32⟩
  | 107 => ⟨S_, .i32⟩
  | 108 => ⟨S4x2048x6x1, .i32⟩
  | 109 => ⟨S4x2048x6x1, .i1⟩
  | 110 => ⟨S_, .i32⟩
  | 111 => ⟨S4x2048x6x1, .i32⟩
  | 112 => ⟨S4x2048x6x1, .i32⟩
  | 113 => ⟨S4x2048x6x1, .i32⟩
  | 114 => ⟨S4x128x256, .f32⟩
  | 115 => ⟨S1, .i32⟩
  | 116 => ⟨S_, .i32⟩
  | 117 => ⟨S4x2048x6x1, .i32⟩
  | 118 => ⟨S4x2048x6x1, .i1⟩
  | 119 => ⟨S1x1x1x1, .i32⟩
  | 120 => ⟨S4x2048x6x1, .i32⟩
  | 121 => ⟨S4x2048x6x1, .i1⟩
  | 122 => ⟨S4x2048x6x1, .i1⟩
  | 123 => ⟨S_, .i1⟩
  | 124 => ⟨S4x2048x6, .i1⟩
  | 125 => ⟨S4x2048x6x256, .f32⟩
  | 126 => ⟨S4x2048x6x256, .i1⟩
  | 127 => ⟨S_, .f32⟩
  | _ => ⟨S4x256x2048, .f32⟩

abbrev hbmTy0_2 (i : Nat) : BufTy := match i % 128 with
  | 0 => ⟨S4x2048x6x256, .f32⟩
  | 1 => ⟨S4x2048x6x256, .f32⟩
  | 2 => ⟨S4x2048x256, .f32⟩
  | 3 => ⟨S4x2048x1x256, .f32⟩
  | 4 => ⟨S4x2048x6x256, .f32⟩
  | 5 => ⟨S4x2048x6x256, .f32⟩
  | 6 => ⟨S4x2048x6x256, .f32⟩
  | 7 => ⟨S4x2048x6x512, .f32⟩
  | 8 => ⟨S4x2048x6x32x16, .f32⟩
  | 9 => ⟨S32x8x4x2048x6, .f32⟩
  | 10 => ⟨S4x2048x6x32x8, .f32⟩
  | 11 => ⟨S4x2048x6x256, .f32⟩
  | 12 => ⟨S1x1x1x256, .f32⟩
  | 13 => ⟨S4x2048x6x256, .f32⟩
  | 14 => ⟨S4x2048x6x256, .f32⟩
  | 15 => ⟨S_, .f32⟩
  | 16 => ⟨S4x2048x256, .f32⟩
  | 17 => ⟨S4x256x2048, .f32⟩
  | 18 => ⟨S4x256x2048, .f32⟩
  | 19 => ⟨S_, .f32⟩
  | 20 => ⟨S4x256x2048, .f32⟩
  | 21 => ⟨S4x256x2048, .f32⟩
  | 22 => ⟨S4x256x2048, .f32⟩
  | _ => ⟨S4x256x2048, .f32⟩

abbrev hbmTy (i : Nat) : BufTy := match i / 128 with
  | 0 => hbmTy0_0 i
  | 1 => hbmTy0_1 i
  | 2 => hbmTy0_2 i
  | _ => ⟨S4x256x2048, .f32⟩

abbrev bufTy : (tb : Table) → Fin (tcTables nBuf tb) → BufTy
  | .hbm, ⟨i, _⟩ => hbmTy i
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst : Ref sig .tc := ⟨.hbm, 45, rfl⟩
abbrev main_v29 : Ref sig .tc := ⟨.hbm, 46, rfl⟩
abbrev main_v30 : Ref sig .tc := ⟨.hbm, 47, rfl⟩
abbrev main_cst_0 : Ref sig .tc := ⟨.hbm, 48, rfl⟩
abbrev main_v31 : Ref sig .tc := ⟨.hbm, 49, rfl⟩
abbrev main_v32 : Ref sig .tc := ⟨.hbm, 50, rfl⟩
abbrev main_c_1 : Ref sig .tc := ⟨.hbm, 51, rfl⟩
abbrev main_call1_cst : Ref sig .tc := ⟨.hbm, 52, rfl⟩
abbrev main_call1_v0 : Ref sig .tc := ⟨.hbm, 53, rfl⟩
abbrev main_call1_v1 : Ref sig .tc := ⟨.hbm, 54, rfl⟩
abbrev main_call1_cst_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_v6 : Ref sig .tc := ⟨.hbm, 60, rfl⟩
abbrev main_call1_v7 : Ref sig .tc := ⟨.hbm, 61, rfl⟩
abbrev main_call1_cst_1 : Ref sig .tc := ⟨.hbm, 62, rfl⟩
abbrev main_call1_v8 : Ref sig .tc := ⟨.hbm, 63, rfl⟩
abbrev main_call1_cst_2 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_v12 : Ref sig .tc := ⟨.hbm, 68, rfl⟩
abbrev main_call1_cst_3 : Ref sig .tc := ⟨.hbm, 69, rfl⟩
abbrev main_call1_v13 : Ref sig .tc := ⟨.hbm, 70, rfl⟩
abbrev main_call1_cst_4 : Ref sig .tc := ⟨.hbm, 71, rfl⟩
abbrev main_call1_call0_v0 : Ref sig .tc := ⟨.hbm, 72, rfl⟩
abbrev main_call1_call0_v1 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_cst_2 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_call2_cst : Ref sig .tc := ⟨.hbm, 89, rfl⟩
abbrev main_call2_v0 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_cst_3 : Ref sig .tc := ⟨.hbm, 101, rfl⟩
abbrev main_v57 : Ref sig .tc := ⟨.hbm, 102, rfl⟩
abbrev main_v58 : Ref sig .tc := ⟨.hbm, 103, rfl⟩
abbrev main_cst_4 : Ref sig .tc := ⟨.hbm, 104, rfl⟩
abbrev main_v59 : Ref sig .tc := ⟨.hbm, 105, rfl⟩
abbrev main_v60 : Ref sig .tc := ⟨.hbm, 106, rfl⟩
abbrev main_c_5 : Ref sig .tc := ⟨.hbm, 107, rfl⟩
abbrev main_call3_cst : Ref sig .tc := ⟨.hbm, 108, rfl⟩
abbrev main_call3_v0 : Ref sig .tc := ⟨.hbm, 109, rfl⟩
abbrev main_call3_v1 : Ref sig .tc := ⟨.hbm, 110, rfl⟩
abbrev main_call3_cst_0 : Ref sig .tc := ⟨.hbm, 111, rfl⟩
abbrev main_call3_v2 : Ref sig .tc := ⟨.hbm, 112, rfl⟩
abbrev main_call3_v3 : Ref sig .tc := ⟨.hbm, 113, rfl⟩
abbrev main_call3_v4 : Ref sig .tc := ⟨.hbm, 114, rfl⟩
abbrev main_call3_v5 : Ref sig .tc := ⟨.hbm, 115, rfl⟩
abbrev main_call3_v6 : Ref sig .tc := ⟨.hbm, 116, rfl⟩
abbrev main_call3_v7 : Ref sig .tc := ⟨.hbm, 117, rfl⟩
abbrev main_call3_cst_1 : Ref sig .tc := ⟨.hbm, 118, rfl⟩
abbrev main_call3_v8 : Ref sig .tc := ⟨.hbm, 119, rfl⟩
abbrev main_call3_cst_2 : Ref sig .tc := ⟨.hbm, 120, rfl⟩
abbrev main_call3_v9 : Ref sig .tc := ⟨.hbm, 121, rfl⟩
abbrev main_call3_v10 : Ref sig .tc := ⟨.hbm, 122, rfl⟩
abbrev main_call3_v11 : Ref sig .tc := ⟨.hbm, 123, rfl⟩
abbrev main_call3_v12 : Ref sig .tc := ⟨.hbm, 124, rfl⟩
abbrev main_call3_cst_3 : Ref sig .tc := ⟨.hbm, 125, rfl⟩
abbrev main_call3_v13 : Ref sig .tc := ⟨.hbm, 126, rfl⟩
abbrev main_call3_cst_4 : Ref sig .tc := ⟨.hbm, 127, rfl⟩
abbrev main_call3_call0_v0 : Ref sig .tc := ⟨.hbm, 128, rfl⟩
abbrev main_call3_call0_v1 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_cst_6 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_call4_cst : Ref sig .tc := ⟨.hbm, 145, rfl⟩
abbrev main_call4_v0 : Ref sig .tc := ⟨.hbm, 146, rfl⟩
abbrev main_v75 : Ref sig .tc := ⟨.hbm, 147, rfl⟩
abbrev main_v76 : Ref sig .tc := ⟨.hbm, 148, rfl⟩
abbrev main_cst_7 : Ref sig .tc := ⟨.hbm, 149, rfl⟩
abbrev main_v77 : Ref sig .tc := ⟨.hbm, 150, rfl⟩
abbrev main_v78 : Ref sig .tc := ⟨.hbm, 151, rfl⟩
abbrev main_cst_8 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_cst_9 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_values : Ref sig .tc := ⟨.hbm, 165, rfl⟩
abbrev main_indices : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_call5_c : Ref sig .tc := ⟨.hbm, 170, rfl⟩
abbrev main_call5_v0 : Ref sig .tc := ⟨.hbm, 171, rfl⟩
abbrev main_call5_v1 : Ref sig .tc := ⟨.hbm, 172, rfl⟩
abbrev main_call5_c_0 : Ref sig .tc := ⟨.hbm, 173, rfl⟩
abbrev main_call5_v2 : Ref sig .tc := ⟨.hbm, 174, rfl⟩
abbrev main_call5_v3 : Ref sig .tc := ⟨.hbm, 175, rfl⟩
abbrev main_call5_v4 : Ref sig .tc := ⟨.hbm, 176, rfl⟩
abbrev main_call5_v5 : Ref sig .tc := ⟨.hbm, 177, rfl⟩
abbrev main_call5_c_1 : Ref sig .tc := ⟨.hbm, 178, rfl⟩
abbrev main_call5_c_2 : Ref sig .tc := ⟨.hbm, 179, rfl⟩
abbrev main_call5_v6 : Ref sig .tc := ⟨.hbm, 180, rfl⟩
abbrev main_call5_v7 : Ref sig .tc := ⟨.hbm, 181, rfl⟩
abbrev main_call5_v8 : Ref sig .tc := ⟨.hbm, 182, rfl⟩
abbrev main_call5_v9 : Ref sig .tc := ⟨.hbm, 183, rfl⟩
abbrev main_call5_v10 : Ref sig .tc := ⟨.hbm, 184, rfl⟩
abbrev main_call5_v11 : Ref sig .tc := ⟨.hbm, 185, rfl⟩
abbrev main_call5_c_3 : Ref sig .tc := ⟨.hbm, 186, rfl⟩
abbrev main_call5_v12 : Ref sig .tc := ⟨.hbm, 187, rfl⟩
abbrev main_call5_v13 : Ref sig .tc := ⟨.hbm, 188, rfl⟩
abbrev main_call5_v14 : Ref sig .tc := ⟨.hbm, 189, rfl⟩
abbrev main_call5_cst : Ref sig .tc := ⟨.hbm, 190, rfl⟩
abbrev main_call5_v15 : Ref sig .tc := ⟨.hbm, 191, rfl⟩
abbrev main_v93 : Ref sig .tc := ⟨.hbm, 192, rfl⟩
abbrev main_v94 : Ref sig .tc := ⟨.hbm, 193, rfl⟩
abbrev main_v95 : Ref sig .tc := ⟨.hbm, 194, rfl⟩
abbrev main_v96 : Ref sig .tc := ⟨.hbm, 195, rfl⟩
abbrev main_v97 : Ref sig .tc := ⟨.hbm, 196, rfl⟩
abbrev main_v98 : Ref sig .tc := ⟨.hbm, 197, rfl⟩
abbrev main_v99 : Ref sig .tc := ⟨.hbm, 198, rfl⟩
abbrev main_v100 : Ref sig .tc := ⟨.hbm, 199, rfl⟩
abbrev main_v101 : Ref sig .tc := ⟨.hbm, 200, rfl⟩
abbrev main_v102 : Ref sig .tc := ⟨.hbm, 201, rfl⟩
abbrev main_v103 : Ref sig .tc := ⟨.hbm, 202, rfl⟩
abbrev main_v104 : Ref sig .tc := ⟨.hbm, 203, rfl⟩
abbrev main_v105 : Ref sig .tc := ⟨.hbm, 204, rfl⟩
abbrev main_v106 : Ref sig .tc := ⟨.hbm, 205, rfl⟩
abbrev main_cst_10 : Ref sig .tc := ⟨.hbm, 206, rfl⟩
abbrev main_v107 : Ref sig .tc := ⟨.hbm, 207, rfl⟩
abbrev main_v108 : Ref sig .tc := ⟨.hbm, 208, rfl⟩
abbrev main_v109 : Ref sig .tc := ⟨.hbm, 209, rfl⟩
abbrev main_call6_cst : Ref sig .tc := ⟨.hbm, 210, rfl⟩
abbrev main_call6_v0 : Ref sig .tc := ⟨.hbm, 211, rfl⟩
abbrev main_v110 : Ref sig .tc := ⟨.hbm, 212, rfl⟩
abbrev main_v111 : Ref sig .tc := ⟨.hbm, 213, rfl⟩
abbrev main_cst_11 : Ref sig .tc := ⟨.hbm, 214, rfl⟩
abbrev main_v112 : Ref sig .tc := ⟨.hbm, 215, rfl⟩
abbrev main_v113 : Ref sig .tc := ⟨.hbm, 216, rfl⟩
abbrev main_cst_12 : Ref sig .tc := ⟨.hbm, 217, rfl⟩
abbrev main_v114 : Ref sig .tc := ⟨.hbm, 218, rfl⟩
abbrev main_v115 : Ref sig .tc := ⟨.hbm, 219, rfl⟩
abbrev main_v116 : Ref sig .tc := ⟨.hbm, 220, rfl⟩
abbrev main_cst_13 : Ref sig .tc := ⟨.hbm, 221, rfl⟩
abbrev main_v117 : Ref sig .tc := ⟨.hbm, 222, rfl⟩
abbrev main_v118 : Ref sig .tc := ⟨.hbm, 223, rfl⟩
abbrev main_v119 : Ref sig .tc := ⟨.hbm, 224, rfl⟩
abbrev main_v120 : Ref sig .tc := ⟨.hbm, 225, rfl⟩
abbrev main_v121 : Ref sig .tc := ⟨.hbm, 226, rfl⟩
abbrev main_v122 : Ref sig .tc := ⟨.hbm, 227, rfl⟩
abbrev main_v123 : Ref sig .tc := ⟨.hbm, 228, rfl⟩
abbrev main_v124 : Ref sig .tc := ⟨.hbm, 229, rfl⟩
abbrev main_values_14 : Ref sig .tc := ⟨.hbm, 230, rfl⟩
abbrev main_indices_15 : Ref sig .tc := ⟨.hbm, 231, rfl⟩
abbrev main_v125 : Ref sig .tc := ⟨.hbm, 232, rfl⟩
abbrev main_v126 : Ref sig .tc := ⟨.hbm, 233, rfl⟩
abbrev main_v127 : Ref sig .tc := ⟨.hbm, 234, rfl⟩
abbrev main_call7_c : Ref sig .tc := ⟨.hbm, 235, rfl⟩
abbrev main_call7_v0 : Ref sig .tc := ⟨.hbm, 236, rfl⟩
abbrev main_call7_v1 : Ref sig .tc := ⟨.hbm, 237, rfl⟩
abbrev main_call7_c_0 : Ref sig .tc := ⟨.hbm, 238, rfl⟩
abbrev main_call7_v2 : Ref sig .tc := ⟨.hbm, 239, rfl⟩
abbrev main_call7_v3 : Ref sig .tc := ⟨.hbm, 240, rfl⟩
abbrev main_call7_v4 : Ref sig .tc := ⟨.hbm, 241, rfl⟩
abbrev main_call7_v5 : Ref sig .tc := ⟨.hbm, 242, rfl⟩
abbrev main_call7_c_1 : Ref sig .tc := ⟨.hbm, 243, rfl⟩
abbrev main_call7_c_2 : Ref sig .tc := ⟨.hbm, 244, rfl⟩
abbrev main_call7_v6 : Ref sig .tc := ⟨.hbm, 245, rfl⟩
abbrev main_call7_v7 : Ref sig .tc := ⟨.hbm, 246, rfl⟩
abbrev main_call7_v8 : Ref sig .tc := ⟨.hbm, 247, rfl⟩
abbrev main_call7_v9 : Ref sig .tc := ⟨.hbm, 248, rfl⟩
abbrev main_call7_v10 : Ref sig .tc := ⟨.hbm, 249, rfl⟩
abbrev main_call7_v11 : Ref sig .tc := ⟨.hbm, 250, rfl⟩
abbrev main_call7_c_3 : Ref sig .tc := ⟨.hbm, 251, rfl⟩
abbrev main_call7_v12 : Ref sig .tc := ⟨.hbm, 252, rfl⟩
abbrev main_call7_v13 : Ref sig .tc := ⟨.hbm, 253, rfl⟩
abbrev main_call7_v14 : Ref sig .tc := ⟨.hbm, 254, rfl⟩
abbrev main_call7_cst : Ref sig .tc := ⟨.hbm, 255, rfl⟩
abbrev main_call7_v15 : Ref sig .tc := ⟨.hbm, 256, rfl⟩
abbrev main_v128 : Ref sig .tc := ⟨.hbm, 257, rfl⟩
abbrev main_v129 : Ref sig .tc := ⟨.hbm, 258, rfl⟩
abbrev main_v130 : Ref sig .tc := ⟨.hbm, 259, rfl⟩
abbrev main_v131 : Ref sig .tc := ⟨.hbm, 260, rfl⟩
abbrev main_v132 : Ref sig .tc := ⟨.hbm, 261, rfl⟩
abbrev main_v133 : Ref sig .tc := ⟨.hbm, 262, rfl⟩
abbrev main_v134 : Ref sig .tc := ⟨.hbm, 263, rfl⟩
abbrev main_v135 : Ref sig .tc := ⟨.hbm, 264, rfl⟩
abbrev main_v136 : Ref sig .tc := ⟨.hbm, 265, rfl⟩
abbrev main_v137 : Ref sig .tc := ⟨.hbm, 266, rfl⟩
abbrev main_v138 : Ref sig .tc := ⟨.hbm, 267, rfl⟩
abbrev main_v139 : Ref sig .tc := ⟨.hbm, 268, rfl⟩
abbrev main_v140 : Ref sig .tc := ⟨.hbm, 269, rfl⟩
abbrev main_v141 : Ref sig .tc := ⟨.hbm, 270, rfl⟩
abbrev main_cst_16 : Ref sig .tc := ⟨.hbm, 271, rfl⟩
abbrev main_v142 : Ref sig .tc := ⟨.hbm, 272, rfl⟩
abbrev main_v143 : Ref sig .tc := ⟨.hbm, 273, rfl⟩
abbrev main_v144 : Ref sig .tc := ⟨.hbm, 274, rfl⟩
abbrev main_call8_cst : Ref sig .tc := ⟨.hbm, 275, rfl⟩
abbrev main_call8_v0 : Ref sig .tc := ⟨.hbm, 276, rfl⟩
abbrev main_v145 : Ref sig .tc := ⟨.hbm, 277, rfl⟩
abbrev main_v146 : Ref sig .tc := ⟨.hbm, 278, rfl⟩

abbrev nD : Nat := 1
abbrev τ : Topo := Topo.v7x

variable {F : FTy → Type} [FloatOps F]
-- ==== Proof.Frames.lean ====
/-
  The frames of the three programs and the ledger's entry: the kernel, its idealization and the idealized reference each run to
  the end and leave their arguments as they were; the one named constant has the value the certificate's table gives it.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

open Idealize.ShloMosaic Idealize.SL.Sem

namespace Cert.Proof.Claims

theorem frame_p : Cert.quiescent_Kernel := fun m ρ _ => Cert.Kernel.Gen.frame m ρ

theorem frame_pi : Cert.quiescent_KernelIdeal := fun m ρ _ => Cert.KernelIdeal.Gen.frame m ρ

/-- The reference has no semaphore at all, so every counter reads zero. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The certificate's table gives the name `far` the value `⊤`. -/
theorem preserves : Cert.preserves_Kernel_KernelIdeal :=
  IdealRules.named_const.statement Cert.KernelIdeal.κ "far" .f32 0x7F61B1E6#32 ⊤ rfl

end Cert.Proof.Claims

end
-- ==== Proof.RefTerm.lean ====
/-
  The reference's composed term, cut into named functions of plain arrays: the two convolutions, the two normalisations, the
  distances, the neighbours' indices, the gathered neighbours and one layer of the graph network.
-/
module

public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem Idealize.ShloMosaic.StableHlo

namespace Cert.RefTerm

open Cert.ReferenceIdeal Cert.ReferenceIdeal.Gen Cert.ReferenceIdeal.Value

/-- The padded input of the main convolution. -/
def xpad (X : FVec Ideal S4x256x2048 .f32) : FVec Ideal S4x256x2050 .f32 :=
  pad S4x256x2050 ![0, 0, 1] ![0, 0, 1] ![0, 0, 0] X (sitofp .f32 (constantI S_ 32 0#32)) pads_S4x256x2048_S4x256x2050_000_000_110 h_S_

/-- The main convolution's weights by group. -/
def W4 (W : FVec Ideal S256x64x3 .f32) : FVec Ideal S4x64x64x3 .f32 :=
  shapeCast _ W shapeCasts_S256x64x3_S4x64x64x3

/-- The main convolution. -/
def conv (X : FVec Ideal S4x256x2048 .f32) (W : FVec Ideal S256x64x3 .f32) (b : FVec Ideal S256 .f32) : FVec Ideal S4x256x2048 .f32 :=
  addf (addf (addf (shapeCast _ (transpose S4x4x64x2048 [2, 0, 1, 3] (Host.dotGeneral dot_S4x64x64_S4x4x64x2048_S4x64x4x2048_2_2_1_03_0_1 none (shapeCast _ (extractStridedSlice S4x64x64x1 ![0, 0, 0, 0] (W4 W) slices_S4x64x64x3_S4x64x64x1_0_0_0_0) shapeCasts_S4x64x64x1_S4x64x64) (shapeCast _ (extractStridedSlice S4x256x2048 ![0, 0, 0] (xpad X) slices_S4x256x2050_S4x256x2048_0_0_0) shapeCasts_S4x256x2048_S4x4x64x2048)) transposes_S4x64x4x2048_S4x4x64x2048_2_0_1_3) shapeCasts_S4x4x64x2048_S4x256x2048) (shapeCast _ (transpose S4x4x64x2048 [2, 0, 1, 3] (Host.dotGeneral dot_S4x64x64_S4x4x64x2048_S4x64x4x2048_2_2_1_03_0_1 none (shapeCast _ (extractStridedSlice S4x64x64x1 ![0, 0, 0, 1] (W4 W) slices_S4x64x64x3_S4x64x64x1_0_0_0_1) shapeCasts_S4x64x64x1_S4x64x64) (shapeCast _ (extractStridedSlice S4x256x2048 ![0, 0, 1] (xpad X) slices_S4x256x2050_S4x256x2048_0_0_1) shapeCasts_S4x256x2048_S4x4x64x2048)) transposes_S4x64x4x2048_S4x4x64x2048_2_0_1_3) shapeCasts_S4x4x64x2048_S4x256x2048)) (shapeCast _ (transpose S4x4x64x2048 [2, 0, 1, 3] (Host.dotGeneral dot_S4x64x64_S4x4x64x2048_S4x64x4x2048_2_2_1_03_0_1 none (shapeCast _ (extractStridedSlice S4x64x64x1 ![0, 0, 0, 2] (W4 W) slices_S4x64x64x3_S4x64x64x1_0_0_0_2) shapeCasts_S4x64x64x1_S4x64x64) (shapeCast _ (extractStridedSlice S4x256x2048 ![0, 0, 2] (xpad X) slices_S4x256x2050_S4x256x2048_0_0_2) shapeCasts_S4x256x2048_S4x4x64x2048)) transposes_S4x64x4x2048_S4x4x64x2048_2_0_1_3) shapeCasts_S4x4x64x2048_S4x256x2048)) (broadcastInDim S4x256x2048 ![0, 1, 2] bcast_S1x256x1_S4x256x2048_0_1_2 (broadcastInDim S1x256x1 ![1] bcast_S256_S1x256x1_1 b))

def bnCentred (y : FVec Ideal S4x256x2048 .f32) : FVec Ideal S4x256x2048 .f32 :=
  subf y (broadcastInDim S4x256x2048 ![0, 1, 2] bcast_S1x256x1_S4x256x2048_0_1_2 (Host.divf (broadcastInDim S1x256x1 ![1] bcast_S256_S1x256x1_1 (Host.reduceAdd y (constant S_ .f32 0x00000000#32) reducesTo_S4x256x2048_S256_d0_2 h_S_)) (broadcastInDim S1x256x1 ![] bcast_S_S1x256x1 (constant S_ .f32 0x46000000#32))))

def bnCount : FVec Ideal S_ .f32 :=
  subf (constant S_ .f32 0x46000000#32) (sitofp .f32 (constantI S_ 32 0#32))

/-- The main normalisation and its rectifier. -/
def bn (y : FVec Ideal S4x256x2048 .f32) (g b : FVec Ideal S256 .f32) : FVec Ideal S4x256x2048 .f32 :=
  maximumf (addf (mulf (Host.divf (subf y (broadcastInDim S4x256x2048 ![0, 1, 2] bcast_S1x256x1_S4x256x2048_0_1_2 (Host.divf (broadcastInDim S1x256x1 ![1] bcast_S256_S1x256x1_1 (Host.reduceAdd y (constant S_ .f32 0x00000000#32) reducesTo_S4x256x2048_S256_d0_2 h_S_)) (broadcastInDim S1x256x1 ![] bcast_S_S1x256x1 (constant S_ .f32 0x46000000#32))))) (broadcastInDim S4x256x2048 ![0, 1, 2] bcast_S1x256x1_S4x256x2048_0_1_2 (Host.sqrt (addf (select (broadcastInDim S1x256x1 ![] bcast_S_S1x256x1 (cmpf .ogt bnCount (constant S_ .f32 0x00000000#32))) (Host.divf (broadcastInDim S1x256x1 ![1] bcast_S256_S1x256x1_1 (Host.reduceAdd (mulf (bnCentred y) (bnCentred y)) (constant S_ .f32 0x00000000#32) reducesTo_S4x256x2048_S256_d0_2 h_S_)) (broadcastInDim S1x256x1 ![] bcast_S_S1x256x1 bnCount)) (broadcastInDim S1x256x1 ![] bcast_S_S1x256x1 (id (constant S_ .f32 0x7FC00000#32)))) (broadcastInDim S1x256x1 ![] bcast_S_S1x256x1 (constant S_ .f32 0x3727C5AC#32)))))) (broadcastInDim S4x256x2048 ![0, 1, 2] bcast_S1x256x1_S4x256x2048_0_1_2 (broadcastInDim S1x256x1 ![1] bcast_S256_S1x256x1_1 g))) (broadcastInDim S4x256x2048 ![0, 1, 2] bcast_S1x256x1_S4x256x2048_0_1_2 (broadcastInDim S1x256x1 ![1] bcast_S256_S1x256x1_1 b))) (broadcastInDim S4x256x2048 ![] bcast_S_S4x256x2048 (constant S_ .f32 0x00000000#32))

/-- The topics' convolution. -/
def tconv (T : FVec Ideal S4x128x16 .f32) (W : FVec Ideal S256x4x1 .f32) (b : FVec Ideal S256 .f32) : FVec Ideal S4x256x128 .f32 :=
  addf (shapeCast _ (transpose S4x4x64x128 [2, 0, 1, 3] (Host.dotGeneral dot_S4x64x4_S4x4x4x128_S4x64x4x128_2_2_1_03_0_1 none (shapeCast _ (shapeCast _ W shapeCasts_S256x4x1_S4x64x4x1) shapeCasts_S4x64x4x1_S4x64x4) (shapeCast _ (transpose S4x16x128 [0, 2, 1] T transposes_S4x128x16_S4x16x128_0_2_1) shapeCasts_S4x16x128_S4x4x4x128)) transposes_S4x64x4x128_S4x4x64x128_2_0_1_3) shapeCasts_S4x4x64x128_S4x256x128) (broadcastInDim S4x256x128 ![0, 1, 2] bcast_S1x256x1_S4x256x128_0_1_2 (broadcastInDim S1x256x1 ![1] bcast_S256_S1x256x1_1 b))

def tbnCentred (y : FVec Ideal S4x256x128 .f32) : FVec Ideal S4x256x128 .f32 :=
  subf y (broadcastInDim S4x256x128 ![0, 1, 2] bcast_S1x256x1_S4x256x128_0_1_2 (Host.divf (broadcastInDim S1x256x1 ![1] bcast_S256_S1x256x1_1 (Host.reduceAdd y (constant S_ .f32 0x00000000#32) reducesTo_S4x256x128_S256_d0_2 h_S_)) (broadcastInDim S1x256x1 ![] bcast_S_S1x256x1 (constant S_ .f32 0x44000000#32))))

def tbnCount : FVec Ideal S_ .f32 :=
  subf (constant S_ .f32 0x44000000#32) (sitofp .f32 (constantI S_ 32 0#32))

/-- The topics' normalisation and its rectifier. -/
def tbn (y : FVec Ideal S4x256x128 .f32) (g b : FVec Ideal S256 .f32) : FVec Ideal S4x256x128 .f32 :=
  maximumf (addf (mulf (Host.divf (subf y (broadcastInDim S4x256x128 ![0, 1, 2] bcast_S1x256x1_S4x256x128_0_1_2 (Host.divf (broadcastInDim S1x256x1 ![1] bcast_S256_S1x256x1_1 (Host.reduceAdd y (constant S_ .f32 0x00000000#32) reducesTo_S4x256x128_S256_d0_2 h_S_)) (broadcastInDim S1x256x1 ![] bcast_S_S1x256x1 (constant S_ .f32 0x44000000#32))))) (broadcastInDim S4x256x128 ![0, 1, 2] bcast_S1x256x1_S4x256x128_0_1_2 (Host.sqrt (addf (select (broadcastInDim S1x256x1 ![] bcast_S_S1x256x1 (cmpf .ogt tbnCount (constant S_ .f32 0x00000000#32))) (Host.divf (broadcastInDim S1x256x1 ![1] bcast_S256_S1x256x1_1 (Host.reduceAdd (mulf (tbnCentred y) (tbnCentred y)) (constant S_ .f32 0x00000000#32) reducesTo_S4x256x128_S256_d0_2 h_S_)) (broadcastInDim S1x256x1 ![] bcast_S_S1x256x1 tbnCount)) (broadcastInDim S1x256x1 ![] bcast_S_S1x256x1 (id (constant S_ .f32 0x7FC00000#32)))) (broadcastInDim S1x256x1 ![] bcast_S_S1x256x1 (constant S_ .f32 0x3727C5AC#32)))))) (broadcastInDim S4x256x128 ![0, 1, 2] bcast_S1x256x1_S4x256x128_0_1_2 (broadcastInDim S1x256x1 ![1] bcast_S256_S1x256x1_1 g))) (broadcastInDim S4x256x128 ![0, 1, 2] bcast_S1x256x1_S4x256x128_0_1_2 (broadcastInDim S1x256x1 ![1] bcast_S256_S1x256x1_1 b))) (broadcastInDim S4x256x128 ![] bcast_S_S4x256x128 (constant S_ .f32 0x00000000#32))

/-- The negated distances of the snippets to the topics. -/
def rDist (x : FVec Ideal S4x256x2048 .f32) (tf : FVec Ideal S4x256x128 .f32) : FVec Ideal S4x2048x128 .f32 :=
  Host.negf (addf (subf (broadcastInDim S4x2048x128 ![0, 1, 2] bcast_S4x2048x1_S4x2048x128_0_1_2 (broadcastInDim S4x2048x1 ![0, 1] bcast_S4x2048_S4x2048x1_0_1 (Host.reduceAdd (mulf x x) (constant S_ .f32 0x00000000#32) reducesTo_S4x256x2048_S4x2048_d1 h_S_))) (mulf (broadcastInDim S4x2048x128 ![] bcast_S_S4x2048x128 (constant S_ .f32 0x40000000#32)) (Host.dotGeneral dot_S4x256x2048_S4x256x128_S4x2048x128_1_1_2_2_0_0 none x tf))) (broadcastInDim S4x2048x128 ![0, 1, 2] bcast_S4x1x128_S4x2048x128_0_1_2 (broadcastInDim S4x1x128 ![0, 2] bcast_S4x128_S4x1x128_0_2 (Host.reduceAdd (mulf tf tf) (constant S_ .f32 0x00000000#32) reducesTo_S4x256x128_S4x128_d1 h_S_))))

/-- The nearest topics' indices. -/
def rIdx (d : FVec Ideal S4x2048x128 .f32) : IVec S4x2048x6x1 32 :=
  broadcastInDim S4x2048x6x1 ![0, 1, 2] bcast_S4x2048x6_S4x2048x6x1_0_1_2 ((Host.topK S4x2048x6 2 (FloatOps.cmpfTotal .gt) d sliceFits_S4x2048x128_S4x2048x6).2)

/-- The same, a negative index counted from the end. -/
def rFix (d : FVec Ideal S4x2048x128 .f32) : IVec S4x2048x6x1 32 :=
  select (cmpi .slt (rIdx d) (broadcastInDim S4x2048x6x1 ![] bcast_S_S4x2048x6x1 (constantI S_ 32 0#32))) (addi (rIdx d) (broadcastInDim S4x2048x6x1 ![] bcast_S_S4x2048x6x1 (constantI S_ 32 128#32))) (rIdx d)

def rXt (x : FVec Ideal S4x256x2048 .f32) : FVec Ideal S4x2048x1x256 .f32 :=
  broadcastInDim S4x2048x1x256 ![0, 1, 3] bcast_S4x2048x256_S4x2048x1x256_0_1_3 (transpose S4x2048x256 [0, 2, 1] x transposes_S4x256x2048_S4x2048x256_0_2_1)

/-- The gathered neighbours. -/
def rNbr (tf : FVec Ideal S4x256x128 .f32) (i : IVec S4x2048x6x1 32) : FVec Ideal S4x2048x6x256 .f32 :=
  (select (broadcastInDim S4x2048x6x256 ![0, 1, 2] bcast_S4x2048x6_S4x2048x6x256_0_1_2 (Host.reduce IntOp.andi (andi (cmpi .sge i (broadcastInDim S4x2048x6x1 ![] bcast_S_S4x2048x6x1 (constantI S_ 32 0#32))) (cmpi .sle i (broadcastInDim S4x2048x6x1 ![0, 1, 2, 3] bcast_S1x1x1x1_S4x2048x6x1_0_1_2_3 (broadcastInDim S1x1x1x1 ![3] bcast_S1_S1x1x1x1_3 (constantI S1 32 127#32))))) (constantI S_ 1 1#1) reducesTo_S4x2048x6x1_S4x2048x6_d3 h_S_)) (Host.gather gather_S4x128x256_S4x2048x6x1_S4x2048x6x256_3_1_0_0_1_3_11256 (shapeCast _ (broadcastInDim S4x1x128x256 ![0, 2, 3] bcast_S4x128x256_S4x1x128x256_0_2_3 (transpose S4x128x256 [0, 2, 1] tf transposes_S4x256x128_S4x128x256_0_2_1)) shapeCasts_S4x1x128x256_S4x128x256) i) (broadcastInDim S4x2048x6x256 ![] bcast_S_S4x2048x6x256 (constant S_ .f32 0x7FC00000#32)))

/-- The messages along the edges. -/
def rMsg (x : FVec Ideal S4x256x2048 .f32) (nb : FVec Ideal S4x2048x6x256 .f32) (W : FVec Ideal S32x8x16 .f32)
    (b : FVec Ideal S256 .f32) : FVec Ideal S4x2048x6x256 .f32 :=
  (addf (shapeCast _ (transpose S4x2048x6x32x8 [2, 3, 4, 0, 1] (Host.dotGeneral dot_S32x8x16_S4x2048x6x32x16_S32x8x4x2048x6_2_4_1_012_0_3 none W (shapeCast _ (concatenate S4x2048x6x512 3 [⟨S4x2048x6x256, (broadcastInDim S4x2048x6x256 ![0, 1, 2, 3] bcast_S4x2048x1x256_S4x2048x6x256_0_1_2_3 (rXt x))⟩, ⟨S4x2048x6x256, (subf nb (broadcastInDim S4x2048x6x256 ![0, 1, 2, 3] bcast_S4x2048x1x256_S4x2048x6x256_0_1_2_3 (rXt x)))⟩] concatenates_S4x2048x6x256_S4x2048x6x256_S4x2048x6x512_d3) shapeCasts_S4x2048x6x512_S4x2048x6x32x16)) transposes_S32x8x4x2048x6_S4x2048x6x32x8_2_3_4_0_1) shapeCasts_S4x2048x6x32x8_S4x2048x6x256) (broadcastInDim S4x2048x6x256 ![0, 1, 2, 3] bcast_S1x1x1x256_S4x2048x6x256_0_1_2_3 (broadcastInDim S1x1x1x256 ![3] bcast_S256_S1x1x1x256_3 b)))

/-- One layer, from the gathered neighbours. -/
def rOut (x : FVec Ideal S4x256x2048 .f32) (nb : FVec Ideal S4x2048x6x256 .f32) (W : FVec Ideal S32x8x16 .f32)
    (b : FVec Ideal S256 .f32) : FVec Ideal S4x256x2048 .f32 :=
  maximumf (addf x (transpose S4x256x2048 [0, 2, 1] (Host.reduce FloatOps.maximumf (rMsg x nb W b) (constant S_ .f32 0xFF800000#32) reducesTo_S4x2048x6x256_S4x2048x256_d2 h_S_) transposes_S4x2048x256_S4x256x2048_0_2_1)) (broadcastInDim S4x256x2048 ![] bcast_S_S4x256x2048 (constant S_ .f32 0x00000000#32))

/-- One layer of the graph network. -/
def rLayer (x : FVec Ideal S4x256x2048 .f32) (tf : FVec Ideal S4x256x128 .f32) (W : FVec Ideal S32x8x16 .f32)
    (b : FVec Ideal S256 .f32) : FVec Ideal S4x256x2048 .f32 :=
  rOut x (rNbr tf (rFix (rDist x tf))) W b

/-- The whole reference. -/
def REF (X : FVec Ideal S4x256x2048 .f32) (T : FVec Ideal S4x128x16 .f32) (W1 : FVec Ideal S256x64x3 .f32)
    (b1 g1 be1 : FVec Ideal S256 .f32) (Wt : FVec Ideal S256x4x1 .f32) (bt gt bet : FVec Ideal S256 .f32)
    (Wg1 : FVec Ideal S32x8x16 .f32) (bg1 : FVec Ideal S256 .f32) (Wg2 : FVec Ideal S32x8x16 .f32) (bg2 : FVec Ideal S256 .f32) :
    FVec Ideal S4x256x2048 .f32 :=
  addf (rLayer (rLayer (bn (conv X W1 b1) g1 be1) (tbn (tconv T Wt bt) gt bet) Wg1 bg1) (tbn (tconv T Wt bt) gt bet) Wg2 bg2) X

end Cert.RefTerm

end
-- ==== Proof.RefRun.lean ====
/-
  The reference's run: its result is the named composed term of the arguments.
-/
module

public import proofs.«01_k».proof.Proof.RefTerm

@[expose] public section

set_option maxRecDepth 16384

noncomputable section

open Idealize.ShloMosaic Idealize.ShloMosaic.TcCoe Idealize.SL.Sem Idealize.ShloMosaic.StableHlo

namespace Cert.RefTerm

open Cert.ReferenceIdeal Cert.ReferenceIdeal.Gen Cert.ReferenceIdeal.Value

theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v146) = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c).1.trans rfl, (h c).2⟩) (run (F := Ideal) m ρ)

end Cert.RefTerm

end
-- ==== Proof.Math.lean ====
module

public import Idealize.ShloMosaic.Lib.Pipeline.ValueKit
public import Idealize.ShloMosaic.Lib.SortFacts

@[expose] public section

noncomputable section

open Idealize.ShloMosaic

/-! Numbers: the float patterns the program names, sums of reals, the normalisation identities and the
    selection of the smallest entries. -/

namespace Cert.Num

/-! ## The named float patterns -/

theorem bits_8192 : Ideal.ofBits .f32 0x46000000#32 = ((8192 : ℝ) : EReal) := by
  simp [Ideal.ofBits, Ideal.ieee, -EReal.coe_mul]; norm_num
theorem bits_512 : Ideal.ofBits .f32 0x44000000#32 = ((512 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_inf : Ideal.ofBits .f32 0x7F800000#32 = ⊤ := by simp [Ideal.ofBits, Ideal.ieee]
theorem bits_ninf : Ideal.ofBits .f32 0xFF800000#32 = ⊥ := by simp [Ideal.ofBits, Ideal.ieee]

theorem bits_eps_real : ∃ e : ℝ, 0 < e ∧ Ideal.ofBits .f32 0x3727C5AC#32 = (e : EReal) := by
  refine ⟨_, ?_, by simp [Ideal.ofBits, Ideal.ieee, -EReal.coe_mul]; rfl⟩
  norm_num

/-- The small number the normalisation adds to the variance. -/
def eps : ℝ := bits_eps_real.choose
theorem eps_pos : 0 < eps := bits_eps_real.choose_spec.1
theorem bits_eps : Ideal.ofBits .f32 0x3727C5AC#32 = (eps : EReal) := bits_eps_real.choose_spec.2

/-! ## Sums -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) :=
  (EReal.coe_strictMono.monotone).map_max

theorem coe_dite {p : Prop} [Decidable p] (a : p → ℝ) (b : ¬p → ℝ) :
    ((if h : p then a h else b h : ℝ) : EReal) = if h : p then (a h : EReal) else (b h : EReal) := by
  split <;> rfl

theorem coe_ite {p : Prop} [Decidable p] (a b : ℝ) :
    ((if p then a else b : ℝ) : EReal) = if p then (a : EReal) else (b : EReal) := by
  split <;> rfl

/-- A sum in which only one block of `n` neighbours counts. -/
theorem sum_block {M : Type} [AddCommMonoid M] {N n : ℕ} (hn : 0 < n) (g : ℕ) (hg : g * n + n ≤ N) (f : Fin N → M) :
    (∑ k : Fin N, if k.val / n = g then f k else 0) = ∑ c : Fin n, f ⟨g * n + c.val, by omega⟩ := by
  symm
  refine Fintype.sum_of_injective (fun c : Fin n => (⟨g * n + c.val, by omega⟩ : Fin N)) ?_ _ _ ?_ ?_
  · intro a b h
    have := congrArg Fin.val h
    exact Fin.ext (by simpa using this)
  · intro i hi
    rw [if_neg]
    intro h
    refine hi ⟨⟨i.val - g * n, ?_⟩, ?_⟩
    · have h1 := Nat.div_add_mod i.val n
      have h2 := Nat.mod_lt i.val hn
      rw [h, Nat.mul_comm] at h1; omega
    · have h1 := Nat.div_add_mod i.val n
      rw [h, Nat.mul_comm] at h1
      exact Fin.ext (by show g * n + (i.val - g * n) = i.val; omega)
  · intro i
    rw [if_pos]
    show (g * n + i.val) / n = g
    rw [Nat.mul_comm, Nat.mul_add_div hn, Nat.div_eq_of_lt i.isLt, Nat.add_zero]

theorem sum_pick {n : ℕ} (p : Fin n → EReal) (s : Fin n) : (∑ k, p k * (if k = s then (1 : EReal) else 0)) = p s := by
  rw [Finset.sum_eq_single s]
  · rw [if_pos rfl, mul_one]
  · intro b _ hb; rw [if_neg hb, mul_zero]
  · intro h; exact absurd (Finset.mem_univ s) h

/-! ## The normalisation -/

/-- The mean of the squares less the square of the mean is the mean squared distance from the mean. -/
theorem var_eq {ι : Type} [Fintype ι] (y : ι → ℝ) (n : ℝ) (hn : (Fintype.card ι : ℝ) = n) (h0 : n ≠ 0) :
    (∑ i, y i * y i) / n - (∑ i, y i) / n * ((∑ i, y i) / n)
      = (∑ i, (y i - (∑ i, y i) / n) * (y i - (∑ i, y i) / n)) / n := by
  set m := (∑ i, y i) / n with hm
  have hS : ∑ i, y i = n * m := by rw [hm]; field_simp
  have : ∑ i, (y i - m) * (y i - m) = (∑ i, y i * y i) - n * (m * m) := by
    have e : ∀ i, (y i - m) * (y i - m) = y i * y i - 2 * m * y i + m * m := fun i => by ring
    simp only [e, Finset.sum_add_distrib, Finset.sum_sub_distrib, ← Finset.mul_sum, Finset.sum_const,
      Finset.card_univ, nsmul_eq_mul, hn, hS]
    ring
  rw [this]; field_simp

theorem var_eq₂ {p q : ℕ} (y : Fin p → Fin q → ℝ) (n : ℝ) (hn : (p : ℝ) * q = n) (h0 : n ≠ 0) :
    (∑ i, ∑ t, y i t * y i t) / n - (∑ i, ∑ t, y i t) / n * ((∑ i, ∑ t, y i t) / n)
      = (∑ i, ∑ t, (y i t - (∑ i, ∑ t, y i t) / n) * (y i t - (∑ i, ∑ t, y i t) / n)) / n := by
  have h := var_eq (fun x : Fin p × Fin q => y x.1 x.2) n (by simpa using hn) h0
  simpa only [Fintype.sum_prod_type] using h

theorem var_nonneg {p q : ℕ} (y : Fin p → Fin q → ℝ) (m n : ℝ) (hn : 0 < n) :
    0 ≤ (∑ i, ∑ t, (y i t - m) * (y i t - m)) / n :=
  div_nonneg (Finset.sum_nonneg fun _ _ => Finset.sum_nonneg fun _ _ => mul_self_nonneg _) hn.le

theorem div_real (a : ℝ) {r : ℝ} (h : r ≠ 0) : Ideal.div (a : EReal) (r : EReal) = ((a / r : ℝ) : EReal) := by
  rw [Ideal.div_coe h, ← EReal.coe_mul, mul_one_div]

theorem sqrt_real {r : ℝ} (h : 0 ≤ r) : Ideal.sqrt (r : EReal) = ((Real.sqrt r : ℝ) : EReal) := by
  rw [Ideal.sqrt_coe, if_neg (not_lt.mpr h)]

theorem rsqrt_real {r : ℝ} (h : 0 < r) : Ideal.rsqrt (r : EReal) = (((Real.sqrt r)⁻¹ : ℝ) : EReal) := by
  rw [Ideal.rsqrt_coe, if_neg (not_lt.mpr h.le), if_neg h.ne']

theorem sitofp_zero : FloatOps.sitofp (F := Ideal) .f32 0#32 = ((0 : ℝ) : EReal) := by
  show (((0#32 : BitVec 32).toInt : ℝ) : EReal) = _
  simp

/-! ## Extended maxima -/

theorem fold_max_add {ι : Type} (s : Finset ι) (f : ι → EReal) (b : EReal) :
    s.fold max ⊥ (fun k => f k + b) = s.fold max ⊥ f + b := by
  classical
  induction s using Finset.induction_on with
  | empty => simp
  | insert a s ha ih => rw [Finset.fold_insert ha, Finset.fold_insert ha, ih, max_add_add_right]

theorem fold_max_const {n : ℕ} (hn : 0 < n) (a : EReal) : (Finset.univ : Finset (Fin n)).fold max ⊥ (fun _ => a) = a := by
  refine le_antisymm ?_ ?_
  · exact Finset.fold_max_le _ |>.mpr ⟨bot_le, fun _ _ => le_rfl⟩
  · exact Finset.le_fold_max _ |>.mpr (Or.inr ⟨⟨0, hn⟩, Finset.mem_univ _, le_rfl⟩)

theorem fold_max_six (f : Fin 6 → EReal) :
    (Finset.univ : Finset (Fin 6)).fold max ⊥ f = max (max (max (max (max (max ⊥ (f 0)) (f 1)) (f 2)) (f 3)) (f 4)) (f 5) := by
  refine le_antisymm ?_ ?_
  · refine Finset.fold_max_le _ |>.mpr ⟨bot_le, fun k _ => ?_⟩
    fin_cases k <;> simp
  · simp only [max_le_iff]
    refine ⟨⟨⟨⟨⟨⟨bot_le, ?_⟩, ?_⟩, ?_⟩, ?_⟩, ?_⟩, ?_⟩ <;>
      exact Finset.le_fold_max _ |>.mpr (Or.inr ⟨_, Finset.mem_univ _, le_rfl⟩)

/-! ## Selection of the smallest entries, in order -/

section pick
variable {n : ℕ}

/-- `s` is the first place where `g` is smallest. -/
def IsFirst (g : Fin n → EReal) (s : Fin n) : Prop := ∀ s', g s < g s' ∨ (g s = g s' ∧ s ≤ s')

theorem IsFirst.unique {g : Fin n → EReal} {a b : Fin n} (ha : IsFirst g a) (hb : IsFirst g b) : a = b := by
  rcases ha b with h | ⟨h, h'⟩ <;> rcases hb a with k | ⟨k, k'⟩
  · exact absurd h (lt_asymm k)
  · rw [k] at h; exact absurd h (lt_irrefl _)
  · rw [h] at k; exact absurd k (lt_irrefl _)
  · exact le_antisymm h' k'

/-- `g` with the entry at `s` taken out of the running. -/
def maskAt (g : Fin n → EReal) (s : Fin n) : Fin n → EReal := fun s' => if s' = s then ⊤ else g s'

theorem exists_isFirst (hn : 0 < n) (g : Fin n → EReal) : ∃ s, IsFirst g s := by
  obtain ⟨a, _, ha⟩ := Finset.exists_min_image (Finset.univ : Finset (Fin n)) g ⟨⟨0, hn⟩, Finset.mem_univ _⟩
  obtain ⟨s, hs, hmin⟩ := Finset.exists_min_image ((Finset.univ : Finset (Fin n)).filter fun s => g s = g a) id
    ⟨a, by simp⟩
  have hsa : g s = g a := (Finset.mem_filter.mp hs).2
  refine ⟨s, fun s' => ?_⟩
  rcases (hsa ▸ ha s' (Finset.mem_univ _) : g s ≤ g s').lt_or_eq with h | h
  · exact Or.inl h
  · exact Or.inr ⟨h, hmin s' (by simp [← h, hsa])⟩

/-- The first place where `g` is smallest. -/
def first (g : Fin 128 → EReal) : Fin 128 := (exists_isFirst (by decide) g).choose
theorem isFirst_first (g : Fin 128 → EReal) : IsFirst g (first g) := (exists_isFirst (by decide) g).choose_spec
theorem eq_first {g : Fin 128 → EReal} {s : Fin 128} (h : IsFirst g s) : s = first g := h.unique (isFirst_first g)

/-- `g` after `k` rounds of taking the first smallest entry out. -/
def peel (g : Fin 128 → EReal) : ℕ → Fin 128 → EReal
  | 0 => g
  | k + 1 => maskAt (peel g k) (first (peel g k))

/-- The place taken in round `k`. -/
def near (g : Fin 128 → EReal) (k : ℕ) : Fin 128 := first (peel g k)

/-- Strictly before in the sorted order: smaller, or equal and at an earlier place. -/
def Before (g : Fin n → EReal) (a b : Fin n) : Prop := g a < g b ∨ (g a = g b ∧ a < b)

theorem pairwise_insertBefore_before (g : Fin n → EReal) (before : Fin n → Fin n → Bool)
    (hb : ∀ a b, before a b = true ↔ g a < g b) (a : Fin n) (l : List (Fin n)) (hl : l.Pairwise (Before g))
    (ha : ∀ b ∈ l, a < b) : (insertBefore before a l).Pairwise (Before g) := by
  induction l with
  | nil => exact List.pairwise_singleton _ _
  | cons b l ih =>
    rw [List.pairwise_cons] at hl
    unfold insertBefore
    split
    · rename_i h
      refine List.pairwise_cons.mpr ⟨fun c hc => ?_, ih hl.2 fun c hc => ha c (List.mem_cons_of_mem _ hc)⟩
      rcases List.mem_cons.mp ((perm_insertBefore before a l).mem_iff.mp hc) with rfl | hc'
      · exact Or.inl ((hb _ _).mp h)
      · exact hl.1 c hc'
    · rename_i h
      have hab : g a ≤ g b := not_lt.mp fun hlt => h ((hb _ _).mpr hlt)
      have hafter : ∀ c, Before g b c ∨ c = b → g a ≤ g c := fun c hc => by
        rcases hc with (h1 | h1) | rfl
        · exact hab.trans h1.le
        · exact h1.1 ▸ hab
        · exact hab
      refine List.pairwise_cons.mpr ⟨fun c hc => ?_, List.pairwise_cons.mpr hl⟩
      have h1 : g a ≤ g c := hafter c (by
        rcases List.mem_cons.mp hc with rfl | hc'
        · exact Or.inr rfl
        · exact Or.inl (hl.1 c hc'))
      rcases h1.lt_or_eq with h2 | h2
      · exact Or.inl h2
      · exact Or.inr ⟨h2, ha c hc⟩

theorem pairwise_stableSort_before (g : Fin n → EReal) (before : Fin n → Fin n → Bool)
    (hb : ∀ a b, before a b = true ↔ g a < g b) (l : List (Fin n)) (hl : l.Pairwise (· < ·)) :
    (stableSort before l).Pairwise (Before g) := by
  induction l with
  | nil => exact List.Pairwise.nil
  | cons a l ih =>
    rw [List.pairwise_cons] at hl
    unfold stableSort
    exact pairwise_insertBefore_before g before hb a _ (ih hl.2) fun b hb' =>
      hl.1 b ((perm_stableSort before l).mem_iff.mp hb')

theorem before_sortedFrom (g : Fin n → EReal) (before : Fin n → Fin n → Bool)
    (hb : ∀ a b, before a b = true ↔ g a < g b) (i j : Fin n) (hij : i < j) :
    Before g (sortedFrom before i) (sortedFrom before j) := by
  have hp := List.pairwise_iff_get.mp (pairwise_stableSort_before g before hb (List.finRange n)
    (List.pairwise_lt_finRange n))
  exact hp (i.cast (length_sortPositions n before).symm) (j.cast (length_sortPositions n before).symm) hij

/-- The sorted order, read by rounds: place `k` of a stable ascending sort is what round `k` takes. -/
theorem sortedFrom_eq_near (g : Fin 128 → EReal) (hg : ∀ s, g s < ⊤) (before : Fin 128 → Fin 128 → Bool)
    (hb : ∀ a b, before a b = true ↔ g a < g b) (k : Fin 128) : sortedFrom before k = near g k.val := by
  have hbef := before_sortedFrom g before hb
  have hsur := sortedFrom_surjective before
  have key : ∀ k : ℕ, ∀ hk : k < 128, (∀ s, peel g k s = if ∃ j : Fin 128, j.val < k ∧ sortedFrom before j = s then ⊤ else g s)
      ∧ sortedFrom before ⟨k, hk⟩ = near g k := by
    intro k
    induction k with
    | zero =>
      intro hk
      refine ⟨fun s => by rw [if_neg (by rintro ⟨j, h, _⟩; omega)]; rfl, eq_first fun s' => ?_⟩
      obtain ⟨j, rfl⟩ := hsur s'
      by_cases hj : j.val = 0
      · have : j = ⟨0, hk⟩ := Fin.ext hj
        subst this; exact Or.inr ⟨rfl, le_rfl⟩
      · rcases hbef ⟨0, hk⟩ j (Nat.pos_of_ne_zero hj) with h | h
        · exact Or.inl h
        · exact Or.inr ⟨h.1, h.2.le⟩
    | succ k ih =>
      intro hk
      obtain ⟨ih1, ih2⟩ := ih (by omega)
      have h1 : ∀ s, peel g (k + 1) s = if ∃ j : Fin 128, j.val < k + 1 ∧ sortedFrom before j = s then ⊤ else g s := by
        intro s
        show (if s = near g k then ⊤ else peel g k s) = _
        rw [← ih2, ih1 s]
        by_cases hs : s = sortedFrom before ⟨k, by omega⟩
        · rw [if_pos hs, if_pos ⟨⟨k, by omega⟩, Nat.lt_succ_self k, hs.symm⟩]
        · rw [if_neg hs]
          by_cases he : ∃ j : Fin 128, j.val < k ∧ sortedFrom before j = s
          · obtain ⟨j, hj, hj'⟩ := he
            rw [if_pos ⟨j, hj, hj'⟩, if_pos ⟨j, by omega, hj'⟩]
          · rw [if_neg he, if_neg]
            rintro ⟨j, hj, hj'⟩
            rcases Nat.lt_succ_iff_lt_or_eq.mp hj with h | h
            · exact he ⟨j, h, hj'⟩
            · exact hs (by rw [← hj']; exact congrArg _ (Fin.ext h))
      refine ⟨h1, eq_first fun s' => ?_⟩
      have hinj := sortedFrom_injective before
      have hself : peel g (k + 1) (sortedFrom before ⟨k + 1, hk⟩) = g (sortedFrom before ⟨k + 1, hk⟩) := by
        rw [h1, if_neg]
        rintro ⟨j, hj, hj'⟩
        have := congrArg Fin.val (hinj hj')
        simp at this; omega
      rw [hself, h1 s']
      obtain ⟨j, rfl⟩ := hsur s'
      by_cases hj : j.val < k + 1
      · rw [if_pos ⟨j, hj, rfl⟩]; exact Or.inl (hg _)
      · rw [if_neg (by rintro ⟨j', hj', e⟩; rw [hinj e] at hj'; exact hj hj')]
        by_cases hj2 : j.val = k + 1
        · have : j = ⟨k + 1, hk⟩ := Fin.ext hj2
          subst this; exact Or.inr ⟨rfl, le_rfl⟩
        · rcases hbef ⟨k + 1, hk⟩ j (by show k + 1 < j.val; omega) with h | h
          · exact Or.inl h
          · exact Or.inr ⟨h.1, h.2.le⟩
  exact (key k.val k.isLt).2

end pick

end Cert.Num
-- ==== Proof.Spec.lean ====
/-
  The network's mathematics over the reals, the topics' inputs over the extended reals: the grouped convolutions, the normalisation, the distances and one layer of
  the graph network.
-/
module

public import proofs.«01_k».proof.Proof.Math

@[expose] public section

noncomputable section

open Idealize.ShloMosaic

namespace Cert.Spec

open Cert.Num

theorem up_lt (r : Fin 128) : 128 + r.val < 256 := by omega
theorem four_lt (c : Fin 256) (x : Fin 4) : c.val / 64 * 4 + x.val < 16 := by omega

/-- The main convolution. -/
def cY (X : Fin 4 → Fin 256 → Fin 2048 → ℝ) (W : Fin 256 → Fin 64 → Fin 3 → ℝ) (b : Fin 256 → ℝ)
    (i : Fin 4) (o : Fin 256) (t : Fin 2048) : ℝ :=
  (((∑ x : Fin 64, W o x 0 * (if h : 1 ≤ t.val then X i ⟨o.val / 64 * 64 + x.val, by omega⟩ ⟨t.val - 1, by omega⟩ else 0))
    + ∑ x : Fin 64, W o x 1 * X i ⟨o.val / 64 * 64 + x.val, by omega⟩ t)
    + ∑ x : Fin 64, W o x 2 * (if h : t.val + 1 < 2048 then X i ⟨o.val / 64 * 64 + x.val, by omega⟩ ⟨t.val + 1, h⟩ else 0))
    + b o

/-- The topics' convolution. -/
def tY (T : Fin 4 → Fin 128 → Fin 16 → EReal) (W : Fin 256 → Fin 4 → EReal) (b : Fin 256 → EReal)
    (i : Fin 4) (o : Fin 256) (t : Fin 128) : EReal :=
  (∑ x : Fin 4, W o x * T i t ⟨o.val / 64 * 4 + x.val, four_lt o x⟩) + b o

/-- A channel's mean. -/
def mean {n : ℕ} (y : Fin 4 → Fin 256 → Fin n → ℝ) (N : ℝ) (o : Fin 256) : ℝ := (∑ i, ∑ t, y i o t) / N

/-- A channel's variance. -/
def vari {n : ℕ} (y : Fin 4 → Fin 256 → Fin n → ℝ) (N : ℝ) (o : Fin 256) : ℝ :=
  (∑ i, ∑ t, (y i o t - mean y N o) * (y i o t - mean y N o)) / N

/-- The normalisation and its rectifier. -/
def norm {n : ℕ} (y : Fin 4 → Fin 256 → Fin n → ℝ) (N : ℝ) (g b : Fin 256 → ℝ) (i : Fin 4) (o : Fin 256) (t : Fin n) : ℝ :=
  max ((y i o t - mean y N o) / Real.sqrt (vari y N o + eps) * g o + b o) 0

theorem root_pos {n : ℕ} (y : Fin 4 → Fin 256 → Fin n → ℝ) (N : ℝ) (hN : 0 < N) (o : Fin 256) :
    0 < Real.sqrt (vari y N o + eps) :=
  Real.sqrt_pos.mpr (add_pos_of_nonneg_of_pos (var_nonneg (fun i t => y i o t) _ N hN) eps_pos)

/-- A topics' channel's mean, infinities allowed. -/
def meanE (y : Fin 4 → Fin 256 → Fin 128 → EReal) (o : Fin 256) : EReal := Ideal.div (∑ i, ∑ t, y i o t) ((512 : ℝ) : EReal)

/-- A topics' channel's variance, infinities allowed. -/
def variE (y : Fin 4 → Fin 256 → Fin 128 → EReal) (o : Fin 256) : EReal :=
  Ideal.div (∑ i, ∑ t, (y i o t - meanE y o) * (y i o t - meanE y o)) ((512 : ℝ) : EReal)

/-- A channel that holds reals. -/
def HoldsReals (y : Fin 4 → Fin 256 → Fin 128 → EReal) (o : Fin 256) : Prop :=
  ∃ y' : Fin 4 → Fin 128 → ℝ, ∀ i t, y i o t = (y' i t : EReal)

open Classical in
/-- The topics' normalisation and its rectifier: a channel that holds an infinity normalises to its shift. -/
def normE (y : Fin 4 → Fin 256 → Fin 128 → EReal) (g b : Fin 256 → ℝ) (i : Fin 4) (o : Fin 256) (t : Fin 128) : ℝ :=
  if h : HoldsReals y o then norm (fun i _ t => h.choose i t) 512 g b i o t else max (b o) 0

theorem real_of_sum {ι : Type} (s : Finset ι) (f : ι → EReal) (h : ∃ r : ℝ, ∑ i ∈ s, f i = r) : ∀ i ∈ s, ∃ r : ℝ, f i = r := by
  classical
  induction s using Finset.induction_on with
  | empty => intro i hi; simp at hi
  | insert a s ha ih =>
    obtain ⟨r, hr⟩ := h
    rw [Finset.sum_insert ha] at hr
    have key : ∀ x y : EReal, x + y = (r : EReal) → (∃ r : ℝ, x = r) ∧ ∃ r : ℝ, y = r := by
      intro x y
      induction x using EReal.rec <;> induction y using EReal.rec <;> intro e
      all_goals first
        | exact ⟨⟨_, rfl⟩, ⟨_, rfl⟩⟩
        | (exfalso; revert e; simp)
    obtain ⟨h1, h2⟩ := key _ _ hr
    intro i hi
    rcases Finset.mem_insert.mp hi with rfl | hi
    · exact h1
    · exact ih h2 i hi

theorem sum_top {n : ℕ} : (∑ _i : Fin (n + 1), (⊤ : EReal)) = ⊤ := by
  rw [Finset.sum_const, Finset.card_univ, Fintype.card_fin]
  induction n with
  | zero => simp
  | succ n ih => rw [succ_nsmul, ih]; rfl

section channel
variable {y : Fin 4 → Fin 256 → Fin 128 → EReal} {o : Fin 256}

theorem meanE_inf (h : ¬ HoldsReals y o) : meanE y o = ⊤ ∨ meanE y o = ⊥ := by
  have hs : (∑ i, ∑ t, y i o t) = ⊤ ∨ (∑ i, ∑ t, y i o t) = ⊥ := by
    by_contra hn
    push Not at hn
    refine h ?_
    have h1 := real_of_sum Finset.univ (fun i => ∑ t, y i o t) ⟨_, (EReal.coe_toReal hn.1 hn.2).symm⟩
    choose r hr using fun i t => real_of_sum Finset.univ (fun t => y i o t) (h1 i (Finset.mem_univ _)) t (Finset.mem_univ _)
    exact ⟨r, hr⟩
  have h5 : (512 : ℝ) ≠ 0 := by norm_num
  have h6 : (0 : ℝ) < 1 / 512 := by norm_num
  unfold meanE
  rw [Ideal.div_coe h5]
  rcases hs with e | e <;> rw [e]
  · exact Or.inl (EReal.top_mul_coe_of_pos h6)
  · exact Or.inr (EReal.bot_mul_coe_of_pos h6)

theorem dev_inf (h : ¬ HoldsReals y o) (i : Fin 4) (t : Fin 128) : y i o t - meanE y o = ⊤ ∨ y i o t - meanE y o = ⊥ := by
  rcases meanE_inf h with e | e <;> rw [e]
  · right
    rw [sub_eq_add_neg, EReal.neg_top, EReal.add_bot]
  · rw [sub_eq_add_neg, EReal.neg_bot]
    by_cases hb : y i o t = ⊥
    · right; rw [hb, EReal.bot_add]
    · left; exact EReal.add_top_of_ne_bot hb

theorem variE_inf (h : ¬ HoldsReals y o) : variE y o = ⊤ := by
  have hd : ∀ i t, (y i o t - meanE y o) * (y i o t - meanE y o) = ⊤ := by
    intro i t
    rcases dev_inf h i t with e | e <;> rw [e] <;> rfl
  have h5 : (512 : ℝ) ≠ 0 := by norm_num
  have h6 : (0 : ℝ) < 1 / 512 := by norm_num
  unfold variE
  simp only [hd, sum_top]
  rw [Ideal.div_coe h5]
  exact EReal.top_mul_coe_of_pos h6

variable {y' : Fin 4 → Fin 128 → ℝ}

theorem meanE_fin (h : ∀ i t, y i o t = (y' i t : EReal)) : meanE y o = (mean (fun i _ t => y' i t) 512 o : EReal) := by
  unfold meanE mean
  simp only [h, ← coe_sum]
  rw [div_real _ (by norm_num)]

theorem variE_fin (h : ∀ i t, y i o t = (y' i t : EReal)) : variE y o = (vari (fun i _ t => y' i t) 512 o : EReal) := by
  unfold variE vari
  simp only [h, meanE_fin h, ← EReal.coe_sub, ← EReal.coe_mul, ← coe_sum]
  rw [div_real _ (by norm_num)]

/-- The normalisation as a scale and a shift. -/
theorem norm_affine {n : ℕ} (y : Fin 4 → Fin 256 → Fin n → ℝ) (N : ℝ) (g b : Fin 256 → ℝ) (i : Fin 4) (o : Fin 256) (t : Fin n) :
    max (y i o t * (g o * (Real.sqrt (vari y N o + eps))⁻¹) + (b o - mean y N o * (g o * (Real.sqrt (vari y N o + eps))⁻¹))) 0
      = norm y N g b i o t := by
  unfold norm
  congr 1
  rw [div_eq_mul_inv]
  ring

/-- The topics' normalisation as a scale and a shift. -/
theorem normE_affine (y : Fin 4 → Fin 256 → Fin 128 → EReal) (g b : Fin 256 → ℝ) (i : Fin 4) (o : Fin 256) (t : Fin 128) :
    max (y i o t * ((g o : EReal) * Ideal.rsqrt (variE y o + (eps : EReal)))
        + ((b o : EReal) - meanE y o * ((g o : EReal) * Ideal.rsqrt (variE y o + (eps : EReal))))) 0 = (normE y g b i o t : EReal) := by
  unfold normE
  split_ifs with h
  · have e := h.choose_spec
    have hv : 0 < vari (fun i _ t => h.choose i t) 512 o + eps :=
      Real.sqrt_pos.mp (root_pos (fun i _ t => h.choose i t) 512 (by norm_num) o)
    rw [e i t, meanE_fin e, variE_fin e, ← EReal.coe_add, rsqrt_real hv, ← EReal.coe_mul, ← EReal.coe_mul, ← EReal.coe_mul,
      ← EReal.coe_sub, ← EReal.coe_add, ← EReal.coe_zero, ← coe_max]
    exact congrArg _ (norm_affine (fun i _ t => h.choose i t) 512 g b i o t)
  · rw [variE_inf h, EReal.top_add_coe, Ideal.rsqrt_top, mul_zero, mul_zero, mul_zero, sub_zero, zero_add, coe_max, EReal.coe_zero]

/-- The topics' normalisation as a quotient. -/
theorem normE_div (y : Fin 4 → Fin 256 → Fin 128 → EReal) (g b : Fin 256 → ℝ) (i : Fin 4) (o : Fin 256) (t : Fin 128) :
    max (Ideal.div (y i o t - meanE y o) (Ideal.sqrt (variE y o + (eps : EReal))) * (g o : EReal) + (b o : EReal)) 0
      = (normE y g b i o t : EReal) := by
  unfold normE
  split_ifs with h
  · have e := h.choose_spec
    have hr := root_pos (fun i _ t => h.choose i t) 512 (by norm_num) o
    have hv : 0 ≤ vari (fun i _ t => h.choose i t) 512 o + eps := (Real.sqrt_pos.mp hr).le
    rw [e i t, meanE_fin e, variE_fin e, ← EReal.coe_add, sqrt_real hv, ← EReal.coe_sub, div_real _ hr.ne', ← EReal.coe_mul,
      ← EReal.coe_add, ← EReal.coe_zero, ← coe_max]
    rfl
  · rw [variE_inf h, EReal.top_add_coe, Ideal.sqrt_top]
    have e0 : Ideal.div (y i o t - meanE y o) ⊤ = 0 := by
      unfold Ideal.div
      rw [if_neg (by decide), EReal.inv_top, mul_zero]
    rw [e0, zero_mul, zero_add, coe_max, EReal.coe_zero]

end channel

/-- The squared distance of a snippet to a topic. -/
def dist (x : Fin 256 → ℝ) (tf : Fin 256 → Fin 128 → ℝ) (s : Fin 128) : ℝ :=
  ((∑ c, x c * x c) - 2 * ∑ c, x c * tf c s) + ∑ c, tf c s * tf c s

/-- The topic chosen in round `k`. -/
def pick (x : Fin 256 → ℝ) (tf : Fin 256 → Fin 128 → ℝ) (k : ℕ) : Fin 128 := near (fun s => (dist x tf s : EReal)) k

/-- The part of the message taken from the snippet itself: its own group's, or the second half's group. -/
def own (x : Fin 256 → ℝ) (W : Fin 32 → Fin 8 → Fin 16 → ℝ) (c : Fin 256) : ℝ :=
  ∑ j : Fin 16, W ⟨c.val / 8, by omega⟩ ⟨c.val % 8, by omega⟩ j * x ⟨c.val / 8 % 16 * 16 + j.val, by omega⟩

/-- The aggregated message without its bias. -/
def agg (x : Fin 256 → ℝ) (tf : Fin 256 → Fin 128 → ℝ) (W : Fin 32 → Fin 8 → Fin 16 → ℝ) (c : Fin 256) : EReal :=
  if c.val < 128 then (own x W c : EReal)
  else (Finset.univ : Finset (Fin 6)).fold max ⊥ (fun k => ((own (fun c' => tf c' (pick x tf k.val)) W c : ℝ) : EReal))
    + ((-own x W c : ℝ) : EReal)

/-- One layer of the graph network at one snippet. -/
def layer (x : Fin 256 → ℝ) (tf : Fin 256 → Fin 128 → ℝ) (W : Fin 32 → Fin 8 → Fin 16 → ℝ) (b : Fin 256 → EReal) (c : Fin 256) : EReal :=
  max (((x c : EReal) + agg x tf W c) + b c) 0

theorem fold_max_real (f : Fin 6 → ℝ) : ∃ r : ℝ, (Finset.univ : Finset (Fin 6)).fold max ⊥ (fun k => (f k : EReal)) = r := by
  refine ⟨max (max (max (max (max (f 0) (f 1)) (f 2)) (f 3)) (f 4)) (f 5), ?_⟩
  rw [fold_max_six]
  simp only [coe_max, max_eq_right (bot_le (a := ((f 0 : ℝ) : EReal)))]

theorem layer_real (x : Fin 256 → ℝ) (tf : Fin 256 → Fin 128 → ℝ) (W : Fin 32 → Fin 8 → Fin 16 → ℝ) (b : Fin 256 → ℝ) (c : Fin 256) :
    ∃ r : ℝ, layer x tf W (fun c => (b c : EReal)) c = r := by
  have ha : ∃ r : ℝ, agg x tf W c = r := by
    unfold agg
    by_cases h : c.val < 128
    · exact ⟨_, if_pos h⟩
    · obtain ⟨r, hr⟩ := fold_max_real fun k => own (fun c' => tf c' (pick x tf k.val)) W c
      exact ⟨r + -own x W c, by rw [if_neg h, hr, EReal.coe_add]⟩
  obtain ⟨r, hr⟩ := ha
  refine ⟨max (x c + r + b c) 0, ?_⟩
  unfold layer
  rw [hr, coe_max, EReal.coe_add, EReal.coe_add, EReal.coe_zero]

/-- One layer with a finite bias, as a real. -/
def layerR (x : Fin 256 → ℝ) (tf : Fin 256 → Fin 128 → ℝ) (W : Fin 32 → Fin 8 → Fin 16 → ℝ) (b : Fin 256 → ℝ) (c : Fin 256) : ℝ :=
  (layer_real x tf W b c).choose

theorem layer_eq (x : Fin 256 → ℝ) (tf : Fin 256 → Fin 128 → ℝ) (W : Fin 32 → Fin 8 → Fin 16 → ℝ) (b : Fin 256 → ℝ) (c : Fin 256) :
    layer x tf W (fun c => (b c : EReal)) c = (layerR x tf W b c : EReal) := (layer_real x tf W b c).choose_spec

section net
variable (X : Fin 4 → Fin 256 → Fin 2048 → ℝ) (T : Fin 4 → Fin 128 → Fin 16 → EReal) (W1 : Fin 256 → Fin 64 → Fin 3 → ℝ)
  (b1 g1 be1 : Fin 256 → ℝ) (Wt : Fin 256 → Fin 4 → EReal) (bt : Fin 256 → EReal) (gt bet : Fin 256 → ℝ) (Wg1 : Fin 32 → Fin 8 → Fin 16 → ℝ)
  (bg1 : Fin 256 → ℝ) (Wg2 : Fin 32 → Fin 8 → Fin 16 → ℝ) (bg2 : Fin 256 → EReal)

/-- The topics' features. -/
def feat : Fin 4 → Fin 256 → Fin 128 → ℝ := normE (tY T Wt bt) gt bet
/-- The snippets' features before the graph layers. -/
def base0 : Fin 4 → Fin 256 → Fin 2048 → ℝ := norm (cY X W1 b1) 8192 g1 be1
/-- The same after the first graph layer. -/
def base1 (i : Fin 4) (c : Fin 256) (t : Fin 2048) : ℝ :=
  layerR (fun c => base0 X W1 b1 g1 be1 i c t) (feat T Wt bt gt bet i) Wg1 bg1 c
/-- The network's result. -/
def net (i : Fin 4) (c : Fin 256) (t : Fin 2048) : EReal :=
  layer (fun c => base1 X T W1 b1 g1 be1 Wt bt gt bet Wg1 bg1 i c t) (feat T Wt bt gt bet i) Wg2 bg2 c + (X i c t : EReal)

end net

end Cert.Spec
-- ==== Proof.RefRead.lean ====
module

public import proofs.«01_k».proof.Proof.RefTerm
public import proofs.«01_k».proof.Proof.Spec

@[expose] public section

set_option maxRecDepth 16384
noncomputable section

open Idealize.ShloMosaic Idealize.ShloMosaic.TcCoe Idealize.SL.Sem Idealize.ShloMosaic.StableHlo

namespace Cert.RefTerm

open Cert.ReferenceIdeal Cert.ReferenceIdeal.Gen Cert.ReferenceIdeal.Value Cert.Num Cert.Spec

theorem reduce02 {n : ℕ} (h : (⟨3, ![4, 256, n]⟩ : Shape).ReducesTo [0, 2] ⟨1, ![256]⟩) (y : (⟨3, ![4, 256, n]⟩ : Shape).Idx → EReal)
    (init : EReal) (o : Fin 256) :
    Ideal.hostReduceAdd h y init (ix1 o) = init + ∑ i : Fin 4, ∑ t : Fin n, y (ix3 i o t) := by
  have hd : ∀ i, h.drop i = ix1 (i 1) := fun i => by
    funext b; fin_cases b; rfl
  unfold Ideal.hostReduceAdd
  congr 1
  rw [← Fintype.sum_prod_type (f := fun p : Fin 4 × Fin n => y (ix3 p.1 o p.2))]
  refine Finset.sum_nbij' (fun i => ((i 0 : Fin 4), (i 2 : Fin n))) (fun p => ix3 p.1 o p.2) ?_ ?_ ?_ ?_ ?_
  · intro _ _; exact Finset.mem_univ _
  · intro p _; rw [Finset.mem_filter]; exact ⟨Finset.mem_univ _, hd _⟩
  · intro i hi
    have h1 : i 1 = o := by
      have := (hd i).symm.trans (Finset.mem_filter.mp hi).2
      exact congrFun this 0
    funext b; fin_cases b
    · rfl
    · exact h1.symm
    · rfl
  · intro p _; rfl
  · intro i hi
    have h1 : i 1 = o := by
      have := (hd i).symm.trans (Finset.mem_filter.mp hi).2
      exact congrFun this 0
    congr 1
    funext b; fin_cases b
    · rfl
    · exact h1
    · rfl

theorem conv_real (X : FVec Ideal S4x256x2048 .f32) (W : FVec Ideal S256x64x3 .f32) (b : FVec Ideal S256 .f32)
    (X' : Fin 4 → Fin 256 → Fin 2048 → ℝ) (W' : Fin 256 → Fin 64 → Fin 3 → ℝ) (b' : Fin 256 → ℝ)
    (hX : ∀ i c t, X (ix3 i c t) = (X' i c t : EReal)) (hW : ∀ i c t, W (ix3 i c t) = (W' i c t : EReal))
    (hb : ∀ i, b (ix1 i) = (b' i : EReal)) (i : Fin 4) (o : Fin 256) (t : Fin 2048) :
    conv X W b (ix3 i o t) = (cY X' W' b' i o t : EReal) := by
  pointwise [conv, W4, xpad]
  have hlt : ∀ x : Fin 64, o.val / 64 * 64 + x.val < 256 := fun x => by omega
  have ht : t.val < 2048 := t.isLt
  simp only [hX, hW, hb, sitofp_zero, ← coe_dite, ← EReal.coe_mul, ← coe_sum, ← EReal.coe_add, EReal.coe_eq_coe_iff]
  unfold cY
  refine congrArg₂ (· + ·) (congrArg₂ (· + ·) (congrArg₂ (· + ·) ?_ ?_) ?_) rfl
  · refine Finset.sum_congr rfl fun x _ => congrArg (W' o x 0 * ·) ?_
    have h0 := hlt x
    split_ifs with h1 h2 h2
    · rfl
    · exact absurd h1.2.1 h2
    · exact absurd ⟨h0, h2, by omega⟩ h1
    · rfl
  · refine Finset.sum_congr rfl fun x _ => congrArg (W' o x 1 * ·) ?_
    rw [dif_pos (hlt x)]
  · refine Finset.sum_congr rfl fun x _ => congrArg (W' o x 2 * ·) ?_
    have h0 := hlt x
    have e : ∀ (h : 2 + t.val - 1 < 2048) (h' : t.val + 1 < 2048), (⟨2 + t.val - 1, h⟩ : Fin 2048) = ⟨t.val + 1, h'⟩ :=
      fun h h' => Fin.mk.injEq .. |>.mpr (by omega)
    split_ifs with h1 h2 h2
    · rw [e _ h2]
    · exact absurd (by omega) h2
    · exact absurd ⟨h0, by omega, by omega⟩ h1
    · rfl

theorem tconv_at (X : FVec Ideal S4x128x16 .f32) (W : FVec Ideal S256x4x1 .f32) (b : FVec Ideal S256 .f32)
    (i : Fin 4) (o : Fin 256) (t : Fin 128) :
    tconv X W b (ix3 i o t) = tY (fun i t j => X (ix3 i t j)) (fun o x => W (ix3 o x 0)) (fun o => b (ix1 o)) i o t := by
  pointwise [tconv]
  rfl

theorem bn_real (y : FVec Ideal S4x256x2048 .f32) (g b : FVec Ideal S256 .f32)
    (y' : Fin 4 → Fin 256 → Fin 2048 → ℝ) (g' b' : Fin 256 → ℝ)
    (hy : ∀ i c t, y (ix3 i c t) = (y' i c t : EReal)) (hg : ∀ i, g (ix1 i) = (g' i : EReal))
    (hb : ∀ i, b (ix1 i) = (b' i : EReal)) (i : Fin 4) (o : Fin 256) (t : Fin 2048) :
    bn y g b (ix3 i o t) = (norm y' 8192 g' b' i o t : EReal) := by
  have hn : (8192 : ℝ) ≠ 0 := by norm_num
  have e1 : ∀ i o t, bnCentred y (ix3 i o t) = ((y' i o t - mean y' 8192 o : ℝ) : EReal) := by
    intro i o t
    pointwise [bnCentred]
    rw [reduce02, zero_add, bits_8192]
    simp only [hy, ← coe_sum, div_real _ hn, ← EReal.coe_sub]
    rfl
  have e2 : ∀ i o t, mulf (bnCentred y) (bnCentred y) (ix3 i o t)
      = (((y' i o t - mean y' 8192 o) * (y' i o t - mean y' 8192 o) : ℝ) : EReal) := by
    intro i o t
    show bnCentred y (ix3 i o t) * bnCentred y (ix3 i o t) = _
    rw [e1, EReal.coe_mul]
  have e3 : (0 : EReal) < ((8192 : ℝ) : EReal) := EReal.coe_pos.mpr (by norm_num)
  have hr := root_pos y' 8192 (by norm_num) o
  have hv : 0 ≤ vari y' 8192 o + eps := (Real.sqrt_pos.mp hr).le
  pointwise [bn, bnCount]
  rw [reduce02, reduce02]
  simp only [e2, hy, hg, hb, zero_add, bits_8192, bits_eps, sitofp_zero, ← EReal.coe_sub, sub_zero, if_pos e3, ← coe_sum,
    div_real _ hn, ← EReal.coe_add]
  have e4 : (∑ i, ∑ t, (y' i o t - mean y' 8192 o) * (y' i o t - mean y' 8192 o)) / 8192 = vari y' 8192 o := rfl
  rw [e4, sqrt_real hv, div_real _ hr.ne', ← EReal.coe_mul, ← EReal.coe_add, ← EReal.coe_zero, ← coe_max]
  rfl

theorem tbn_real (y : FVec Ideal S4x256x128 .f32) (g b : FVec Ideal S256 .f32)
    (y' : Fin 4 → Fin 256 → Fin 128 → EReal) (g' b' : Fin 256 → ℝ)
    (hy : ∀ i c t, y (ix3 i c t) = y' i c t) (hg : ∀ i, g (ix1 i) = (g' i : EReal))
    (hb : ∀ i, b (ix1 i) = (b' i : EReal)) (i : Fin 4) (o : Fin 256) (t : Fin 128) :
    tbn y g b (ix3 i o t) = (normE y' g' b' i o t : EReal) := by
  have e1 : ∀ i o t, tbnCentred y (ix3 i o t) = y' i o t - meanE y' o := by
    intro i o t
    pointwise [tbnCentred]
    rw [reduce02, zero_add, bits_512]
    simp only [hy]
    rfl
  have e2 : ∀ i o t, mulf (tbnCentred y) (tbnCentred y) (ix3 i o t)
      = (y' i o t - meanE y' o) * (y' i o t - meanE y' o) := by
    intro i o t
    show tbnCentred y (ix3 i o t) * tbnCentred y (ix3 i o t) = _
    rw [e1]
  have e3 : (0 : EReal) < ((512 : ℝ) : EReal) := EReal.coe_pos.mpr (by norm_num)
  rw [← normE_div]
  pointwise [tbn, tbnCount]
  rw [reduce02, reduce02]
  simp only [e2, hy, hg, hb, zero_add, bits_512, bits_eps, sitofp_zero, ← EReal.coe_sub, sub_zero, if_pos e3]
  rfl

theorem rDist_real (x : FVec Ideal S4x256x2048 .f32) (tf : FVec Ideal S4x256x128 .f32)
    (x' : Fin 4 → Fin 256 → Fin 2048 → ℝ) (tf' : Fin 4 → Fin 256 → Fin 128 → ℝ)
    (hx : ∀ i c t, x (ix3 i c t) = (x' i c t : EReal)) (htf : ∀ i c t, tf (ix3 i c t) = (tf' i c t : EReal))
    (i : Fin 4) (t : Fin 2048) (s : Fin 128) :
    rDist x tf (ix3 i t s) = -(dist (fun c => x' i c t) (tf' i) s : EReal) := by
  pointwise [rDist]
  simp only [hx, htf, bits_two, ← EReal.coe_mul, ← coe_sum, ← EReal.coe_add, ← EReal.coe_sub]
  rfl

end Cert.RefTerm
end
-- ==== Proof.RefLayer.lean ====
/-
  The reference's graph layers read at an index: the sorted order, the gathered neighbours, the messages and the layer.
-/
module

public import proofs.«01_k».proof.Proof.RefRead

@[expose] public section

set_option maxRecDepth 16384
noncomputable section

open Idealize.ShloMosaic Idealize.ShloMosaic.TcCoe Idealize.SL.Sem Idealize.ShloMosaic.StableHlo

namespace Cert.RefTerm

open Cert.ReferenceIdeal Cert.ReferenceIdeal.Gen Cert.ReferenceIdeal.Value Cert.Num Cert.Spec

theorem topk_idx (d : FVec Ideal S4x2048x128 .f32) (i : Fin 4) (t : Fin 2048) (g : Fin 128 → EReal) (hg : ∀ s, g s < ⊤)
    (hd : ∀ s, d (ix3 i t s) = -(g s)) (k : Fin 6) :
    (Host.topK S4x2048x6 2 (FloatOps.cmpfTotal .gt) d sliceFits_S4x2048x128_S4x2048x6).2 (ix3 i t k)
      = BitVec.ofNat 32 (near g k.val).val := by
  have hk : k.val < 128 := by omega
  have e : ∀ c : Fin 128, (ix3 i t (⟨k.val, hk⟩ : Fin 128) : S4x2048x128.Idx).along (2 : Fin 3) c = ix3 i t c := fun c => by
    funext b; fin_cases b <;> rfl
  have hb : ∀ a b : Fin 128, (FloatOps.cmpfTotal (F := Ideal) (φ := .f32) .gt (d ((ix3 i t (⟨k.val, hk⟩ : Fin 128) : S4x2048x128.Idx).along (2 : Fin 3) a))
      (d ((ix3 i t (⟨k.val, hk⟩ : Fin 128) : S4x2048x128.Idx).along (2 : Fin 3) b)) == 1#1) = true ↔ g a < g b := by
    intro a b
    rw [e, e, hd, hd]
    show (BitVec.ofBool (decide (-(g b) < -(g a))) == 1#1) = true ↔ _
    by_cases h : g a < g b <;> simp [h]
  have h := sortedFrom_eq_near g hg _ hb ⟨k.val, hk⟩
  rw [← h]
  unfold Host.topK Host.sort2
  dsimp only
  rw [dif_pos (by decide : (2 : ℕ) < S4x2048x128.rank)]
  unfold extractStridedSlice
  refine Eq.trans (congrArg _ (?_ : _ = (ix3 i t (⟨k.val, hk⟩ : Fin 128) : S4x2048x128.Idx))) ?_
  · funext b
    apply Fin.ext
    fin_cases b <;> exact Nat.zero_add _
  · dsimp only
    rw [dif_pos (by decide)]
    unfold iotaInDim Shape.Idx.along
    rw [Function.update_self]
    rfl

theorem word_toInt : ∀ s : Fin 128, (BitVec.ofNat 32 s.val).toInt = s.val := by decide

theorem gather_idx (tf : FVec Ideal S4x128x256 .f32) (idx : IVec S4x2048x6x1 32) (i : Fin 4) (t : Fin 2048) (k : Fin 6) (c : Fin 256)
    (s : Fin 128) (h : idx (ix4 i t k 0) = BitVec.ofNat 32 s.val) :
    Host.gather gather_S4x128x256_S4x2048x6x1_S4x2048x6x256_3_1_0_0_1_3_11256 tf idx (ix4 i t k c) = tf (ix3 i s c) := by
  unfold Host.gather
  congr 1
  funext a
  apply Fin.ext
  fin_cases a
  · show 0 + i.val + 0 = i.val
    omega
  · have e : (gather_S4x128x256_S4x2048x6x1_S4x2048x6x256_3_1_0_0_1_3_11256).siIdx (ix4 i t k c) ⟨0, by decide⟩ = ix4 i t k 0 := by
      funext b; fin_cases b <;> rfl
    show min (idx ((gather_S4x128x256_S4x2048x6x1_S4x2048x6x256_3_1_0_0_1_3_11256).siIdx (ix4 i t k c) ⟨0, by decide⟩)).toInt.toNat (128 - 1) + 0 + 0 = s.val
    rw [e, h]
    rw [word_toInt]
    have := s.isLt
    simp; omega
  · show 0 + 0 + c.val = c.val
    omega

theorem rIdx_at (x : FVec Ideal S4x256x2048 .f32) (tf : FVec Ideal S4x256x128 .f32)
    (x' : Fin 4 → Fin 256 → Fin 2048 → ℝ) (tf' : Fin 4 → Fin 256 → Fin 128 → ℝ)
    (hx : ∀ i c t, x (ix3 i c t) = (x' i c t : EReal)) (htf : ∀ i c t, tf (ix3 i c t) = (tf' i c t : EReal))
    (i : Fin 4) (t : Fin 2048) (k : Fin 6) (z : Fin 1) :
    rIdx (rDist x tf) (ix4 i t k z) = BitVec.ofNat 32 (pick (fun c => x' i c t) (tf' i) k.val).val := by
  pointwise [rIdx]
  exact topk_idx (rDist x tf) i t _ (fun _ => EReal.coe_lt_top _) (rDist_real x tf x' tf' hx htf i t) k

theorem fix_word : ∀ s : Fin 128, Scalar.select (IntOp.cmpi .slt (BitVec.ofNat 32 s.val) 0#32)
    (IntOp.addi (BitVec.ofNat 32 s.val) 128#32) (BitVec.ofNat 32 s.val) = BitVec.ofNat 32 s.val := by decide

theorem rFix_at (d : FVec Ideal S4x2048x128 .f32) (i : Fin 4) (t : Fin 2048) (k : Fin 6) (z : Fin 1) (s : Fin 128)
    (h : rIdx d (ix4 i t k z) = BitVec.ofNat 32 s.val) : rFix d (ix4 i t k z) = BitVec.ofNat 32 s.val := by
  have e : rFix d (ix4 i t k z) = Scalar.select (IntOp.cmpi .slt (rIdx d (ix4 i t k z)) 0#32)
    (IntOp.addi (rIdx d (ix4 i t k z)) 128#32) (rIdx d (ix4 i t k z)) := rfl
  rw [e, h, fix_word]

theorem in_range_word : ∀ s : Fin 128, IntOp.andi (IntOp.cmpi .sge (BitVec.ofNat 32 s.val) 0#32)
    (IntOp.cmpi .sle (BitVec.ofNat 32 s.val) 127#32) = 1#1 := by decide

theorem rNbr_at (tf : FVec Ideal S4x256x128 .f32) (d : IVec S4x2048x6x1 32) (i : Fin 4) (t : Fin 2048) (k : Fin 6) (c : Fin 256)
    (s : Fin 128) (h : d (ix4 i t k 0) = BitVec.ofNat 32 s.val) : rNbr tf d (ix4 i t k c) = tf (ix3 i c s) := by
  pointwise [rNbr]
  have e : ∀ x : Fin 1, IntOp.andi (IntOp.cmpi .sge (d (ix4 i t k x)) 0#32) (IntOp.cmpi .sle (d (ix4 i t k x)) 127#32) = 1#1 := by
    intro x
    rw [Fin.fin_one_eq_zero x, h, in_range_word]
  simp only [e]
  have e2 : Finset.fold IntOp.andi 1#1 (fun _ : Fin 1 => 1#1) Finset.univ = 1#1 := by decide
  rw [e2, gather_idx _ d i t k c s h]
  pointwise

theorem rMsg_at (x : FVec Ideal S4x256x2048 .f32) (nb : FVec Ideal S4x2048x6x256 .f32) (W : FVec Ideal S32x8x16 .f32)
    (b : FVec Ideal S256 .f32) (x' : Fin 256 → ℝ) (nb' : Fin 256 → ℝ)  (W' : Fin 32 → Fin 8 → Fin 16 → ℝ)
    (i : Fin 4) (t : Fin 2048) (k : Fin 6) (c : Fin 256)
    (hx : ∀ c, x (ix3 i c t) = (x' c : EReal)) (hnb : ∀ c, nb (ix4 i t k c) = (nb' c : EReal))
    (hW : ∀ g o j, W (ix3 g o j) = (W' g o j : EReal)) :
    rMsg x nb W b (ix4 i t k c) = (if c.val < 128 then (own x' W' c : EReal) else ((own nb' W' c - own x' W' c : ℝ) : EReal)) + b (ix1 c) := by
  pointwise [rMsg, rXt]
  simp only [hx, hnb, hW, ← EReal.coe_sub, ← coe_dite, ← EReal.coe_mul, ← coe_sum, ← EReal.coe_add]
  congr 1
  unfold own
  have hc := c.isLt
  by_cases h : c.val < 128
  · rw [if_pos h]
    congr 1
    refine Finset.sum_congr rfl fun j _ => congrArg (W' _ _ j * ·) ?_
    have hj := j.isLt
    rw [dif_pos (by omega)]
    congr 2; omega
  · rw [if_neg h, ← Finset.sum_sub_distrib]
    congr 1
    refine Finset.sum_congr rfl fun j _ => ?_
    have hj := j.isLt
    have e : (⟨c.val / 8 * 16 + j.val - 256, by omega⟩ : Fin 256) = ⟨c.val / 8 % 16 * 16 + j.val, by omega⟩ :=
      Fin.mk.injEq .. |>.mpr (by omega)
    rw [dif_neg (by omega), e, mul_sub]

theorem rLayer_real (x : FVec Ideal S4x256x2048 .f32) (tf : FVec Ideal S4x256x128 .f32) (W : FVec Ideal S32x8x16 .f32)
    (b : FVec Ideal S256 .f32) (x' : Fin 4 → Fin 256 → Fin 2048 → ℝ) (tf' : Fin 4 → Fin 256 → Fin 128 → ℝ)
    (W' : Fin 32 → Fin 8 → Fin 16 → ℝ)
    (hx : ∀ i c t, x (ix3 i c t) = (x' i c t : EReal)) (htf : ∀ i c t, tf (ix3 i c t) = (tf' i c t : EReal))
    (hW : ∀ g o j, W (ix3 g o j) = (W' g o j : EReal)) (i : Fin 4) (c : Fin 256) (t : Fin 2048) :
    rLayer x tf W b (ix3 i c t) = layer (fun c => x' i c t) (tf' i) W' (fun c => b (ix1 c)) c := by
  have hm : ∀ k : Fin 6, rMsg x (rNbr tf (rFix (rDist x tf))) W b (ix4 i t k c)
      = (if c.val < 128 then (own (fun c => x' i c t) W' c : EReal)
          else ((own (fun c' => tf' i c' (pick (fun c => x' i c t) (tf' i) k.val)) W' c : ℝ) : EReal)
            + ((-own (fun c => x' i c t) W' c : ℝ) : EReal)) + b (ix1 c) := by
    intro k
    rw [rMsg_at x _ W b (fun c => x' i c t) (fun c' => tf' i c' (pick (fun c => x' i c t) (tf' i) k.val)) W' i t k c
      (fun c => hx i c t) (fun c' => ?_) hW]
    · rw [← EReal.coe_add, ← sub_eq_add_neg]
    · rw [rNbr_at tf _ i t k c' _ (rFix_at _ i t k 0 _ (rIdx_at x tf x' tf' hx htf i t k 0)), htf]
  unfold rLayer
  pointwise [rOut]
  simp only [hm, bits_ninf, hx]
  rw [fold_max_add]
  unfold layer agg
  rw [add_assoc]
  congr 3
  split_ifs with h
  · exact fold_max_const (by decide) _
  · exact fold_max_add _ _ _

/-- The reference's result is the network's. -/
theorem ref_real (X : FVec Ideal S4x256x2048 .f32) (T : FVec Ideal S4x128x16 .f32) (W1 : FVec Ideal S256x64x3 .f32)
    (b1 g1 be1 : FVec Ideal S256 .f32) (Wt : FVec Ideal S256x4x1 .f32) (bt gt bet : FVec Ideal S256 .f32)
    (Wg1 : FVec Ideal S32x8x16 .f32) (bg1 : FVec Ideal S256 .f32) (Wg2 : FVec Ideal S32x8x16 .f32) (bg2 : FVec Ideal S256 .f32)
    (X' : Fin 4 → Fin 256 → Fin 2048 → ℝ) (W1' : Fin 256 → Fin 64 → Fin 3 → ℝ)
    (b1' g1' be1' : Fin 256 → ℝ) (gt' bet' : Fin 256 → ℝ) (Wg1' : Fin 32 → Fin 8 → Fin 16 → ℝ)
    (bg1' : Fin 256 → ℝ) (Wg2' : Fin 32 → Fin 8 → Fin 16 → ℝ)
    (hX : ∀ i c t, X (ix3 i c t) = (X' i c t : EReal))
    (hW1 : ∀ i c t, W1 (ix3 i c t) = (W1' i c t : EReal)) (hb1 : ∀ i, b1 (ix1 i) = (b1' i : EReal))
    (hg1 : ∀ i, g1 (ix1 i) = (g1' i : EReal)) (hbe1 : ∀ i, be1 (ix1 i) = (be1' i : EReal))
    (hgt : ∀ i, gt (ix1 i) = (gt' i : EReal)) (hbet : ∀ i, bet (ix1 i) = (bet' i : EReal))
    (hWg1 : ∀ i c t, Wg1 (ix3 i c t) = (Wg1' i c t : EReal)) (hbg1 : ∀ i, bg1 (ix1 i) = (bg1' i : EReal))
    (hWg2 : ∀ i c t, Wg2 (ix3 i c t) = (Wg2' i c t : EReal)) (i : Fin 4) (c : Fin 256) (t : Fin 2048) :
    REF X T W1 b1 g1 be1 Wt bt gt bet Wg1 bg1 Wg2 bg2 (ix3 i c t)
      = net X' (fun i t j => T (ix3 i t j)) W1' b1' g1' be1' (fun o x => Wt (ix3 o x 0)) (fun o => bt (ix1 o)) gt' bet' Wg1' bg1' Wg2' (fun c => bg2 (ix1 c)) i c t := by
  have h0 := bn_real (conv X W1 b1) g1 be1 _ g1' be1' (conv_real X W1 b1 X' W1' b1' hX hW1 hb1) hg1 hbe1
  have hf := tbn_real (tconv T Wt bt) gt bet _ gt' bet' (tconv_at T Wt bt) hgt hbet
  have h1 : ∀ i c t, rLayer (bn (conv X W1 b1) g1 be1) (tbn (tconv T Wt bt) gt bet) Wg1 bg1 (ix3 i c t)
      = (base1 X' (fun i t j => T (ix3 i t j)) W1' b1' g1' be1' (fun o x => Wt (ix3 o x 0)) (fun o => bt (ix1 o)) gt' bet' Wg1' bg1' i c t : EReal) := by
    intro i c t
    rw [rLayer_real _ _ Wg1 bg1 _ _ Wg1' h0 hf hWg1]
    simp only [hbg1]
    exact layer_eq _ _ _ _ _
  show rLayer _ _ Wg2 bg2 (ix3 i c t) + X (ix3 i c t) = _
  rw [rLayer_real _ _ Wg2 bg2 _ _ Wg2' h1 hf hWg2, hX]
  rfl

end Cert.RefTerm
end
-- ==== Proof.K0.lean ====
/-
  The convolution kernel's two results at a point: the convolution, and its sums along the snippets.
-/
module

public import proofs.«01_k».proof.Proof.Gen.KernelIdeal.Frame
public import proofs.«01_k».proof.Proof.Spec
public import Idealize.ShloMosaic.Lib.Pipeline.ValueKit

@[expose] public section

set_option maxRecDepth 16384
noncomputable section

open Idealize.ShloMosaic Idealize.ShloMosaic.TcCoe Idealize.SL.Sem Idealize.ShloMosaic.StableHlo

namespace Cert.K0

open Cert.KernelIdeal Cert.KernelIdeal.Gen Cert.Num Cert.Spec

/-- A block-diagonal tap of the main convolution: its product with a real vector is the group's sum. -/
def Tap (w : Vec Ideal S256x256 .f32) (W : Fin 256 → Fin 64 → ℝ) : Prop :=
  ∀ (o : Fin 256) (v : Fin 256 → ℝ), (∑ k, w (ix2 o k) * (v k : EReal))
    = ((∑ x : Fin 64, W o x * v ⟨o.val / 64 * 64 + x.val, by omega⟩ : ℝ) : EReal)

section
variable {x : Vec Ideal S1x256x2048 .f32} {w0 w1 w2 : Vec Ideal S256x256 .f32} {b : Vec Ideal S256x1 .f32}
  {X : Fin 4 → Fin 256 → Fin 2048 → ℝ} {W : Fin 256 → Fin 64 → Fin 3 → ℝ} {b' : Fin 256 → ℝ} {i : Fin 4}
  (hx : ∀ c t, x (ix3 0 c t) = (X i c t : EReal))
  (h0 : Tap w0 fun o x => W o x 0) (h1 : Tap w1 fun o x => W o x 1) (h2 : Tap w2 fun o x => W o x 2)
  (hb : ∀ o, b (ix2 o 0) = (b' o : EReal))
include hx h0 h1 h2 hb

theorem y_at (o : Fin 256) (t : Fin 2048) : k0_pay2 x w0 w1 w2 b (ix2 o t) = (cY X W b' i o t : EReal) := by
  unfold Tap at h0 h1 h2
  pointwise [k0_pay2]
  simp only [hx, hb, h0, h1, h2]
  have e : (∑ x : Fin 64, W o x 1 * X i ⟨o.val / 64 * 64 + x.val, by omega⟩ t)
      + (if h : t.val < 1 then 0 else ∑ x : Fin 64, W o x 0 * X i ⟨o.val / 64 * 64 + x.val, by omega⟩ ⟨t.val - 1, by omega⟩)
      + (if h : t.val < 2047 then ∑ x : Fin 64, W o x 2 * X i ⟨o.val / 64 * 64 + x.val, by omega⟩ ⟨1 + t.val, by omega⟩ else 0)
      + b' o = cY X W b' i o t := by
    unfold cY
    rw [add_comm (∑ x : Fin 64, W o x 1 * _)]
    refine congrArg₂ (· + ·) (congrArg₂ (· + ·) (congrArg₂ (· + ·) ?_ rfl) ?_) rfl
    · by_cases h : t.val < 1
      · rw [dif_pos h]
        symm
        refine Finset.sum_eq_zero fun x _ => ?_
        rw [dif_neg (by omega), mul_zero]
      · rw [dif_neg h]
        refine Finset.sum_congr rfl fun x _ => ?_
        rw [dif_pos (by omega)]
    · by_cases h : t.val < 2047
      · rw [dif_pos h]
        refine Finset.sum_congr rfl fun x _ => ?_
        rw [dif_pos (by omega)]
        have e : (⟨1 + t.val, by omega⟩ : Fin 2048) = ⟨t.val + 1, by omega⟩ := Fin.mk.injEq .. |>.mpr (by omega)
        rw [e]
      · rw [dif_neg h]
        symm
        refine Finset.sum_eq_zero fun x _ => ?_
        rw [dif_neg (by omega), mul_zero]
  rw [← e]
  simp only [← coe_dite, EReal.coe_add, ← EReal.coe_zero]

theorem out5_at (o : Fin 256) (t : Fin 2048) : k0_pay3 x w0 w1 w2 b (ix3 0 o t) = (cY X W b' i o t : EReal) := by
  pointwise [k0_pay3]
  exact y_at hx h0 h1 h2 hb o t

theorem sum_at (o : Fin 256) : k0_pay1 (k0_pay4 x w0 w1 w2 b) (ix3 0 o 0) = ((∑ t, cY X W b' i o t : ℝ) : EReal) := by
  pointwise [k0_pay1, k0_pay4]
  simp only [y_at hx h0 h1 h2 hb, ← EReal.coe_mul, ← coe_sum]

theorem sq_at (o : Fin 256) : k0_pay1 (k0_pay4 x w0 w1 w2 b) (ix3 0 o 1) = ((∑ t, cY X W b' i o t * cY X W b' i o t : ℝ) : EReal) := by
  pointwise [k0_pay1, k0_pay4]
  simp only [y_at hx h0 h1 h2 hb, ← EReal.coe_mul, ← coe_sum]
end

end Cert.K0
end
-- ==== Proof.K1.lean ====
/-
  The topic kernel's results at a point: the topics' features, their messages' second halves and their squares.
-/
module

public import proofs.«01_k».proof.Proof.Gen.KernelIdeal.Frame
public import proofs.«01_k».proof.Proof.Spec
public import Idealize.ShloMosaic.Lib.Pipeline.ValueKit

@[expose] public section

set_option maxRecDepth 16384
noncomputable section

open Idealize.ShloMosaic Idealize.ShloMosaic.TcCoe Idealize.SL.Sem Idealize.ShloMosaic.StableHlo

namespace Cert.K1

open Cert.KernelIdeal Cert.KernelIdeal.Gen Cert.Num Cert.Spec

theorem idx3_eq {p q r : ℕ} (x : (⟨3, ![p, q, r]⟩ : Shape).Idx) (i : Fin p) (j : Fin q) (k : Fin r)
    (h0 : (x 0).val = i.val) (h1 : (x 1).val = j.val) (h2 : (x 2).val = k.val) : x = ix3 i j k := by
  funext d
  apply Fin.ext
  fin_cases d
  exacts [h0, h1, h2]

section
variable {v1 : FVec Ideal S16x256 .f32} {v3 v5 v7 v32 : FVec Ideal S1x256 .f32} {v13 v21 v29 : FVec Ideal S128x256 .f32}
  {v33 : Vec Ideal S1x128x16 .f32} {Y : Fin 4 → Fin 256 → Fin 128 → EReal} {g b : Fin 256 → ℝ}
  (h0 : ∀ t c, v13 (ix2 t c) = Y 0 c t) (h1 : ∀ t c, v21 (ix2 t c) = Y 1 c t)
  (h2 : ∀ t c, v29 (ix2 t c) = Y 2 c t) (h3 : ∀ t c, k1_pay10 v1 v3 v33 (ix2 t c) = Y 3 c t)
  (h32 : ∀ c, v32 (ix2 0 c) = ∑ t, Y 0 c t + ∑ t, Y 1 c t + ∑ t, Y 2 c t)
include h3 h32
theorem mean_at (c : Fin 256) : k1_pay11 v1 v3 v32 v33 (ix2 0 c) = meanE Y c := by
  pointwise [k1_pay11]
  simp only [h3, h32, bits_512]
  unfold meanE
  rw [Fin.sum_univ_four]

include h0 h1 h2
theorem a_at (hg : ∀ c, v5 (ix2 0 c) = (g c : EReal)) (c : Fin 256) :
    k1_pay12 v1 v3 v5 v13 v21 v29 v32 v33 (ix2 0 c) = (g c : EReal) * Ideal.rsqrt (variE Y c + (eps : EReal)) := by
  pointwise [k1_pay12]
  simp only [h0, h1, h2, h3, hg, mean_at h3 h32, bits_512, bits_eps]
  unfold variE
  rw [Fin.sum_univ_four]

theorem d_at (hg : ∀ c, v5 (ix2 0 c) = (g c : EReal)) (hb : ∀ c, v7 (ix2 0 c) = (b c : EReal)) (c : Fin 256) :
    k1_pay13 v1 v3 v5 v7 v13 v21 v29 v32 v33 (ix2 0 c)
      = (b c : EReal) - meanE Y c * ((g c : EReal) * Ideal.rsqrt (variE Y c + (eps : EReal))) := by
  pointwise [k1_pay13]
  simp only [hb, mean_at h3 h32, a_at h0 h1 h2 h3 h32 hg]
end

section
variable {x0 : Vec Ideal S4x128x16 .f32} {x1 : Vec Ideal S16x256 .f32} {x2 : Vec Ideal S8x256 .f32} {x3 x4 : Vec Ideal S256x128 .f32}
  {T : Fin 4 → Fin 128 → Fin 16 → EReal} {Wt : Fin 256 → Fin 4 → EReal} {bt : Fin 256 → EReal} {gt bet : Fin 256 → ℝ}
  {W1 W2 : Fin 32 → Fin 8 → Fin 16 → ℝ}
  (hx : ∀ i t j, x0 (ix3 i t j) = T i t j)
  (hw : ∀ (c : Fin 256) (v : Fin 16 → EReal), (∑ j, v j * x1 (ix2 j c))
    = ∑ x : Fin 4, Wt c x * v ⟨c.val / 64 * 4 + x.val, four_lt c x⟩)
  (hbt : ∀ c, x2 (ix2 0 c) = bt c) (hgt : ∀ c, x2 (ix2 1 c) = (gt c : EReal)) (hbet : ∀ c, x2 (ix2 2 c) = (bet c : EReal))

include hx hw hbt
theorem y0_at (t : Fin 128) (c : Fin 256) : k1_pay39 x0 x1 x2 x3 x4 (ix2 t c) = tY T Wt bt 0 c t := by
  pointwise [k1_pay39, k1_pay6, k1_pay2, k1_pay3]
  simp only [hx, hw, hbt]
  rfl
theorem y1_at (t : Fin 128) (c : Fin 256) : k1_pay40 x0 x1 x2 x3 x4 (ix2 t c) = tY T Wt bt 1 c t := by
  pointwise [k1_pay40, k1_pay7, k1_pay2, k1_pay3]
  simp only [hx, hw, hbt]
  rfl
theorem y2_at (t : Fin 128) (c : Fin 256) : k1_pay41 x0 x1 x2 x3 x4 (ix2 t c) = tY T Wt bt 2 c t := by
  pointwise [k1_pay41, k1_pay8, k1_pay2, k1_pay3]
  simp only [hx, hw, hbt]
  rfl
theorem y3_at (t : Fin 128) (c : Fin 256) : k1_pay43 x0 x1 x2 x3 x4 (ix2 t c) = tY T Wt bt 3 c t := by
  pointwise [k1_pay43, k1_pay10, k1_pay36, k1_pay37, k1_pay2, k1_pay3]
  simp only [hx, hw, hbt]
  rfl
theorem s_at (c : Fin 256) : k1_pay42 x0 x1 x2 x3 x4 (ix2 0 c)
    = ∑ t, tY T Wt bt 0 c t + ∑ t, tY T Wt bt 1 c t + ∑ t, tY T Wt bt 2 c t := by
  have e0 := fun t => y0_at (x3 := x3) (x4 := x4) hx hw hbt t c
  have e1 := fun t => y1_at (x3 := x3) (x4 := x4) hx hw hbt t c
  have e2 := fun t => y2_at (x3 := x3) (x4 := x4) hx hw hbt t c
  unfold k1_pay39 at e0
  unfold k1_pay40 at e1
  unfold k1_pay41 at e2
  unfold k1_pay42
  pointwise [k1_pay9]
  simp only [e0, e1, e2]

include hgt
theorem A_at (c : Fin 256) : k1_pay44 x0 x1 x2 x3 x4 (ix2 0 c)
    = (gt c : EReal) * Ideal.rsqrt (variE (tY T Wt bt) c + (eps : EReal)) :=
  a_at (y0_at hx hw hbt) (y1_at hx hw hbt) (y2_at hx hw hbt) (y3_at (x3 := x3) (x4 := x4) hx hw hbt) (s_at hx hw hbt) (by
    intro c
    pointwise [k1_pay38, k1_pay4]
    exact hgt c) c
include hbet
theorem D_at (c : Fin 256) : k1_pay45 x0 x1 x2 x3 x4 (ix2 0 c)
    = (bet c : EReal) - meanE (tY T Wt bt) c * ((gt c : EReal) * Ideal.rsqrt (variE (tY T Wt bt) c + (eps : EReal))) :=
  d_at (y0_at hx hw hbt) (y1_at hx hw hbt) (y2_at hx hw hbt) (y3_at (x3 := x3) (x4 := x4) hx hw hbt) (s_at hx hw hbt) (by
    intro c
    pointwise [k1_pay38, k1_pay4]
    exact hgt c) (by
    intro c
    pointwise [k1_pay5]
    exact hbet c) c

theorem f0_at (t : Fin 128) (c : Fin 256) : k1_pay16 (k1_pay39 x0 x1 x2 x3 x4) (k1_pay44 x0 x1 x2 x3 x4) (k1_pay45 x0 x1 x2 x3 x4) (ix2 t c) = (feat T Wt bt gt bet 0 c t : EReal) := by
  pointwise [k1_pay16]
  rw [y0_at (x3 := x3) (x4 := x4) hx hw hbt, A_at (x3 := x3) (x4 := x4) hx hw hbt hgt, D_at (x3 := x3) (x4 := x4) hx hw hbt hgt hbet,
    normE_affine]
  rfl
theorem f1_at (t : Fin 128) (c : Fin 256) : k1_pay48 x0 x1 x2 x3 x4 (ix2 t c) = (feat T Wt bt gt bet 1 c t : EReal) := by
  unfold k1_pay48
  pointwise [k1_pay21]
  rw [y1_at (x3 := x3) (x4 := x4) hx hw hbt, A_at (x3 := x3) (x4 := x4) hx hw hbt hgt, D_at (x3 := x3) (x4 := x4) hx hw hbt hgt hbet,
    normE_affine]
  rfl
theorem f2_at (t : Fin 128) (c : Fin 256) : k1_pay26 (k1_pay41 x0 x1 x2 x3 x4) (k1_pay44 x0 x1 x2 x3 x4) (k1_pay45 x0 x1 x2 x3 x4) (ix2 t c) = (feat T Wt bt gt bet 2 c t : EReal) := by
  pointwise [k1_pay26]
  rw [y2_at (x3 := x3) (x4 := x4) hx hw hbt, A_at (x3 := x3) (x4 := x4) hx hw hbt hgt, D_at (x3 := x3) (x4 := x4) hx hw hbt hgt hbet,
    normE_affine]
  rfl
theorem f3_at (t : Fin 128) (c : Fin 256) : k1_pay31 (k1_pay43 x0 x1 x2 x3 x4) (k1_pay44 x0 x1 x2 x3 x4) (k1_pay45 x0 x1 x2 x3 x4) (ix2 t c) = (feat T Wt bt gt bet 3 c t : EReal) := by
  pointwise [k1_pay31]
  rw [y3_at (x3 := x3) (x4 := x4) hx hw hbt, A_at (x3 := x3) (x4 := x4) hx hw hbt hgt, D_at (x3 := x3) (x4 := x4) hx hw hbt hgt hbet,
    normE_affine]
  rfl

theorem tf_at (i : Fin 4) (t : Fin 128) (c : Fin 256) : out1_5 x0 x1 x2 x3 x4 (ix3 i t c) = (feat T Wt bt gt bet i c t : EReal) := by
  have e0 := f0_at (x3 := x3) (x4 := x4) hx hw hbt hgt hbet
  have e1 := f1_at (x3 := x3) (x4 := x4) hx hw hbt hgt hbet
  have e2 := f2_at (x3 := x3) (x4 := x4) hx hw hbt hgt hbet
  have e3 := f3_at (x3 := x3) (x4 := x4) hx hw hbt hgt hbet
  unfold out1_5
  canon_tiles x h
  · obtain rfl : i = 3 := Fin.ext (by have := h0.trans (congrArg (3 + ·) (Nat.lt_one_iff.mp x0_lt)); exact this)
    obtain rfl := idx3_eq x 0 t c (Nat.lt_one_iff.mp x0_lt) h1.symm h2.symm
    pointwise [k1_pay32]
    exact e3 _ _
  · obtain rfl : i = 2 := Fin.ext (by have := h0.trans (congrArg (2 + ·) (Nat.lt_one_iff.mp x0_lt)); exact this)
    obtain rfl := idx3_eq x 0 t c (Nat.lt_one_iff.mp x0_lt) h1.symm h2.symm
    pointwise [k1_pay27]
    exact e2 _ _
  · obtain rfl : i = 1 := Fin.ext (by have := h0.trans (congrArg (1 + ·) (Nat.lt_one_iff.mp x0_lt)); exact this)
    obtain rfl := idx3_eq x 0 t c (Nat.lt_one_iff.mp x0_lt) h1.symm h2.symm
    pointwise [k1_pay22]
    exact e1 _ _
  · obtain rfl : i = 0 := Fin.ext (by have := h0.trans (Nat.lt_one_iff.mp x0_lt); exact this)
    obtain rfl := idx3_eq x 0 t c (Nat.lt_one_iff.mp x0_lt) h1.symm h2.symm
    pointwise [k1_pay17]
    exact e0 _ _

theorem tm1_at (hm : ∀ (r : Fin 128) (v : Fin 256 → ℝ), (∑ c, (v c : EReal) * x3 (ix2 c r)) = (own v W1 ⟨128 + r.val, up_lt r⟩ : EReal)) (i : Fin 4) (r : Fin 128) (t : Fin 128) : out1_6 x0 x1 x2 x3 x4 (ix3 i r t) = (own (fun c => feat T Wt bt gt bet i c t) W1 ⟨128 + r.val, up_lt r⟩ : EReal) := by
  have e0 := f0_at (x3 := x3) (x4 := x4) hx hw hbt hgt hbet
  have e1 := f1_at (x3 := x3) (x4 := x4) hx hw hbt hgt hbet
  have e2 := f2_at (x3 := x3) (x4 := x4) hx hw hbt hgt hbet
  have e3 := f3_at (x3 := x3) (x4 := x4) hx hw hbt hgt hbet
  unfold out1_6
  canon_tiles x h
  · obtain rfl : i = 3 := Fin.ext (by have := h0.trans (congrArg (3 + ·) (Nat.lt_one_iff.mp x0_lt)); exact this)
    obtain rfl := idx3_eq x 0 r t (Nat.lt_one_iff.mp x0_lt) h1.symm h2.symm
    pointwise [k1_pay33, k1_pay46, k1_pay14]
    simp only [e3, hm]
  · obtain rfl : i = 2 := Fin.ext (by have := h0.trans (congrArg (2 + ·) (Nat.lt_one_iff.mp x0_lt)); exact this)
    obtain rfl := idx3_eq x 0 r t (Nat.lt_one_iff.mp x0_lt) h1.symm h2.symm
    pointwise [k1_pay28, k1_pay46, k1_pay14]
    simp only [e2, hm]
  · obtain rfl : i = 1 := Fin.ext (by have := h0.trans (congrArg (1 + ·) (Nat.lt_one_iff.mp x0_lt)); exact this)
    obtain rfl := idx3_eq x 0 r t (Nat.lt_one_iff.mp x0_lt) h1.symm h2.symm
    pointwise [k1_pay23, k1_pay46, k1_pay14]
    simp only [e1, hm]
  · obtain rfl : i = 0 := Fin.ext (by have := h0.trans (Nat.lt_one_iff.mp x0_lt); exact this)
    obtain rfl := idx3_eq x 0 r t (Nat.lt_one_iff.mp x0_lt) h1.symm h2.symm
    pointwise [k1_pay18, k1_pay46, k1_pay14]
    simp only [e0, hm]

theorem tm2_at (hm : ∀ (r : Fin 128) (v : Fin 256 → ℝ), (∑ c, (v c : EReal) * x4 (ix2 c r)) = (own v W2 ⟨128 + r.val, up_lt r⟩ : EReal)) (i : Fin 4) (r : Fin 128) (t : Fin 128) : out1_7 x0 x1 x2 x3 x4 (ix3 i r t) = (own (fun c => feat T Wt bt gt bet i c t) W2 ⟨128 + r.val, up_lt r⟩ : EReal) := by
  have e0 := f0_at (x3 := x3) (x4 := x4) hx hw hbt hgt hbet
  have e1 := f1_at (x3 := x3) (x4 := x4) hx hw hbt hgt hbet
  have e2 := f2_at (x3 := x3) (x4 := x4) hx hw hbt hgt hbet
  have e3 := f3_at (x3 := x3) (x4 := x4) hx hw hbt hgt hbet
  unfold out1_7
  canon_tiles x h
  · obtain rfl : i = 3 := Fin.ext (by have := h0.trans (congrArg (3 + ·) (Nat.lt_one_iff.mp x0_lt)); exact this)
    obtain rfl := idx3_eq x 0 r t (Nat.lt_one_iff.mp x0_lt) h1.symm h2.symm
    pointwise [k1_pay34, k1_pay47, k1_pay15]
    simp only [e3, hm]
  · obtain rfl : i = 2 := Fin.ext (by have := h0.trans (congrArg (2 + ·) (Nat.lt_one_iff.mp x0_lt)); exact this)
    obtain rfl := idx3_eq x 0 r t (Nat.lt_one_iff.mp x0_lt) h1.symm h2.symm
    pointwise [k1_pay29, k1_pay47, k1_pay15, k1_pay49]
    simp only [e2, hm]
  · obtain rfl : i = 1 := Fin.ext (by have := h0.trans (congrArg (1 + ·) (Nat.lt_one_iff.mp x0_lt)); exact this)
    obtain rfl := idx3_eq x 0 r t (Nat.lt_one_iff.mp x0_lt) h1.symm h2.symm
    pointwise [k1_pay24, k1_pay47, k1_pay15]
    simp only [e1, hm]
  · obtain rfl : i = 0 := Fin.ext (by have := h0.trans (Nat.lt_one_iff.mp x0_lt); exact this)
    obtain rfl := idx3_eq x 0 r t (Nat.lt_one_iff.mp x0_lt) h1.symm h2.symm
    pointwise [k1_pay19, k1_pay15]
    simp only [e0, hm]

theorem t2_at (i : Fin 4) (s : Fin 128) (r : Fin 128) : out1_8 x0 x1 x2 x3 x4 (ix3 i s r) = ((∑ c, feat T Wt bt gt bet i c s * feat T Wt bt gt bet i c s : ℝ) : EReal) := by
  have e0 := f0_at (x3 := x3) (x4 := x4) hx hw hbt hgt hbet
  have e1 := f1_at (x3 := x3) (x4 := x4) hx hw hbt hgt hbet
  have e2 := f2_at (x3 := x3) (x4 := x4) hx hw hbt hgt hbet
  have e3 := f3_at (x3 := x3) (x4 := x4) hx hw hbt hgt hbet
  unfold out1_8
  canon_tiles x h
  · obtain rfl : i = 3 := Fin.ext (by have := h0.trans (congrArg (3 + ·) (Nat.lt_one_iff.mp x0_lt)); exact this)
    obtain rfl := idx3_eq x 0 s r (Nat.lt_one_iff.mp x0_lt) h1.symm h2.symm
    pointwise [k1_pay1, k1_pay35]
    simp only [e3, ← EReal.coe_mul, ← coe_sum]
  · obtain rfl : i = 2 := Fin.ext (by have := h0.trans (congrArg (2 + ·) (Nat.lt_one_iff.mp x0_lt)); exact this)
    obtain rfl := idx3_eq x 0 s r (Nat.lt_one_iff.mp x0_lt) h1.symm h2.symm
    pointwise [k1_pay30, k1_pay49]
    simp only [e2, ← EReal.coe_mul, ← coe_sum]
  · obtain rfl : i = 1 := Fin.ext (by have := h0.trans (congrArg (1 + ·) (Nat.lt_one_iff.mp x0_lt)); exact this)
    obtain rfl := idx3_eq x 0 s r (Nat.lt_one_iff.mp x0_lt) h1.symm h2.symm
    pointwise [k1_pay25]
    simp only [e1, ← EReal.coe_mul, ← coe_sum]
  · obtain rfl : i = 0 := Fin.ext (by have := h0.trans (Nat.lt_one_iff.mp x0_lt); exact this)
    obtain rfl := idx3_eq x 0 s r (Nat.lt_one_iff.mp x0_lt) h1.symm h2.symm
    pointwise [k1_pay20]
    simp only [e0, ← EReal.coe_mul, ← coe_sum]
end

end Cert.K1
end
-- ==== Proof.Host.lean ====
/-
  What the host's stretches of operations leave: the block-diagonal weights, the spread biases and the scale and shift of
  the snippets' normalisation.
-/
module

public import proofs.«01_k».proof.Proof.Gen.KernelIdeal.Frame
public import proofs.«01_k».proof.Proof.K0
public import proofs.«01_k».proof.Proof.K1
public import Idealize.ShloMosaic.Lib.Pipeline.ValueKit
public import Idealize.ShloMosaic.Lib.StableHlo.ReadAt

@[expose] public section

set_option maxRecDepth 16384
noncomputable section

open Idealize.ShloMosaic Idealize.ShloMosaic.TcCoe Idealize.SL.Sem Idealize.ShloMosaic.StableHlo

namespace Cert.Host

set_option maxHeartbeats 2000000
open Cert.KernelIdeal Cert.KernelIdeal.Gen Cert.Num Cert.Spec

/-- The pieces along the diagonal, in order. -/
def bd64 (a : Fin 4 → FVec Ideal S64x64 .f32) : FVec Ideal S256x256 .f32 :=
  concatenate S256x256 0 [⟨S64x256, pad S64x256 ![0, 0] ![0, 192] ![0, 0] (a 0) (constant S_ .f32 0x00000000#32) pads_S64x64_S64x256_000_01920 h_S_⟩,
    ⟨S64x256, pad S64x256 ![0, 64] ![0, 128] ![0, 0] (a 1) (constant S_ .f32 0x00000000#32) pads_S64x64_S64x256_000_641280 h_S_⟩,
    ⟨S64x256, pad S64x256 ![0, 128] ![0, 64] ![0, 0] (a 2) (constant S_ .f32 0x00000000#32) pads_S64x64_S64x256_000_128640 h_S_⟩,
    ⟨S64x256, pad S64x256 ![0, 192] ![0, 0] ![0, 0] (a 3) (constant S_ .f32 0x00000000#32) pads_S64x64_S64x256_000_19200 h_S_⟩] concatenates_S64x256_S64x256_S64x256_S64x256_S256x256_d0

/-- The pieces along the diagonal, in order. -/
def bd4 (a : Fin 4 → FVec Ideal S4x64 .f32) : FVec Ideal S16x256 .f32 :=
  concatenate S16x256 0 [⟨S4x256, pad S4x256 ![0, 0] ![0, 192] ![0, 0] (a 0) (constant S_ .f32 0x00000000#32) pads_S4x64_S4x256_000_01920 h_S_⟩,
    ⟨S4x256, pad S4x256 ![0, 64] ![0, 128] ![0, 0] (a 1) (constant S_ .f32 0x00000000#32) pads_S4x64_S4x256_000_641280 h_S_⟩,
    ⟨S4x256, pad S4x256 ![0, 128] ![0, 64] ![0, 0] (a 2) (constant S_ .f32 0x00000000#32) pads_S4x64_S4x256_000_128640 h_S_⟩,
    ⟨S4x256, pad S4x256 ![0, 192] ![0, 0] ![0, 0] (a 3) (constant S_ .f32 0x00000000#32) pads_S4x64_S4x256_000_19200 h_S_⟩] concatenates_S4x256_S4x256_S4x256_S4x256_S16x256_d0

/-- The pieces along the diagonal, in order. -/
def bd16 (a : Fin 16 → FVec Ideal S8x16 .f32) : FVec Ideal S128x256 .f32 :=
  concatenate S128x256 0 [⟨S8x256, pad S8x256 ![0, 0] ![0, 240] ![0, 0] (a 0) (constant S_ .f32 0x00000000#32) pads_S8x16_S8x256_000_02400 h_S_⟩,
    ⟨S8x256, pad S8x256 ![0, 16] ![0, 224] ![0, 0] (a 1) (constant S_ .f32 0x00000000#32) pads_S8x16_S8x256_000_162240 h_S_⟩,
    ⟨S8x256, pad S8x256 ![0, 32] ![0, 208] ![0, 0] (a 2) (constant S_ .f32 0x00000000#32) pads_S8x16_S8x256_000_322080 h_S_⟩,
    ⟨S8x256, pad S8x256 ![0, 48] ![0, 192] ![0, 0] (a 3) (constant S_ .f32 0x00000000#32) pads_S8x16_S8x256_000_481920 h_S_⟩,
    ⟨S8x256, pad S8x256 ![0, 64] ![0, 176] ![0, 0] (a 4) (constant S_ .f32 0x00000000#32) pads_S8x16_S8x256_000_641760 h_S_⟩,
    ⟨S8x256, pad S8x256 ![0, 80] ![0, 160] ![0, 0] (a 5) (constant S_ .f32 0x00000000#32) pads_S8x16_S8x256_000_801600 h_S_⟩,
    ⟨S8x256, pad S8x256 ![0, 96] ![0, 144] ![0, 0] (a 6) (constant S_ .f32 0x00000000#32) pads_S8x16_S8x256_000_961440 h_S_⟩,
    ⟨S8x256, pad S8x256 ![0, 112] ![0, 128] ![0, 0] (a 7) (constant S_ .f32 0x00000000#32) pads_S8x16_S8x256_000_1121280 h_S_⟩,
    ⟨S8x256, pad S8x256 ![0, 128] ![0, 112] ![0, 0] (a 8) (constant S_ .f32 0x00000000#32) pads_S8x16_S8x256_000_1281120 h_S_⟩,
    ⟨S8x256, pad S8x256 ![0, 144] ![0, 96] ![0, 0] (a 9) (constant S_ .f32 0x00000000#32) pads_S8x16_S8x256_000_144960 h_S_⟩,
    ⟨S8x256, pad S8x256 ![0, 160] ![0, 80] ![0, 0] (a 10) (constant S_ .f32 0x00000000#32) pads_S8x16_S8x256_000_160800 h_S_⟩,
    ⟨S8x256, pad S8x256 ![0, 176] ![0, 64] ![0, 0] (a 11) (constant S_ .f32 0x00000000#32) pads_S8x16_S8x256_000_176640 h_S_⟩,
    ⟨S8x256, pad S8x256 ![0, 192] ![0, 48] ![0, 0] (a 12) (constant S_ .f32 0x00000000#32) pads_S8x16_S8x256_000_192480 h_S_⟩,
    ⟨S8x256, pad S8x256 ![0, 208] ![0, 32] ![0, 0] (a 13) (constant S_ .f32 0x00000000#32) pads_S8x16_S8x256_000_208320 h_S_⟩,
    ⟨S8x256, pad S8x256 ![0, 224] ![0, 16] ![0, 0] (a 14) (constant S_ .f32 0x00000000#32) pads_S8x16_S8x256_000_224160 h_S_⟩,
    ⟨S8x256, pad S8x256 ![0, 240] ![0, 0] ![0, 0] (a 15) (constant S_ .f32 0x00000000#32) pads_S8x16_S8x256_000_24000 h_S_⟩] concatenates_S8x256_S8x256_S8x256_S8x256_S8x256_S8x256_S8x256_S8x256_S8x256_S8x256_S8x256_S8x256_S8x256_S8x256_S8x256_S8x256_S128x256_d0

section reads
variable (V : Valuation τ sig (Elt Ideal))

theorem seg0_1 : (StableHlo.after (hostOps0_1 (F := Ideal)) V (Proc.devRef .tc main_v8) : FVec Ideal S256x256 .f32)
    = bd64 ![V (Proc.devRef .tc main_v1), V (Proc.devRef .tc main_v3), V (Proc.devRef .tc main_v5), V (Proc.devRef .tc main_v7)] := by rfl

theorem seg0_3 : (StableHlo.after (hostOps0_3 (F := Ideal)) V (Proc.devRef .tc main_v17) : FVec Ideal S256x256 .f32)
    = bd64 ![V (Proc.devRef .tc main_v10), V (Proc.devRef .tc main_v12), V (Proc.devRef .tc main_v14), V (Proc.devRef .tc main_v16)] := by rfl

theorem seg0_5 : (StableHlo.after (hostOps0_5 (F := Ideal)) V (Proc.devRef .tc main_v26) : FVec Ideal S256x256 .f32)
    = bd64 ![V (Proc.devRef .tc main_v19), V (Proc.devRef .tc main_v21), V (Proc.devRef .tc main_v23), V (Proc.devRef .tc main_v25)] := by rfl

theorem seg0_7 : (StableHlo.after (hostOps0_7 (F := Ideal)) V (Proc.devRef .tc main_v39) : FVec Ideal S16x256 .f32)
    = bd4 ![V (Proc.devRef .tc main_v29), V (Proc.devRef .tc main_v32), V (Proc.devRef .tc main_v35), V (Proc.devRef .tc main_v38)] := by rfl

theorem seg0_9 : (StableHlo.after (hostOps0_9 (F := Ideal)) V (Proc.devRef .tc main_v72) : FVec Ideal S128x256 .f32)
    = bd16 ![V (Proc.devRef .tc main_v41), V (Proc.devRef .tc main_v43), V (Proc.devRef .tc main_v45), V (Proc.devRef .tc main_v47), V (Proc.devRef .tc main_v49), V (Proc.devRef .tc main_v51), V (Proc.devRef .tc main_v53), V (Proc.devRef .tc main_v55), V (Proc.devRef .tc main_v57), V (Proc.devRef .tc main_v59), V (Proc.devRef .tc main_v61), V (Proc.devRef .tc main_v63), V (Proc.devRef .tc main_v65), V (Proc.devRef .tc main_v67), V (Proc.devRef .tc main_v69), V (Proc.devRef .tc main_v71)] := by rfl

theorem seg0_11 : (StableHlo.after (hostOps0_11 (F := Ideal)) V (Proc.devRef .tc main_v105) : FVec Ideal S128x256 .f32)
    = bd16 ![V (Proc.devRef .tc main_v74), V (Proc.devRef .tc main_v76), V (Proc.devRef .tc main_v78), V (Proc.devRef .tc main_v80), V (Proc.devRef .tc main_v82), V (Proc.devRef .tc main_v84), V (Proc.devRef .tc main_v86), V (Proc.devRef .tc main_v88), V (Proc.devRef .tc main_v90), V (Proc.devRef .tc main_v92), V (Proc.devRef .tc main_v94), V (Proc.devRef .tc main_v96), V (Proc.devRef .tc main_v98), V (Proc.devRef .tc main_v100), V (Proc.devRef .tc main_v102), V (Proc.devRef .tc main_v104)] := by rfl

theorem seg0_13 : (StableHlo.after (hostOps0_13 (F := Ideal)) V (Proc.devRef .tc main_v138) : FVec Ideal S128x256 .f32)
    = bd16 ![V (Proc.devRef .tc main_v107), V (Proc.devRef .tc main_v109), V (Proc.devRef .tc main_v111), V (Proc.devRef .tc main_v113), V (Proc.devRef .tc main_v115), V (Proc.devRef .tc main_v117), V (Proc.devRef .tc main_v119), V (Proc.devRef .tc main_v121), V (Proc.devRef .tc main_v123), V (Proc.devRef .tc main_v125), V (Proc.devRef .tc main_v127), V (Proc.devRef .tc main_v129), V (Proc.devRef .tc main_v131), V (Proc.devRef .tc main_v133), V (Proc.devRef .tc main_v135), V (Proc.devRef .tc main_v137)] := by rfl

theorem seg0_15 : (StableHlo.after (hostOps0_15 (F := Ideal)) V (Proc.devRef .tc main_v171) : FVec Ideal S128x256 .f32)
    = bd16 ![V (Proc.devRef .tc main_v140), V (Proc.devRef .tc main_v142), V (Proc.devRef .tc main_v144), V (Proc.devRef .tc main_v146), V (Proc.devRef .tc main_v148), V (Proc.devRef .tc main_v150), V (Proc.devRef .tc main_v152), V (Proc.devRef .tc main_v154), V (Proc.devRef .tc main_v156), V (Proc.devRef .tc main_v158), V (Proc.devRef .tc main_v160), V (Proc.devRef .tc main_v162), V (Proc.devRef .tc main_v164), V (Proc.devRef .tc main_v166), V (Proc.devRef .tc main_v168), V (Proc.devRef .tc main_v170)] := by rfl

end reads

theorem congr3 (A : ℕ → ℕ → ℕ → EReal) {a b c a' b' c' : ℕ} (h : a = a') (h1 : b = b') (h2 : c = c') : A a b c = A a' b' c' := by
  rw [h, h1, h2]

theorem bd64_at (a : Fin 4 → FVec Ideal S64x64 .f32) (A : ℕ → ℕ → ℕ → EReal)
    (ha : ∀ g (x : Fin 64) (y : Fin 64), a g (ix2 x y) = A g.val x.val y.val) (o : Fin 256) (k : Fin 256) :
    bd64 a (ix2 o k) = if k.val / 64 = o.val / 64 then A (o.val / 64) (o.val % 64) (k.val % 64) else 0 := by
  pointwise [bd64]
  have hc : o.val / 64 = 0 ∨ o.val / 64 = 1 ∨ o.val / 64 = 2 ∨ o.val / 64 = 3 := by omega
  rcases hc with h | h | h | h
  · rw [dif_pos (by omega)]; by_cases hk : k.val / 64 = o.val / 64
    · rw [dif_pos (by omega), if_pos hk]; rw [ha]; refine congr3 A (h.symm.trans rfl).symm.symm ?_ ?_ <;> (dsimp only; omega)
    · rw [dif_neg (by omega), if_neg hk]
  · rw [dif_neg (by omega), dif_pos (by omega)]; by_cases hk : k.val / 64 = o.val / 64
    · rw [dif_pos (by omega), if_pos hk]; rw [ha]; refine congr3 A (h.symm.trans rfl).symm.symm ?_ ?_ <;> (dsimp only; omega)
    · rw [dif_neg (by omega), if_neg hk]
  · rw [dif_neg (by omega), dif_neg (by omega), dif_pos (by omega)]; by_cases hk : k.val / 64 = o.val / 64
    · rw [dif_pos (by omega), if_pos hk]; rw [ha]; refine congr3 A (h.symm.trans rfl).symm.symm ?_ ?_ <;> (dsimp only; omega)
    · rw [dif_neg (by omega), if_neg hk]
  · rw [dif_neg (by omega), dif_neg (by omega), dif_neg (by omega)]; by_cases hk : k.val / 64 = o.val / 64
    · rw [dif_pos (by omega), if_pos hk]; rw [ha]; refine congr3 A (h.symm.trans rfl).symm.symm ?_ ?_ <;> (dsimp only; omega)
    · rw [dif_neg (by omega), if_neg hk]

theorem bd4_at (a : Fin 4 → FVec Ideal S4x64 .f32) (A : ℕ → ℕ → ℕ → EReal)
    (ha : ∀ g (x : Fin 4) (y : Fin 64), a g (ix2 x y) = A g.val x.val y.val) (o : Fin 16) (k : Fin 256) :
    bd4 a (ix2 o k) = if k.val / 64 = o.val / 4 then A (o.val / 4) (o.val % 4) (k.val % 64) else 0 := by
  pointwise [bd4]
  have hc : o.val / 4 = 0 ∨ o.val / 4 = 1 ∨ o.val / 4 = 2 ∨ o.val / 4 = 3 := by omega
  rcases hc with h | h | h | h
  · rw [dif_pos (by omega)]; by_cases hk : k.val / 64 = o.val / 4
    · rw [dif_pos (by omega), if_pos hk]; rw [ha]; refine congr3 A (h.symm.trans rfl).symm.symm ?_ ?_ <;> (dsimp only; omega)
    · rw [dif_neg (by omega), if_neg hk]
  · rw [dif_neg (by omega), dif_pos (by omega)]; by_cases hk : k.val / 64 = o.val / 4
    · rw [dif_pos (by omega), if_pos hk]; rw [ha]; refine congr3 A (h.symm.trans rfl).symm.symm ?_ ?_ <;> (dsimp only; omega)
    · rw [dif_neg (by omega), if_neg hk]
  · rw [dif_neg (by omega), dif_neg (by omega), dif_pos (by omega)]; by_cases hk : k.val / 64 = o.val / 4
    · rw [dif_pos (by omega), if_pos hk]; rw [ha]; refine congr3 A (h.symm.trans rfl).symm.symm ?_ ?_ <;> (dsimp only; omega)
    · rw [dif_neg (by omega), if_neg hk]
  · rw [dif_neg (by omega), dif_neg (by omega), dif_neg (by omega)]; by_cases hk : k.val / 64 = o.val / 4
    · rw [dif_pos (by omega), if_pos hk]; rw [ha]; refine congr3 A (h.symm.trans rfl).symm.symm ?_ ?_ <;> (dsimp only; omega)
    · rw [dif_neg (by omega), if_neg hk]

/-- Sixteen pieces of eight rows, in order. -/
def cat16 (p : Fin 16 → FVec Ideal S8x256 .f32) : FVec Ideal S128x256 .f32 :=
  concatenate S128x256 0 [⟨S8x256, p 0⟩, ⟨S8x256, p 1⟩, ⟨S8x256, p 2⟩, ⟨S8x256, p 3⟩, ⟨S8x256, p 4⟩, ⟨S8x256, p 5⟩, ⟨S8x256, p 6⟩, ⟨S8x256, p 7⟩, ⟨S8x256, p 8⟩, ⟨S8x256, p 9⟩, ⟨S8x256, p 10⟩, ⟨S8x256, p 11⟩, ⟨S8x256, p 12⟩, ⟨S8x256, p 13⟩, ⟨S8x256, p 14⟩, ⟨S8x256, p 15⟩]
    concatenates_S8x256_S8x256_S8x256_S8x256_S8x256_S8x256_S8x256_S8x256_S8x256_S8x256_S8x256_S8x256_S8x256_S8x256_S8x256_S8x256_S128x256_d0

theorem cat16_at (p : Fin 16 → FVec Ideal S8x256 .f32) (o : Fin 128) (k : Fin 256) :
    cat16 p (ix2 o k) = p ⟨o.val / 8, by omega⟩ (ix2 ⟨o.val % 8, by omega⟩ k) := by
  refine concatenate_ofFn_apply (s₁ := S8x256) (t := S128x256) (0 : Fin 2) p concatenates_S8x256_S8x256_S8x256_S8x256_S8x256_S8x256_S8x256_S8x256_S8x256_S8x256_S8x256_S8x256_S8x256_S8x256_S8x256_S8x256_S128x256_d0 rfl 8 rfl (ix2 o k) ⟨o.val / 8, by omega⟩ rfl
    (ix2 ⟨o.val % 8, by omega⟩ k) rfl fun b hb => ?_
  fin_vals b with hv
  · obtain rfl : b = (0 : Fin 2) := Fin.ext hv
    exact absurd rfl hb
  · obtain rfl : b = (1 : Fin 2) := Fin.ext hv
    rfl

theorem pad16_0 (x : FVec Ideal S8x16 .f32) (A : ℕ → ℕ → EReal) (hx : ∀ i j, x (ix2 i j) = A i.val j.val) (i : Fin 8) (k : Fin 256) :
    (pad S8x256 ![0, 0] ![0, 240] ![0, 0] x (constant S_ .f32 0x00000000#32) pads_S8x16_S8x256_000_02400 h_S_) (ix2 i k)
      = if k.val / 16 = 0 then A i.val (k.val % 16) else 0 := by
  pointwise []
  by_cases hk : k.val / 16 = 0
  · rw [dif_pos (by omega), if_pos hk, hx]; exact congrArg (A i.val) (by dsimp only; omega)
  · rw [dif_neg (by omega), if_neg hk]

theorem pad16_1 (x : FVec Ideal S8x16 .f32) (A : ℕ → ℕ → EReal) (hx : ∀ i j, x (ix2 i j) = A i.val j.val) (i : Fin 8) (k : Fin 256) :
    (pad S8x256 ![0, 16] ![0, 224] ![0, 0] x (constant S_ .f32 0x00000000#32) pads_S8x16_S8x256_000_162240 h_S_) (ix2 i k)
      = if k.val / 16 = 1 then A i.val (k.val % 16) else 0 := by
  pointwise []
  by_cases hk : k.val / 16 = 1
  · rw [dif_pos (by omega), if_pos hk, hx]; exact congrArg (A i.val) (by dsimp only; omega)
  · rw [dif_neg (by omega), if_neg hk]

theorem pad16_2 (x : FVec Ideal S8x16 .f32) (A : ℕ → ℕ → EReal) (hx : ∀ i j, x (ix2 i j) = A i.val j.val) (i : Fin 8) (k : Fin 256) :
    (pad S8x256 ![0, 32] ![0, 208] ![0, 0] x (constant S_ .f32 0x00000000#32) pads_S8x16_S8x256_000_322080 h_S_) (ix2 i k)
      = if k.val / 16 = 2 then A i.val (k.val % 16) else 0 := by
  pointwise []
  by_cases hk : k.val / 16 = 2
  · rw [dif_pos (by omega), if_pos hk, hx]; exact congrArg (A i.val) (by dsimp only; omega)
  · rw [dif_neg (by omega), if_neg hk]

theorem pad16_3 (x : FVec Ideal S8x16 .f32) (A : ℕ → ℕ → EReal) (hx : ∀ i j, x (ix2 i j) = A i.val j.val) (i : Fin 8) (k : Fin 256) :
    (pad S8x256 ![0, 48] ![0, 192] ![0, 0] x (constant S_ .f32 0x00000000#32) pads_S8x16_S8x256_000_481920 h_S_) (ix2 i k)
      = if k.val / 16 = 3 then A i.val (k.val % 16) else 0 := by
  pointwise []
  by_cases hk : k.val / 16 = 3
  · rw [dif_pos (by omega), if_pos hk, hx]; exact congrArg (A i.val) (by dsimp only; omega)
  · rw [dif_neg (by omega), if_neg hk]

theorem pad16_4 (x : FVec Ideal S8x16 .f32) (A : ℕ → ℕ → EReal) (hx : ∀ i j, x (ix2 i j) = A i.val j.val) (i : Fin 8) (k : Fin 256) :
    (pad S8x256 ![0, 64] ![0, 176] ![0, 0] x (constant S_ .f32 0x00000000#32) pads_S8x16_S8x256_000_641760 h_S_) (ix2 i k)
      = if k.val / 16 = 4 then A i.val (k.val % 16) else 0 := by
  pointwise []
  by_cases hk : k.val / 16 = 4
  · rw [dif_pos (by omega), if_pos hk, hx]; exact congrArg (A i.val) (by dsimp only; omega)
  · rw [dif_neg (by omega), if_neg hk]

theorem pad16_5 (x : FVec Ideal S8x16 .f32) (A : ℕ → ℕ → EReal) (hx : ∀ i j, x (ix2 i j) = A i.val j.val) (i : Fin 8) (k : Fin 256) :
    (pad S8x256 ![0, 80] ![0, 160] ![0, 0] x (constant S_ .f32 0x00000000#32) pads_S8x16_S8x256_000_801600 h_S_) (ix2 i k)
      = if k.val / 16 = 5 then A i.val (k.val % 16) else 0 := by
  pointwise []
  by_cases hk : k.val / 16 = 5
  · rw [dif_pos (by omega), if_pos hk, hx]; exact congrArg (A i.val) (by dsimp only; omega)
  · rw [dif_neg (by omega), if_neg hk]

theorem pad16_6 (x : FVec Ideal S8x16 .f32) (A : ℕ → ℕ → EReal) (hx : ∀ i j, x (ix2 i j) = A i.val j.val) (i : Fin 8) (k : Fin 256) :
    (pad S8x256 ![0, 96] ![0, 144] ![0, 0] x (constant S_ .f32 0x00000000#32) pads_S8x16_S8x256_000_961440 h_S_) (ix2 i k)
      = if k.val / 16 = 6 then A i.val (k.val % 16) else 0 := by
  pointwise []
  by_cases hk : k.val / 16 = 6
  · rw [dif_pos (by omega), if_pos hk, hx]; exact congrArg (A i.val) (by dsimp only; omega)
  · rw [dif_neg (by omega), if_neg hk]

theorem pad16_7 (x : FVec Ideal S8x16 .f32) (A : ℕ → ℕ → EReal) (hx : ∀ i j, x (ix2 i j) = A i.val j.val) (i : Fin 8) (k : Fin 256) :
    (pad S8x256 ![0, 112] ![0, 128] ![0, 0] x (constant S_ .f32 0x00000000#32) pads_S8x16_S8x256_000_1121280 h_S_) (ix2 i k)
      = if k.val / 16 = 7 then A i.val (k.val % 16) else 0 := by
  pointwise []
  by_cases hk : k.val / 16 = 7
  · rw [dif_pos (by omega), if_pos hk, hx]; exact congrArg (A i.val) (by dsimp only; omega)
  · rw [dif_neg (by omega), if_neg hk]

theorem pad16_8 (x : FVec Ideal S8x16 .f32) (A : ℕ → ℕ → EReal) (hx : ∀ i j, x (ix2 i j) = A i.val j.val) (i : Fin 8) (k : Fin 256) :
    (pad S8x256 ![0, 128] ![0, 112] ![0, 0] x (constant S_ .f32 0x00000000#32) pads_S8x16_S8x256_000_1281120 h_S_) (ix2 i k)
      = if k.val / 16 = 8 then A i.val (k.val % 16) else 0 := by
  pointwise []
  by_cases hk : k.val / 16 = 8
  · rw [dif_pos (by omega), if_pos hk, hx]; exact congrArg (A i.val) (by dsimp only; omega)
  · rw [dif_neg (by omega), if_neg hk]

theorem pad16_9 (x : FVec Ideal S8x16 .f32) (A : ℕ → ℕ → EReal) (hx : ∀ i j, x (ix2 i j) = A i.val j.val) (i : Fin 8) (k : Fin 256) :
    (pad S8x256 ![0, 144] ![0, 96] ![0, 0] x (constant S_ .f32 0x00000000#32) pads_S8x16_S8x256_000_144960 h_S_) (ix2 i k)
      = if k.val / 16 = 9 then A i.val (k.val % 16) else 0 := by
  pointwise []
  by_cases hk : k.val / 16 = 9
  · rw [dif_pos (by omega), if_pos hk, hx]; exact congrArg (A i.val) (by dsimp only; omega)
  · rw [dif_neg (by omega), if_neg hk]

theorem pad16_10 (x : FVec Ideal S8x16 .f32) (A : ℕ → ℕ → EReal) (hx : ∀ i j, x (ix2 i j) = A i.val j.val) (i : Fin 8) (k : Fin 256) :
    (pad S8x256 ![0, 160] ![0, 80] ![0, 0] x (constant S_ .f32 0x00000000#32) pads_S8x16_S8x256_000_160800 h_S_) (ix2 i k)
      = if k.val / 16 = 10 then A i.val (k.val % 16) else 0 := by
  pointwise []
  by_cases hk : k.val / 16 = 10
  · rw [dif_pos (by omega), if_pos hk, hx]; exact congrArg (A i.val) (by dsimp only; omega)
  · rw [dif_neg (by omega), if_neg hk]

theorem pad16_11 (x : FVec Ideal S8x16 .f32) (A : ℕ → ℕ → EReal) (hx : ∀ i j, x (ix2 i j) = A i.val j.val) (i : Fin 8) (k : Fin 256) :
    (pad S8x256 ![0, 176] ![0, 64] ![0, 0] x (constant S_ .f32 0x00000000#32) pads_S8x16_S8x256_000_176640 h_S_) (ix2 i k)
      = if k.val / 16 = 11 then A i.val (k.val % 16) else 0 := by
  pointwise []
  by_cases hk : k.val / 16 = 11
  · rw [dif_pos (by omega), if_pos hk, hx]; exact congrArg (A i.val) (by dsimp only; omega)
  · rw [dif_neg (by omega), if_neg hk]

theorem pad16_12 (x : FVec Ideal S8x16 .f32) (A : ℕ → ℕ → EReal) (hx : ∀ i j, x (ix2 i j) = A i.val j.val) (i : Fin 8) (k : Fin 256) :
    (pad S8x256 ![0, 192] ![0, 48] ![0, 0] x (constant S_ .f32 0x00000000#32) pads_S8x16_S8x256_000_192480 h_S_) (ix2 i k)
      = if k.val / 16 = 12 then A i.val (k.val % 16) else 0 := by
  pointwise []
  by_cases hk : k.val / 16 = 12
  · rw [dif_pos (by omega), if_pos hk, hx]; exact congrArg (A i.val) (by dsimp only; omega)
  · rw [dif_neg (by omega), if_neg hk]

theorem pad16_13 (x : FVec Ideal S8x16 .f32) (A : ℕ → ℕ → EReal) (hx : ∀ i j, x (ix2 i j) = A i.val j.val) (i : Fin 8) (k : Fin 256) :
    (pad S8x256 ![0, 208] ![0, 32] ![0, 0] x (constant S_ .f32 0x00000000#32) pads_S8x16_S8x256_000_208320 h_S_) (ix2 i k)
      = if k.val / 16 = 13 then A i.val (k.val % 16) else 0 := by
  pointwise []
  by_cases hk : k.val / 16 = 13
  · rw [dif_pos (by omega), if_pos hk, hx]; exact congrArg (A i.val) (by dsimp only; omega)
  · rw [dif_neg (by omega), if_neg hk]

theorem pad16_14 (x : FVec Ideal S8x16 .f32) (A : ℕ → ℕ → EReal) (hx : ∀ i j, x (ix2 i j) = A i.val j.val) (i : Fin 8) (k : Fin 256) :
    (pad S8x256 ![0, 224] ![0, 16] ![0, 0] x (constant S_ .f32 0x00000000#32) pads_S8x16_S8x256_000_224160 h_S_) (ix2 i k)
      = if k.val / 16 = 14 then A i.val (k.val % 16) else 0 := by
  pointwise []
  by_cases hk : k.val / 16 = 14
  · rw [dif_pos (by omega), if_pos hk, hx]; exact congrArg (A i.val) (by dsimp only; omega)
  · rw [dif_neg (by omega), if_neg hk]

theorem pad16_15 (x : FVec Ideal S8x16 .f32) (A : ℕ → ℕ → EReal) (hx : ∀ i j, x (ix2 i j) = A i.val j.val) (i : Fin 8) (k : Fin 256) :
    (pad S8x256 ![0, 240] ![0, 0] ![0, 0] x (constant S_ .f32 0x00000000#32) pads_S8x16_S8x256_000_24000 h_S_) (ix2 i k)
      = if k.val / 16 = 15 then A i.val (k.val % 16) else 0 := by
  pointwise []
  by_cases hk : k.val / 16 = 15
  · rw [dif_pos (by omega), if_pos hk, hx]; exact congrArg (A i.val) (by dsimp only; omega)
  · rw [dif_neg (by omega), if_neg hk]

theorem bd16_at (a : Fin 16 → FVec Ideal S8x16 .f32) (A : ℕ → ℕ → ℕ → EReal)
    (ha : ∀ g (x : Fin 8) (y : Fin 16), a g (ix2 x y) = A g.val x.val y.val) (o : Fin 128) (k : Fin 256) :
    bd16 a (ix2 o k) = if k.val / 16 = o.val / 8 then A (o.val / 8) (o.val % 8) (k.val % 16) else 0 := by
  refine (cat16_at (![pad S8x256 ![0, 0] ![0, 240] ![0, 0] (a 0) (constant S_ .f32 0x00000000#32) pads_S8x16_S8x256_000_02400 h_S_, pad S8x256 ![0, 16] ![0, 224] ![0, 0] (a 1) (constant S_ .f32 0x00000000#32) pads_S8x16_S8x256_000_162240 h_S_, pad S8x256 ![0, 32] ![0, 208] ![0, 0] (a 2) (constant S_ .f32 0x00000000#32) pads_S8x16_S8x256_000_322080 h_S_, pad S8x256 ![0, 48] ![0, 192] ![0, 0] (a 3) (constant S_ .f32 0x00000000#32) pads_S8x16_S8x256_000_481920 h_S_, pad S8x256 ![0, 64] ![0, 176] ![0, 0] (a 4) (constant S_ .f32 0x00000000#32) pads_S8x16_S8x256_000_641760 h_S_, pad S8x256 ![0, 80] ![0, 160] ![0, 0] (a 5) (constant S_ .f32 0x00000000#32) pads_S8x16_S8x256_000_801600 h_S_, pad S8x256 ![0, 96] ![0, 144] ![0, 0] (a 6) (constant S_ .f32 0x00000000#32) pads_S8x16_S8x256_000_961440 h_S_, pad S8x256 ![0, 112] ![0, 128] ![0, 0] (a 7) (constant S_ .f32 0x00000000#32) pads_S8x16_S8x256_000_1121280 h_S_, pad S8x256 ![0, 128] ![0, 112] ![0, 0] (a 8) (constant S_ .f32 0x00000000#32) pads_S8x16_S8x256_000_1281120 h_S_, pad S8x256 ![0, 144] ![0, 96] ![0, 0] (a 9) (constant S_ .f32 0x00000000#32) pads_S8x16_S8x256_000_144960 h_S_, pad S8x256 ![0, 160] ![0, 80] ![0, 0] (a 10) (constant S_ .f32 0x00000000#32) pads_S8x16_S8x256_000_160800 h_S_, pad S8x256 ![0, 176] ![0, 64] ![0, 0] (a 11) (constant S_ .f32 0x00000000#32) pads_S8x16_S8x256_000_176640 h_S_, pad S8x256 ![0, 192] ![0, 48] ![0, 0] (a 12) (constant S_ .f32 0x00000000#32) pads_S8x16_S8x256_000_192480 h_S_, pad S8x256 ![0, 208] ![0, 32] ![0, 0] (a 13) (constant S_ .f32 0x00000000#32) pads_S8x16_S8x256_000_208320 h_S_, pad S8x256 ![0, 224] ![0, 16] ![0, 0] (a 14) (constant S_ .f32 0x00000000#32) pads_S8x16_S8x256_000_224160 h_S_, pad S8x256 ![0, 240] ![0, 0] ![0, 0] (a 15) (constant S_ .f32 0x00000000#32) pads_S8x16_S8x256_000_24000 h_S_]) o k).trans ?_
  have hc : o.val / 8 = 0 ∨ o.val / 8 = 1 ∨ o.val / 8 = 2 ∨ o.val / 8 = 3 ∨ o.val / 8 = 4 ∨ o.val / 8 = 5 ∨ o.val / 8 = 6 ∨ o.val / 8 = 7 ∨ o.val / 8 = 8 ∨ o.val / 8 = 9 ∨ o.val / 8 = 10 ∨ o.val / 8 = 11 ∨ o.val / 8 = 12 ∨ o.val / 8 = 13 ∨ o.val / 8 = 14 ∨ o.val / 8 = 15 := by omega
  rcases hc with h | h | h | h | h | h | h | h | h | h | h | h | h | h | h | h <;> simp only [h]
  · exact pad16_0 (a 0) (A 0) (ha 0) _ k
  · exact pad16_1 (a 1) (A 1) (ha 1) _ k
  · exact pad16_2 (a 2) (A 2) (ha 2) _ k
  · exact pad16_3 (a 3) (A 3) (ha 3) _ k
  · exact pad16_4 (a 4) (A 4) (ha 4) _ k
  · exact pad16_5 (a 5) (A 5) (ha 5) _ k
  · exact pad16_6 (a 6) (A 6) (ha 6) _ k
  · exact pad16_7 (a 7) (A 7) (ha 7) _ k
  · exact pad16_8 (a 8) (A 8) (ha 8) _ k
  · exact pad16_9 (a 9) (A 9) (ha 9) _ k
  · exact pad16_10 (a 10) (A 10) (ha 10) _ k
  · exact pad16_11 (a 11) (A 11) (ha 11) _ k
  · exact pad16_12 (a 12) (A 12) (ha 12) _ k
  · exact pad16_13 (a 13) (A 13) (ha 13) _ k
  · exact pad16_14 (a 14) (A 14) (ha 14) _ k
  · exact pad16_15 (a 15) (A 15) (ha 15) _ k

section pieces
variable (V : Valuation τ sig (Elt Ideal))

theorem piece_v1 (i j : Fin 64) : (StableHlo.after (hostOps0 (F := Ideal)) V (Proc.devRef .tc main_v1) : FVec Ideal S64x64 .f32) (ix2 i j)
    = (V (Proc.devRef .tc main_arg2) : FVec Ideal S256x64x3 .f32) (ix3 ⟨0 + i.val, by omega⟩ j 0) := by
  after_reads_at

theorem piece_v3 (i j : Fin 64) : (StableHlo.after (hostOps0 (F := Ideal)) V (Proc.devRef .tc main_v3) : FVec Ideal S64x64 .f32) (ix2 i j)
    = (V (Proc.devRef .tc main_arg2) : FVec Ideal S256x64x3 .f32) (ix3 ⟨64 + i.val, by omega⟩ j 0) := by
  after_reads_at

theorem piece_v5 (i j : Fin 64) : (StableHlo.after (hostOps0 (F := Ideal)) V (Proc.devRef .tc main_v5) : FVec Ideal S64x64 .f32) (ix2 i j)
    = (V (Proc.devRef .tc main_arg2) : FVec Ideal S256x64x3 .f32) (ix3 ⟨128 + i.val, by omega⟩ j 0) := by
  after_reads_at

theorem piece_v7 (i j : Fin 64) : (StableHlo.after (hostOps0 (F := Ideal)) V (Proc.devRef .tc main_v7) : FVec Ideal S64x64 .f32) (ix2 i j)
    = (V (Proc.devRef .tc main_arg2) : FVec Ideal S256x64x3 .f32) (ix3 ⟨192 + i.val, by omega⟩ j 0) := by
  after_reads_at

theorem piece_v10 (i j : Fin 64) : (StableHlo.after (hostOps0_2 (F := Ideal)) V (Proc.devRef .tc main_v10) : FVec Ideal S64x64 .f32) (ix2 i j)
    = (V (Proc.devRef .tc main_arg2) : FVec Ideal S256x64x3 .f32) (ix3 ⟨0 + i.val, by omega⟩ j 1) := by
  after_reads_at

theorem piece_v12 (i j : Fin 64) : (StableHlo.after (hostOps0_2 (F := Ideal)) V (Proc.devRef .tc main_v12) : FVec Ideal S64x64 .f32) (ix2 i j)
    = (V (Proc.devRef .tc main_arg2) : FVec Ideal S256x64x3 .f32) (ix3 ⟨64 + i.val, by omega⟩ j 1) := by
  after_reads_at

theorem piece_v14 (i j : Fin 64) : (StableHlo.after (hostOps0_2 (F := Ideal)) V (Proc.devRef .tc main_v14) : FVec Ideal S64x64 .f32) (ix2 i j)
    = (V (Proc.devRef .tc main_arg2) : FVec Ideal S256x64x3 .f32) (ix3 ⟨128 + i.val, by omega⟩ j 1) := by
  after_reads_at

theorem piece_v16 (i j : Fin 64) : (StableHlo.after (hostOps0_2 (F := Ideal)) V (Proc.devRef .tc main_v16) : FVec Ideal S64x64 .f32) (ix2 i j)
    = (V (Proc.devRef .tc main_arg2) : FVec Ideal S256x64x3 .f32) (ix3 ⟨192 + i.val, by omega⟩ j 1) := by
  after_reads_at

theorem piece_v19 (i j : Fin 64) : (StableHlo.after (hostOps0_4 (F := Ideal)) V (Proc.devRef .tc main_v19) : FVec Ideal S64x64 .f32) (ix2 i j)
    = (V (Proc.devRef .tc main_arg2) : FVec Ideal S256x64x3 .f32) (ix3 ⟨0 + i.val, by omega⟩ j 2) := by
  after_reads_at

theorem piece_v21 (i j : Fin 64) : (StableHlo.after (hostOps0_4 (F := Ideal)) V (Proc.devRef .tc main_v21) : FVec Ideal S64x64 .f32) (ix2 i j)
    = (V (Proc.devRef .tc main_arg2) : FVec Ideal S256x64x3 .f32) (ix3 ⟨64 + i.val, by omega⟩ j 2) := by
  after_reads_at

theorem piece_v23 (i j : Fin 64) : (StableHlo.after (hostOps0_4 (F := Ideal)) V (Proc.devRef .tc main_v23) : FVec Ideal S64x64 .f32) (ix2 i j)
    = (V (Proc.devRef .tc main_arg2) : FVec Ideal S256x64x3 .f32) (ix3 ⟨128 + i.val, by omega⟩ j 2) := by
  after_reads_at

theorem piece_v25 (i j : Fin 64) : (StableHlo.after (hostOps0_4 (F := Ideal)) V (Proc.devRef .tc main_v25) : FVec Ideal S64x64 .f32) (ix2 i j)
    = (V (Proc.devRef .tc main_arg2) : FVec Ideal S256x64x3 .f32) (ix3 ⟨192 + i.val, by omega⟩ j 2) := by
  after_reads_at

theorem piece_v29 (j : Fin 4) (c : Fin 64) : (StableHlo.after (hostOps0_6 (F := Ideal)) V (Proc.devRef .tc main_v29) : FVec Ideal S4x64 .f32) (ix2 j c)
    = (V (Proc.devRef .tc main_arg6) : FVec Ideal S256x4x1 .f32) (ix3 ⟨0 + c.val, by omega⟩ j 0) := by
  after_reads_at

theorem piece_v32 (j : Fin 4) (c : Fin 64) : (StableHlo.after (hostOps0_6 (F := Ideal)) V (Proc.devRef .tc main_v32) : FVec Ideal S4x64 .f32) (ix2 j c)
    = (V (Proc.devRef .tc main_arg6) : FVec Ideal S256x4x1 .f32) (ix3 ⟨64 + c.val, by omega⟩ j 0) := by
  after_reads_at

theorem piece_v35 (j : Fin 4) (c : Fin 64) : (StableHlo.after (hostOps0_6 (F := Ideal)) V (Proc.devRef .tc main_v35) : FVec Ideal S4x64 .f32) (ix2 j c)
    = (V (Proc.devRef .tc main_arg6) : FVec Ideal S256x4x1 .f32) (ix3 ⟨128 + c.val, by omega⟩ j 0) := by
  after_reads_at

theorem piece_v38 (j : Fin 4) (c : Fin 64) : (StableHlo.after (hostOps0_6 (F := Ideal)) V (Proc.devRef .tc main_v38) : FVec Ideal S4x64 .f32) (ix2 j c)
    = (V (Proc.devRef .tc main_arg6) : FVec Ideal S256x4x1 .f32) (ix3 ⟨192 + c.val, by omega⟩ j 0) := by
  after_reads_at

theorem piece_v41 (i : Fin 8) (j : Fin 16) : (StableHlo.after (hostOps0_8 (F := Ideal)) V (Proc.devRef .tc main_v41) : FVec Ideal S8x16 .f32) (ix2 i j)
    = (V (Proc.devRef .tc main_arg10) : FVec Ideal S32x8x16 .f32) (ix3 0 i j) := by
  after_reads_at

theorem piece_v43 (i : Fin 8) (j : Fin 16) : (StableHlo.after (hostOps0_8 (F := Ideal)) V (Proc.devRef .tc main_v43) : FVec Ideal S8x16 .f32) (ix2 i j)
    = (V (Proc.devRef .tc main_arg10) : FVec Ideal S32x8x16 .f32) (ix3 1 i j) := by
  after_reads_at

theorem piece_v45 (i : Fin 8) (j : Fin 16) : (StableHlo.after (hostOps0_8 (F := Ideal)) V (Proc.devRef .tc main_v45) : FVec Ideal S8x16 .f32) (ix2 i j)
    = (V (Proc.devRef .tc main_arg10) : FVec Ideal S32x8x16 .f32) (ix3 2 i j) := by
  after_reads_at

theorem piece_v47 (i : Fin 8) (j : Fin 16) : (StableHlo.after (hostOps0_8 (F := Ideal)) V (Proc.devRef .tc main_v47) : FVec Ideal S8x16 .f32) (ix2 i j)
    = (V (Proc.devRef .tc main_arg10) : FVec Ideal S32x8x16 .f32) (ix3 3 i j) := by
  after_reads_at

theorem piece_v49 (i : Fin 8) (j : Fin 16) : (StableHlo.after (hostOps0_8 (F := Ideal)) V (Proc.devRef .tc main_v49) : FVec Ideal S8x16 .f32) (ix2 i j)
    = (V (Proc.devRef .tc main_arg10) : FVec Ideal S32x8x16 .f32) (ix3 4 i j) := by
  after_reads_at

theorem piece_v51 (i : Fin 8) (j : Fin 16) : (StableHlo.after (hostOps0_8 (F := Ideal)) V (Proc.devRef .tc main_v51) : FVec Ideal S8x16 .f32) (ix2 i j)
    = (V (Proc.devRef .tc main_arg10) : FVec Ideal S32x8x16 .f32) (ix3 5 i j) := by
  after_reads_at

theorem piece_v53 (i : Fin 8) (j : Fin 16) : (StableHlo.after (hostOps0_8 (F := Ideal)) V (Proc.devRef .tc main_v53) : FVec Ideal S8x16 .f32) (ix2 i j)
    = (V (Proc.devRef .tc main_arg10) : FVec Ideal S32x8x16 .f32) (ix3 6 i j) := by
  after_reads_at

theorem piece_v55 (i : Fin 8) (j : Fin 16) : (StableHlo.after (hostOps0_8 (F := Ideal)) V (Proc.devRef .tc main_v55) : FVec Ideal S8x16 .f32) (ix2 i j)
    = (V (Proc.devRef .tc main_arg10) : FVec Ideal S32x8x16 .f32) (ix3 7 i j) := by
  after_reads_at

theorem piece_v57 (i : Fin 8) (j : Fin 16) : (StableHlo.after (hostOps0_8 (F := Ideal)) V (Proc.devRef .tc main_v57) : FVec Ideal S8x16 .f32) (ix2 i j)
    = (V (Proc.devRef .tc main_arg10) : FVec Ideal S32x8x16 .f32) (ix3 8 i j) := by
  after_reads_at

theorem piece_v59 (i : Fin 8) (j : Fin 16) : (StableHlo.after (hostOps0_8 (F := Ideal)) V (Proc.devRef .tc main_v59) : FVec Ideal S8x16 .f32) (ix2 i j)
    = (V (Proc.devRef .tc main_arg10) : FVec Ideal S32x8x16 .f32) (ix3 9 i j) := by
  after_reads_at

theorem piece_v61 (i : Fin 8) (j : Fin 16) : (StableHlo.after (hostOps0_8 (F := Ideal)) V (Proc.devRef .tc main_v61) : FVec Ideal S8x16 .f32) (ix2 i j)
    = (V (Proc.devRef .tc main_arg10) : FVec Ideal S32x8x16 .f32) (ix3 10 i j) := by
  after_reads_at

theorem piece_v63 (i : Fin 8) (j : Fin 16) : (StableHlo.after (hostOps0_8 (F := Ideal)) V (Proc.devRef .tc main_v63) : FVec Ideal S8x16 .f32) (ix2 i j)
    = (V (Proc.devRef .tc main_arg10) : FVec Ideal S32x8x16 .f32) (ix3 11 i j) := by
  after_reads_at

theorem piece_v65 (i : Fin 8) (j : Fin 16) : (StableHlo.after (hostOps0_8 (F := Ideal)) V (Proc.devRef .tc main_v65) : FVec Ideal S8x16 .f32) (ix2 i j)
    = (V (Proc.devRef .tc main_arg10) : FVec Ideal S32x8x16 .f32) (ix3 12 i j) := by
  after_reads_at

theorem piece_v67 (i : Fin 8) (j : Fin 16) : (StableHlo.after (hostOps0_8 (F := Ideal)) V (Proc.devRef .tc main_v67) : FVec Ideal S8x16 .f32) (ix2 i j)
    = (V (Proc.devRef .tc main_arg10) : FVec Ideal S32x8x16 .f32) (ix3 13 i j) := by
  after_reads_at

theorem piece_v69 (i : Fin 8) (j : Fin 16) : (StableHlo.after (hostOps0_8 (F := Ideal)) V (Proc.devRef .tc main_v69) : FVec Ideal S8x16 .f32) (ix2 i j)
    = (V (Proc.devRef .tc main_arg10) : FVec Ideal S32x8x16 .f32) (ix3 14 i j) := by
  after_reads_at

theorem piece_v71 (i : Fin 8) (j : Fin 16) : (StableHlo.after (hostOps0_8 (F := Ideal)) V (Proc.devRef .tc main_v71) : FVec Ideal S8x16 .f32) (ix2 i j)
    = (V (Proc.devRef .tc main_arg10) : FVec Ideal S32x8x16 .f32) (ix3 15 i j) := by
  after_reads_at

theorem piece_v74 (i : Fin 8) (j : Fin 16) : (StableHlo.after (hostOps0_10 (F := Ideal)) V (Proc.devRef .tc main_v74) : FVec Ideal S8x16 .f32) (ix2 i j)
    = (V (Proc.devRef .tc main_arg10) : FVec Ideal S32x8x16 .f32) (ix3 16 i j) := by
  after_reads_at

theorem piece_v76 (i : Fin 8) (j : Fin 16) : (StableHlo.after (hostOps0_10 (F := Ideal)) V (Proc.devRef .tc main_v76) : FVec Ideal S8x16 .f32) (ix2 i j)
    = (V (Proc.devRef .tc main_arg10) : FVec Ideal S32x8x16 .f32) (ix3 17 i j) := by
  after_reads_at

theorem piece_v78 (i : Fin 8) (j : Fin 16) : (StableHlo.after (hostOps0_10 (F := Ideal)) V (Proc.devRef .tc main_v78) : FVec Ideal S8x16 .f32) (ix2 i j)
    = (V (Proc.devRef .tc main_arg10) : FVec Ideal S32x8x16 .f32) (ix3 18 i j) := by
  after_reads_at

theorem piece_v80 (i : Fin 8) (j : Fin 16) : (StableHlo.after (hostOps0_10 (F := Ideal)) V (Proc.devRef .tc main_v80) : FVec Ideal S8x16 .f32) (ix2 i j)
    = (V (Proc.devRef .tc main_arg10) : FVec Ideal S32x8x16 .f32) (ix3 19 i j) := by
  after_reads_at

theorem piece_v82 (i : Fin 8) (j : Fin 16) : (StableHlo.after (hostOps0_10 (F := Ideal)) V (Proc.devRef .tc main_v82) : FVec Ideal S8x16 .f32) (ix2 i j)
    = (V (Proc.devRef .tc main_arg10) : FVec Ideal S32x8x16 .f32) (ix3 20 i j) := by
  after_reads_at

theorem piece_v84 (i : Fin 8) (j : Fin 16) : (StableHlo.after (hostOps0_10 (F := Ideal)) V (Proc.devRef .tc main_v84) : FVec Ideal S8x16 .f32) (ix2 i j)
    = (V (Proc.devRef .tc main_arg10) : FVec Ideal S32x8x16 .f32) (ix3 21 i j) := by
  after_reads_at

theorem piece_v86 (i : Fin 8) (j : Fin 16) : (StableHlo.after (hostOps0_10 (F := Ideal)) V (Proc.devRef .tc main_v86) : FVec Ideal S8x16 .f32) (ix2 i j)
    = (V (Proc.devRef .tc main_arg10) : FVec Ideal S32x8x16 .f32) (ix3 22 i j) := by
  after_reads_at

theorem piece_v88 (i : Fin 8) (j : Fin 16) : (StableHlo.after (hostOps0_10 (F := Ideal)) V (Proc.devRef .tc main_v88) : FVec Ideal S8x16 .f32) (ix2 i j)
    = (V (Proc.devRef .tc main_arg10) : FVec Ideal S32x8x16 .f32) (ix3 23 i j) := by
  after_reads_at

theorem piece_v90 (i : Fin 8) (j : Fin 16) : (StableHlo.after (hostOps0_10 (F := Ideal)) V (Proc.devRef .tc main_v90) : FVec Ideal S8x16 .f32) (ix2 i j)
    = (V (Proc.devRef .tc main_arg10) : FVec Ideal S32x8x16 .f32) (ix3 24 i j) := by
  after_reads_at

theorem piece_v92 (i : Fin 8) (j : Fin 16) : (StableHlo.after (hostOps0_10 (F := Ideal)) V (Proc.devRef .tc main_v92) : FVec Ideal S8x16 .f32) (ix2 i j)
    = (V (Proc.devRef .tc main_arg10) : FVec Ideal S32x8x16 .f32) (ix3 25 i j) := by
  after_reads_at

theorem piece_v94 (i : Fin 8) (j : Fin 16) : (StableHlo.after (hostOps0_10 (F := Ideal)) V (Proc.devRef .tc main_v94) : FVec Ideal S8x16 .f32) (ix2 i j)
    = (V (Proc.devRef .tc main_arg10) : FVec Ideal S32x8x16 .f32) (ix3 26 i j) := by
  after_reads_at

theorem piece_v96 (i : Fin 8) (j : Fin 16) : (StableHlo.after (hostOps0_10 (F := Ideal)) V (Proc.devRef .tc main_v96) : FVec Ideal S8x16 .f32) (ix2 i j)
    = (V (Proc.devRef .tc main_arg10) : FVec Ideal S32x8x16 .f32) (ix3 27 i j) := by
  after_reads_at

theorem piece_v98 (i : Fin 8) (j : Fin 16) : (StableHlo.after (hostOps0_10 (F := Ideal)) V (Proc.devRef .tc main_v98) : FVec Ideal S8x16 .f32) (ix2 i j)
    = (V (Proc.devRef .tc main_arg10) : FVec Ideal S32x8x16 .f32) (ix3 28 i j) := by
  after_reads_at

theorem piece_v100 (i : Fin 8) (j : Fin 16) : (StableHlo.after (hostOps0_10 (F := Ideal)) V (Proc.devRef .tc main_v100) : FVec Ideal S8x16 .f32) (ix2 i j)
    = (V (Proc.devRef .tc main_arg10) : FVec Ideal S32x8x16 .f32) (ix3 29 i j) := by
  after_reads_at

theorem piece_v102 (i : Fin 8) (j : Fin 16) : (StableHlo.after (hostOps0_10 (F := Ideal)) V (Proc.devRef .tc main_v102) : FVec Ideal S8x16 .f32) (ix2 i j)
    = (V (Proc.devRef .tc main_arg10) : FVec Ideal S32x8x16 .f32) (ix3 30 i j) := by
  after_reads_at

theorem piece_v104 (i : Fin 8) (j : Fin 16) : (StableHlo.after (hostOps0_10 (F := Ideal)) V (Proc.devRef .tc main_v104) : FVec Ideal S8x16 .f32) (ix2 i j)
    = (V (Proc.devRef .tc main_arg10) : FVec Ideal S32x8x16 .f32) (ix3 31 i j) := by
  after_reads_at

theorem piece_v107 (i : Fin 8) (j : Fin 16) : (StableHlo.after (hostOps0_12 (F := Ideal)) V (Proc.devRef .tc main_v107) : FVec Ideal S8x16 .f32) (ix2 i j)
    = (V (Proc.devRef .tc main_arg12) : FVec Ideal S32x8x16 .f32) (ix3 0 i j) := by
  after_reads_at

theorem piece_v109 (i : Fin 8) (j : Fin 16) : (StableHlo.after (hostOps0_12 (F := Ideal)) V (Proc.devRef .tc main_v109) : FVec Ideal S8x16 .f32) (ix2 i j)
    = (V (Proc.devRef .tc main_arg12) : FVec Ideal S32x8x16 .f32) (ix3 1 i j) := by
  after_reads_at

theorem piece_v111 (i : Fin 8) (j : Fin 16) : (StableHlo.after (hostOps0_12 (F := Ideal)) V (Proc.devRef .tc main_v111) : FVec Ideal S8x16 .f32) (ix2 i j)
    = (V (Proc.devRef .tc main_arg12) : FVec Ideal S32x8x16 .f32) (ix3 2 i j) := by
  after_reads_at

theorem piece_v113 (i : Fin 8) (j : Fin 16) : (StableHlo.after (hostOps0_12 (F := Ideal)) V (Proc.devRef .tc main_v113) : FVec Ideal S8x16 .f32) (ix2 i j)
    = (V (Proc.devRef .tc main_arg12) : FVec Ideal S32x8x16 .f32) (ix3 3 i j) := by
  after_reads_at

theorem piece_v115 (i : Fin 8) (j : Fin 16) : (StableHlo.after (hostOps0_12 (F := Ideal)) V (Proc.devRef .tc main_v115) : FVec Ideal S8x16 .f32) (ix2 i j)
    = (V (Proc.devRef .tc main_arg12) : FVec Ideal S32x8x16 .f32) (ix3 4 i j) := by
  after_reads_at

theorem piece_v117 (i : Fin 8) (j : Fin 16) : (StableHlo.after (hostOps0_12 (F := Ideal)) V (Proc.devRef .tc main_v117) : FVec Ideal S8x16 .f32) (ix2 i j)
    = (V (Proc.devRef .tc main_arg12) : FVec Ideal S32x8x16 .f32) (ix3 5 i j) := by
  after_reads_at

theorem piece_v119 (i : Fin 8) (j : Fin 16) : (StableHlo.after (hostOps0_12 (F := Ideal)) V (Proc.devRef .tc main_v119) : FVec Ideal S8x16 .f32) (ix2 i j)
    = (V (Proc.devRef .tc main_arg12) : FVec Ideal S32x8x16 .f32) (ix3 6 i j) := by
  after_reads_at

theorem piece_v121 (i : Fin 8) (j : Fin 16) : (StableHlo.after (hostOps0_12 (F := Ideal)) V (Proc.devRef .tc main_v121) : FVec Ideal S8x16 .f32) (ix2 i j)
    = (V (Proc.devRef .tc main_arg12) : FVec Ideal S32x8x16 .f32) (ix3 7 i j) := by
  after_reads_at

theorem piece_v123 (i : Fin 8) (j : Fin 16) : (StableHlo.after (hostOps0_12 (F := Ideal)) V (Proc.devRef .tc main_v123) : FVec Ideal S8x16 .f32) (ix2 i j)
    = (V (Proc.devRef .tc main_arg12) : FVec Ideal S32x8x16 .f32) (ix3 8 i j) := by
  after_reads_at

theorem piece_v125 (i : Fin 8) (j : Fin 16) : (StableHlo.after (hostOps0_12 (F := Ideal)) V (Proc.devRef .tc main_v125) : FVec Ideal S8x16 .f32) (ix2 i j)
    = (V (Proc.devRef .tc main_arg12) : FVec Ideal S32x8x16 .f32) (ix3 9 i j) := by
  after_reads_at

theorem piece_v127 (i : Fin 8) (j : Fin 16) : (StableHlo.after (hostOps0_12 (F := Ideal)) V (Proc.devRef .tc main_v127) : FVec Ideal S8x16 .f32) (ix2 i j)
    = (V (Proc.devRef .tc main_arg12) : FVec Ideal S32x8x16 .f32) (ix3 10 i j) := by
  after_reads_at

theorem piece_v129 (i : Fin 8) (j : Fin 16) : (StableHlo.after (hostOps0_12 (F := Ideal)) V (Proc.devRef .tc main_v129) : FVec Ideal S8x16 .f32) (ix2 i j)
    = (V (Proc.devRef .tc main_arg12) : FVec Ideal S32x8x16 .f32) (ix3 11 i j) := by
  after_reads_at

theorem piece_v131 (i : Fin 8) (j : Fin 16) : (StableHlo.after (hostOps0_12 (F := Ideal)) V (Proc.devRef .tc main_v131) : FVec Ideal S8x16 .f32) (ix2 i j)
    = (V (Proc.devRef .tc main_arg12) : FVec Ideal S32x8x16 .f32) (ix3 12 i j) := by
  after_reads_at

theorem piece_v133 (i : Fin 8) (j : Fin 16) : (StableHlo.after (hostOps0_12 (F := Ideal)) V (Proc.devRef .tc main_v133) : FVec Ideal S8x16 .f32) (ix2 i j)
    = (V (Proc.devRef .tc main_arg12) : FVec Ideal S32x8x16 .f32) (ix3 13 i j) := by
  after_reads_at

theorem piece_v135 (i : Fin 8) (j : Fin 16) : (StableHlo.after (hostOps0_12 (F := Ideal)) V (Proc.devRef .tc main_v135) : FVec Ideal S8x16 .f32) (ix2 i j)
    = (V (Proc.devRef .tc main_arg12) : FVec Ideal S32x8x16 .f32) (ix3 14 i j) := by
  after_reads_at

theorem piece_v137 (i : Fin 8) (j : Fin 16) : (StableHlo.after (hostOps0_12 (F := Ideal)) V (Proc.devRef .tc main_v137) : FVec Ideal S8x16 .f32) (ix2 i j)
    = (V (Proc.devRef .tc main_arg12) : FVec Ideal S32x8x16 .f32) (ix3 15 i j) := by
  after_reads_at

theorem piece_v140 (i : Fin 8) (j : Fin 16) : (StableHlo.after (hostOps0_14 (F := Ideal)) V (Proc.devRef .tc main_v140) : FVec Ideal S8x16 .f32) (ix2 i j)
    = (V (Proc.devRef .tc main_arg12) : FVec Ideal S32x8x16 .f32) (ix3 16 i j) := by
  after_reads_at

theorem piece_v142 (i : Fin 8) (j : Fin 16) : (StableHlo.after (hostOps0_14 (F := Ideal)) V (Proc.devRef .tc main_v142) : FVec Ideal S8x16 .f32) (ix2 i j)
    = (V (Proc.devRef .tc main_arg12) : FVec Ideal S32x8x16 .f32) (ix3 17 i j) := by
  after_reads_at

theorem piece_v144 (i : Fin 8) (j : Fin 16) : (StableHlo.after (hostOps0_14 (F := Ideal)) V (Proc.devRef .tc main_v144) : FVec Ideal S8x16 .f32) (ix2 i j)
    = (V (Proc.devRef .tc main_arg12) : FVec Ideal S32x8x16 .f32) (ix3 18 i j) := by
  after_reads_at

theorem piece_v146 (i : Fin 8) (j : Fin 16) : (StableHlo.after (hostOps0_14 (F := Ideal)) V (Proc.devRef .tc main_v146) : FVec Ideal S8x16 .f32) (ix2 i j)
    = (V (Proc.devRef .tc main_arg12) : FVec Ideal S32x8x16 .f32) (ix3 19 i j) := by
  after_reads_at

theorem piece_v148 (i : Fin 8) (j : Fin 16) : (StableHlo.after (hostOps0_14 (F := Ideal)) V (Proc.devRef .tc main_v148) : FVec Ideal S8x16 .f32) (ix2 i j)
    = (V (Proc.devRef .tc main_arg12) : FVec Ideal S32x8x16 .f32) (ix3 20 i j) := by
  after_reads_at

theorem piece_v150 (i : Fin 8) (j : Fin 16) : (StableHlo.after (hostOps0_14 (F := Ideal)) V (Proc.devRef .tc main_v150) : FVec Ideal S8x16 .f32) (ix2 i j)
    = (V (Proc.devRef .tc main_arg12) : FVec Ideal S32x8x16 .f32) (ix3 21 i j) := by
  after_reads_at

theorem piece_v152 (i : Fin 8) (j : Fin 16) : (StableHlo.after (hostOps0_14 (F := Ideal)) V (Proc.devRef .tc main_v152) : FVec Ideal S8x16 .f32) (ix2 i j)
    = (V (Proc.devRef .tc main_arg12) : FVec Ideal S32x8x16 .f32) (ix3 22 i j) := by
  after_reads_at

theorem piece_v154 (i : Fin 8) (j : Fin 16) : (StableHlo.after (hostOps0_14 (F := Ideal)) V (Proc.devRef .tc main_v154) : FVec Ideal S8x16 .f32) (ix2 i j)
    = (V (Proc.devRef .tc main_arg12) : FVec Ideal S32x8x16 .f32) (ix3 23 i j) := by
  after_reads_at

theorem piece_v156 (i : Fin 8) (j : Fin 16) : (StableHlo.after (hostOps0_14 (F := Ideal)) V (Proc.devRef .tc main_v156) : FVec Ideal S8x16 .f32) (ix2 i j)
    = (V (Proc.devRef .tc main_arg12) : FVec Ideal S32x8x16 .f32) (ix3 24 i j) := by
  after_reads_at

theorem piece_v158 (i : Fin 8) (j : Fin 16) : (StableHlo.after (hostOps0_14 (F := Ideal)) V (Proc.devRef .tc main_v158) : FVec Ideal S8x16 .f32) (ix2 i j)
    = (V (Proc.devRef .tc main_arg12) : FVec Ideal S32x8x16 .f32) (ix3 25 i j) := by
  after_reads_at

theorem piece_v160 (i : Fin 8) (j : Fin 16) : (StableHlo.after (hostOps0_14 (F := Ideal)) V (Proc.devRef .tc main_v160) : FVec Ideal S8x16 .f32) (ix2 i j)
    = (V (Proc.devRef .tc main_arg12) : FVec Ideal S32x8x16 .f32) (ix3 26 i j) := by
  after_reads_at

theorem piece_v162 (i : Fin 8) (j : Fin 16) : (StableHlo.after (hostOps0_14 (F := Ideal)) V (Proc.devRef .tc main_v162) : FVec Ideal S8x16 .f32) (ix2 i j)
    = (V (Proc.devRef .tc main_arg12) : FVec Ideal S32x8x16 .f32) (ix3 27 i j) := by
  after_reads_at

theorem piece_v164 (i : Fin 8) (j : Fin 16) : (StableHlo.after (hostOps0_14 (F := Ideal)) V (Proc.devRef .tc main_v164) : FVec Ideal S8x16 .f32) (ix2 i j)
    = (V (Proc.devRef .tc main_arg12) : FVec Ideal S32x8x16 .f32) (ix3 28 i j) := by
  after_reads_at

theorem piece_v166 (i : Fin 8) (j : Fin 16) : (StableHlo.after (hostOps0_14 (F := Ideal)) V (Proc.devRef .tc main_v166) : FVec Ideal S8x16 .f32) (ix2 i j)
    = (V (Proc.devRef .tc main_arg12) : FVec Ideal S32x8x16 .f32) (ix3 29 i j) := by
  after_reads_at

theorem piece_v168 (i : Fin 8) (j : Fin 16) : (StableHlo.after (hostOps0_14 (F := Ideal)) V (Proc.devRef .tc main_v168) : FVec Ideal S8x16 .f32) (ix2 i j)
    = (V (Proc.devRef .tc main_arg12) : FVec Ideal S32x8x16 .f32) (ix3 30 i j) := by
  after_reads_at

theorem piece_v170 (i : Fin 8) (j : Fin 16) : (StableHlo.after (hostOps0_14 (F := Ideal)) V (Proc.devRef .tc main_v170) : FVec Ideal S8x16 .f32) (ix2 i j)
    = (V (Proc.devRef .tc main_arg12) : FVec Ideal S32x8x16 .f32) (ix3 31 i j) := by
  after_reads_at

end pieces

/-! Sums over a block-diagonal weight's row or column. -/

theorem tap_bd64 (a : Fin 4 → FVec Ideal S64x64 .f32) (W : Fin 256 → Fin 64 → ℝ)
    (ha : ∀ (g : Fin 4) (x y : Fin 64), a g (ix2 x y) = ((W ⟨64 * g.val + x.val, by omega⟩ y : ℝ) : EReal)) : K0.Tap (bd64 a) W := by
  intro o v
  have hA := bd64_at a (fun g x y => if h : 64 * g + x < 256 ∧ y < 64 then ((W ⟨64 * g + x, h.1⟩ ⟨y, h.2⟩ : ℝ) : EReal) else 0)
    (fun g x y => by rw [ha, dif_pos ⟨by omega, y.isLt⟩]) o
  simp only [hA, ite_mul, zero_mul]
  rw [sum_block (by decide) (o.val / 64) (by omega), coe_sum]
  refine Finset.sum_congr rfl fun c _ => ?_
  dsimp only
  rw [dif_pos ⟨by omega, by omega⟩, EReal.coe_mul]
  congr 2
  congr 1
  · exact Fin.ext (by dsimp only; omega)
  · exact Fin.ext (by dsimp only; omega)

theorem sum_bd4 (a : Fin 4 → FVec Ideal S4x64 .f32) (W : Fin 256 → Fin 4 → EReal)
    (ha : ∀ (g : Fin 4) (x : Fin 4) (y : Fin 64), a g (ix2 x y) = W ⟨64 * g.val + y.val, by omega⟩ x)
    (c : Fin 256) (v : Fin 16 → EReal) :
    ∑ j, v j * bd4 a (ix2 j c) = ∑ x : Fin 4, W c x * v ⟨c.val / 64 * 4 + x.val, by omega⟩ := by
  have hA := fun j => bd4_at a (fun g x y => if h : 64 * g + y < 256 ∧ x < 4 then W ⟨64 * g + y, h.1⟩ ⟨x, h.2⟩ else 0)
    (fun g x y => by rw [ha, dif_pos ⟨by omega, x.isLt⟩]) j c
  simp only [hA, mul_ite, mul_zero, @eq_comm ℕ (c.val / 64)]
  rw [sum_block (by decide) (c.val / 64) (by omega)]
  refine Finset.sum_congr rfl fun x _ => ?_
  dsimp only
  rw [dif_pos ⟨by omega, by omega⟩, mul_comm]
  congr 2
  · exact Fin.ext (by dsimp only; omega)
  · exact Fin.ext (by dsimp only; omega)

theorem sum_bd16 (a : Fin 16 → FVec Ideal S8x16 .f32) (W : Fin 32 → Fin 8 → Fin 16 → ℝ) (h : ℕ) (hh : h < 2)
    (ha : ∀ (g : Fin 16) (x : Fin 8) (y : Fin 16), a g (ix2 x y) = ((W ⟨16 * h + g.val, by omega⟩ x y : ℝ) : EReal))
    (r : Fin 128) (c : Fin 256) (hc : c.val = 128 * h + r.val) (v : Fin 256 → ℝ) :
    ∑ k, bd16 a (ix2 r k) * (v k : EReal) = ((own v W c : ℝ) : EReal) := by
  have hA := bd16_at a (fun g x y => if h' : 16 * h + g < 32 ∧ x < 8 ∧ y < 16 then ((W ⟨16 * h + g, h'.1⟩ ⟨x, h'.2.1⟩ ⟨y, h'.2.2⟩ : ℝ) : EReal) else 0)
    (fun g x y => by rw [ha, dif_pos ⟨by omega, x.isLt, y.isLt⟩]) r
  simp only [hA, ite_mul, zero_mul]
  rw [sum_block (by decide) (r.val / 8) (by omega)]
  unfold own
  rw [coe_sum]
  refine Finset.sum_congr rfl fun j _ => ?_
  dsimp only
  rw [dif_pos ⟨by omega, by omega, by omega⟩, EReal.coe_mul]
  congr 2
  · congr 1
    · exact Fin.ext (by dsimp only; omega)
    · exact Fin.ext (by dsimp only; omega)
    · exact Fin.ext (by dsimp only; omega)
  · congr 1
    exact Fin.ext (by dsimp only; omega)

end Cert.Host
end
-- ==== Proof.HostRun.lean ====
/-
  The host's arrays at each region's entry, over the reals: the weights laid out along the diagonal, the spread biases,
  and the scale and shift of the snippets' normalisation.
-/
module

public import proofs.«01_k».proof.Proof.Host

@[expose] public section

set_option maxRecDepth 16384
noncomputable section

open Idealize.ShloMosaic Idealize.ShloMosaic.TcCoe Idealize.SL.Sem Idealize.ShloMosaic.StableHlo

namespace Cert.Host

set_option maxHeartbeats 2000000
open Cert.KernelIdeal Cert.KernelIdeal.Gen Cert.Num Cert.Spec

theorem forall16 {P : Fin 16 → Prop} (h0 : P 0) (h1 : P 1) (h2 : P 2) (h3 : P 3) (h4 : P 4) (h5 : P 5) (h6 : P 6) (h7 : P 7) (h8 : P 8) (h9 : P 9) (h10 : P 10) (h11 : P 11) (h12 : P 12) (h13 : P 13) (h14 : P 14) (h15 : P 15) : ∀ g, P g := by
  intro g
  fin_cases g <;> assumption

/-- A half of a layer's grouped weights laid out along the diagonal. -/
def Half (w : FVec Ideal S128x256 .f32) (W : Fin 32 → Fin 8 → Fin 16 → ℝ) (h : ℕ) : Prop :=
  ∀ (r : Fin 128) (c : Fin 256), c.val = 128 * h + r.val → ∀ v : Fin 256 → ℝ, ∑ k, w (ix2 r k) * (v k : EReal) = ((own v W c : ℝ) : EReal)

theorem mean_eq {st : FVec Ideal S4x256x128 .f32} {y : Fin 4 → Fin 256 → Fin 2048 → ℝ} (h0 : ∀ i o, st (ix3 i o 0) = ((∑ t, y i o t : ℝ) : EReal)) (o : Fin 256) : Ideal.div (∑ x, st (ix3 x o 0)) (Ideal.ofBits FTy.f32 1174405120#32)
    = ((mean y 8192 o : ℝ) : EReal) := by
  rw [bits_8192, Finset.sum_congr rfl fun x _ => h0 x o, ← coe_sum, div_real _ (by norm_num)]
  rfl

theorem vari_eq {st : FVec Ideal S4x256x128 .f32} {y : Fin 4 → Fin 256 → Fin 2048 → ℝ} (h0 : ∀ i o, st (ix3 i o 0) = ((∑ t, y i o t : ℝ) : EReal))
    (h1 : ∀ i o, st (ix3 i o 1) = ((∑ t, y i o t * y i o t : ℝ) : EReal)) (o : Fin 256) :
    Ideal.div (∑ x, st (ix3 x o 1)) (Ideal.ofBits FTy.f32 1174405120#32)
      - Ideal.div (∑ x, st (ix3 x o 0)) (Ideal.ofBits FTy.f32 1174405120#32)
        * Ideal.div (∑ x, st (ix3 x o 0)) (Ideal.ofBits FTy.f32 1174405120#32)
      + Ideal.ofBits FTy.f32 925353388#32 = ((vari y 8192 o + eps : ℝ) : EReal) := by
  rw [mean_eq h0 o, bits_8192, Finset.sum_congr rfl fun x _ => h1 x o, ← coe_sum, div_real _ (by norm_num), bits_eps,
    ← EReal.coe_mul, ← EReal.coe_sub, ← EReal.coe_add]
  congr 2
  exact var_eq₂ (fun i t => y i o t) 8192 (by norm_num) (by norm_num)

section stretches
variable (V : Valuation τ sig (Elt Ideal))

theorem tap0 {W : Fin 256 → Fin 64 → Fin 3 → ℝ} (hW : ∀ o x d, (V (Proc.devRef .tc main_arg2) : FVec Ideal S256x64x3 .f32) (ix3 o x d) = (W o x d : EReal)) :
    K0.Tap (StableHlo.after (hostOps0_1 (F := Ideal)) (StableHlo.after (hostOps0 (F := Ideal)) V) (Proc.devRef .tc main_v8) : FVec Ideal S256x256 .f32) (fun o x => W o x 0) := by
  rw [seg0_1]
  refine tap_bd64 _ _ fun g x y => ?_
  match g with
  | ⟨0, _⟩ => exact (piece_v1 V x y).trans (hW _ _ _)
  | ⟨1, _⟩ => exact (piece_v3 V x y).trans (hW _ _ _)
  | ⟨2, _⟩ => exact (piece_v5 V x y).trans (hW _ _ _)
  | ⟨3, _⟩ => exact (piece_v7 V x y).trans (hW _ _ _)

theorem tap1 {W : Fin 256 → Fin 64 → Fin 3 → ℝ} (hW : ∀ o x d, (V (Proc.devRef .tc main_arg2) : FVec Ideal S256x64x3 .f32) (ix3 o x d) = (W o x d : EReal)) :
    K0.Tap (StableHlo.after (hostOps0_3 (F := Ideal)) (StableHlo.after (hostOps0_2 (F := Ideal)) V) (Proc.devRef .tc main_v17) : FVec Ideal S256x256 .f32) (fun o x => W o x 1) := by
  rw [seg0_3]
  refine tap_bd64 _ _ fun g x y => ?_
  match g with
  | ⟨0, _⟩ => exact (piece_v10 V x y).trans (hW _ _ _)
  | ⟨1, _⟩ => exact (piece_v12 V x y).trans (hW _ _ _)
  | ⟨2, _⟩ => exact (piece_v14 V x y).trans (hW _ _ _)
  | ⟨3, _⟩ => exact (piece_v16 V x y).trans (hW _ _ _)

theorem tap2 {W : Fin 256 → Fin 64 → Fin 3 → ℝ} (hW : ∀ o x d, (V (Proc.devRef .tc main_arg2) : FVec Ideal S256x64x3 .f32) (ix3 o x d) = (W o x d : EReal)) :
    K0.Tap (StableHlo.after (hostOps0_5 (F := Ideal)) (StableHlo.after (hostOps0_4 (F := Ideal)) V) (Proc.devRef .tc main_v26) : FVec Ideal S256x256 .f32) (fun o x => W o x 2) := by
  rw [seg0_5]
  refine tap_bd64 _ _ fun g x y => ?_
  match g with
  | ⟨0, _⟩ => exact (piece_v19 V x y).trans (hW _ _ _)
  | ⟨1, _⟩ => exact (piece_v21 V x y).trans (hW _ _ _)
  | ⟨2, _⟩ => exact (piece_v23 V x y).trans (hW _ _ _)
  | ⟨3, _⟩ => exact (piece_v25 V x y).trans (hW _ _ _)

theorem topic {W : Fin 256 → Fin 4 → EReal} (hW : ∀ o x, (V (Proc.devRef .tc main_arg6) : FVec Ideal S256x4x1 .f32) (ix3 o x 0) = W o x)
    (c : Fin 256) (v : Fin 16 → EReal) :
    ∑ j, v j * (StableHlo.after (hostOps0_7 (F := Ideal)) (StableHlo.after (hostOps0_6 (F := Ideal)) V) (Proc.devRef .tc main_v39) : FVec Ideal S16x256 .f32) (ix2 j c)
      = ∑ x : Fin 4, W c x * v ⟨c.val / 64 * 4 + x.val, by omega⟩ := by
  rw [seg0_7]
  refine sum_bd4 _ _ (fun g x y => ?_) c v
  match g with
  | ⟨0, _⟩ => exact (piece_v29 V x y).trans (hW _ _)
  | ⟨1, _⟩ => exact (piece_v32 V x y).trans (hW _ _)
  | ⟨2, _⟩ => exact (piece_v35 V x y).trans (hW _ _)
  | ⟨3, _⟩ => exact (piece_v38 V x y).trans (hW _ _)

theorem half1a {W : Fin 32 → Fin 8 → Fin 16 → ℝ} (hW : ∀ g x y, (V (Proc.devRef .tc main_arg10) : FVec Ideal S32x8x16 .f32) (ix3 g x y) = (W g x y : EReal))
    : Half (StableHlo.after (hostOps0_9 (F := Ideal)) (StableHlo.after (hostOps0_8 (F := Ideal)) V) (Proc.devRef .tc main_v72) : FVec Ideal S128x256 .f32) W 0 := by
  intro r c hc v
  rw [seg0_9]
  refine sum_bd16 _ W 0 (by decide) (forall16 ?_ ?_ ?_ ?_ ?_ ?_ ?_ ?_ ?_ ?_ ?_ ?_ ?_ ?_ ?_ ?_) r c hc v
  · exact fun x y => (piece_v41 V x y).trans (hW _ _ _)
  · exact fun x y => (piece_v43 V x y).trans (hW _ _ _)
  · exact fun x y => (piece_v45 V x y).trans (hW _ _ _)
  · exact fun x y => (piece_v47 V x y).trans (hW _ _ _)
  · exact fun x y => (piece_v49 V x y).trans (hW _ _ _)
  · exact fun x y => (piece_v51 V x y).trans (hW _ _ _)
  · exact fun x y => (piece_v53 V x y).trans (hW _ _ _)
  · exact fun x y => (piece_v55 V x y).trans (hW _ _ _)
  · exact fun x y => (piece_v57 V x y).trans (hW _ _ _)
  · exact fun x y => (piece_v59 V x y).trans (hW _ _ _)
  · exact fun x y => (piece_v61 V x y).trans (hW _ _ _)
  · exact fun x y => (piece_v63 V x y).trans (hW _ _ _)
  · exact fun x y => (piece_v65 V x y).trans (hW _ _ _)
  · exact fun x y => (piece_v67 V x y).trans (hW _ _ _)
  · exact fun x y => (piece_v69 V x y).trans (hW _ _ _)
  · exact fun x y => (piece_v71 V x y).trans (hW _ _ _)

theorem half1b {W : Fin 32 → Fin 8 → Fin 16 → ℝ} (hW : ∀ g x y, (V (Proc.devRef .tc main_arg10) : FVec Ideal S32x8x16 .f32) (ix3 g x y) = (W g x y : EReal))
    : Half (StableHlo.after (hostOps0_11 (F := Ideal)) (StableHlo.after (hostOps0_10 (F := Ideal)) V) (Proc.devRef .tc main_v105) : FVec Ideal S128x256 .f32) W 1 := by
  intro r c hc v
  rw [seg0_11]
  refine sum_bd16 _ W 1 (by decide) (forall16 ?_ ?_ ?_ ?_ ?_ ?_ ?_ ?_ ?_ ?_ ?_ ?_ ?_ ?_ ?_ ?_) r c hc v
  · exact fun x y => (piece_v74 V x y).trans (hW _ _ _)
  · exact fun x y => (piece_v76 V x y).trans (hW _ _ _)
  · exact fun x y => (piece_v78 V x y).trans (hW _ _ _)
  · exact fun x y => (piece_v80 V x y).trans (hW _ _ _)
  · exact fun x y => (piece_v82 V x y).trans (hW _ _ _)
  · exact fun x y => (piece_v84 V x y).trans (hW _ _ _)
  · exact fun x y => (piece_v86 V x y).trans (hW _ _ _)
  · exact fun x y => (piece_v88 V x y).trans (hW _ _ _)
  · exact fun x y => (piece_v90 V x y).trans (hW _ _ _)
  · exact fun x y => (piece_v92 V x y).trans (hW _ _ _)
  · exact fun x y => (piece_v94 V x y).trans (hW _ _ _)
  · exact fun x y => (piece_v96 V x y).trans (hW _ _ _)
  · exact fun x y => (piece_v98 V x y).trans (hW _ _ _)
  · exact fun x y => (piece_v100 V x y).trans (hW _ _ _)
  · exact fun x y => (piece_v102 V x y).trans (hW _ _ _)
  · exact fun x y => (piece_v104 V x y).trans (hW _ _ _)

theorem half2a {W : Fin 32 → Fin 8 → Fin 16 → ℝ} (hW : ∀ g x y, (V (Proc.devRef .tc main_arg12) : FVec Ideal S32x8x16 .f32) (ix3 g x y) = (W g x y : EReal))
    : Half (StableHlo.after (hostOps0_13 (F := Ideal)) (StableHlo.after (hostOps0_12 (F := Ideal)) V) (Proc.devRef .tc main_v138) : FVec Ideal S128x256 .f32) W 0 := by
  intro r c hc v
  rw [seg0_13]
  refine sum_bd16 _ W 0 (by decide) (forall16 ?_ ?_ ?_ ?_ ?_ ?_ ?_ ?_ ?_ ?_ ?_ ?_ ?_ ?_ ?_ ?_) r c hc v
  · exact fun x y => (piece_v107 V x y).trans (hW _ _ _)
  · exact fun x y => (piece_v109 V x y).trans (hW _ _ _)
  · exact fun x y => (piece_v111 V x y).trans (hW _ _ _)
  · exact fun x y => (piece_v113 V x y).trans (hW _ _ _)
  · exact fun x y => (piece_v115 V x y).trans (hW _ _ _)
  · exact fun x y => (piece_v117 V x y).trans (hW _ _ _)
  · exact fun x y => (piece_v119 V x y).trans (hW _ _ _)
  · exact fun x y => (piece_v121 V x y).trans (hW _ _ _)
  · exact fun x y => (piece_v123 V x y).trans (hW _ _ _)
  · exact fun x y => (piece_v125 V x y).trans (hW _ _ _)
  · exact fun x y => (piece_v127 V x y).trans (hW _ _ _)
  · exact fun x y => (piece_v129 V x y).trans (hW _ _ _)
  · exact fun x y => (piece_v131 V x y).trans (hW _ _ _)
  · exact fun x y => (piece_v133 V x y).trans (hW _ _ _)
  · exact fun x y => (piece_v135 V x y).trans (hW _ _ _)
  · exact fun x y => (piece_v137 V x y).trans (hW _ _ _)

theorem half2b {W : Fin 32 → Fin 8 → Fin 16 → ℝ} (hW : ∀ g x y, (V (Proc.devRef .tc main_arg12) : FVec Ideal S32x8x16 .f32) (ix3 g x y) = (W g x y : EReal))
    : Half (StableHlo.after (hostOps0_15 (F := Ideal)) (StableHlo.after (hostOps0_14 (F := Ideal)) V) (Proc.devRef .tc main_v171) : FVec Ideal S128x256 .f32) W 1 := by
  intro r c hc v
  rw [seg0_15]
  refine sum_bd16 _ W 1 (by decide) (forall16 ?_ ?_ ?_ ?_ ?_ ?_ ?_ ?_ ?_ ?_ ?_ ?_ ?_ ?_ ?_ ?_) r c hc v
  · exact fun x y => (piece_v140 V x y).trans (hW _ _ _)
  · exact fun x y => (piece_v142 V x y).trans (hW _ _ _)
  · exact fun x y => (piece_v144 V x y).trans (hW _ _ _)
  · exact fun x y => (piece_v146 V x y).trans (hW _ _ _)
  · exact fun x y => (piece_v148 V x y).trans (hW _ _ _)
  · exact fun x y => (piece_v150 V x y).trans (hW _ _ _)
  · exact fun x y => (piece_v152 V x y).trans (hW _ _ _)
  · exact fun x y => (piece_v154 V x y).trans (hW _ _ _)
  · exact fun x y => (piece_v156 V x y).trans (hW _ _ _)
  · exact fun x y => (piece_v158 V x y).trans (hW _ _ _)
  · exact fun x y => (piece_v160 V x y).trans (hW _ _ _)
  · exact fun x y => (piece_v162 V x y).trans (hW _ _ _)
  · exact fun x y => (piece_v164 V x y).trans (hW _ _ _)
  · exact fun x y => (piece_v166 V x y).trans (hW _ _ _)
  · exact fun x y => (piece_v168 V x y).trans (hW _ _ _)
  · exact fun x y => (piece_v170 V x y).trans (hW _ _ _)

theorem spread_b1 (o : Fin 256) (k : Fin 128) : (StableHlo.after (hostOps0_16 (F := Ideal)) V (Proc.devRef .tc main_v175) : FVec Ideal S256x128 .f32) (ix2 o k)
    = (V (Proc.devRef .tc main_arg3) : FVec Ideal S256 .f32) (ix1 o) := by
  after_reads_at

theorem spread_bg1 (o : Fin 256) (k : Fin 128) : (StableHlo.after (hostOps0_18 (F := Ideal)) V (Proc.devRef .tc main_v182) : FVec Ideal S256x128 .f32) (ix2 o k)
    = (V (Proc.devRef .tc main_arg11) : FVec Ideal S256 .f32) (ix1 o) := by
  after_reads_at

theorem spread_bg2 (o : Fin 256) (k : Fin 128) : (StableHlo.after (hostOps0_18 (F := Ideal)) V (Proc.devRef .tc main_v184) : FVec Ideal S256x128 .f32) (ix2 o k)
    = (V (Proc.devRef .tc main_arg13) : FVec Ideal S256 .f32) (ix1 o) := by
  after_reads_at

theorem both1 (o k : Fin 256) : (StableHlo.after (hostOps0_16 (F := Ideal)) V (Proc.devRef .tc main_v172) : FVec Ideal S256x256 .f32) (ix2 o k)
    = if h : o.val < 128 then (V (Proc.devRef .tc main_v72) : FVec Ideal S128x256 .f32) (ix2 ⟨o.val, h⟩ k)
      else (V (Proc.devRef .tc main_v105) : FVec Ideal S128x256 .f32) (ix2 ⟨o.val - 128, by omega⟩ k) := by
  after_reads_at

theorem both2 (o k : Fin 256) : (StableHlo.after (hostOps0_16 (F := Ideal)) V (Proc.devRef .tc main_v173) : FVec Ideal S256x256 .f32) (ix2 o k)
    = if h : o.val < 128 then (V (Proc.devRef .tc main_v138) : FVec Ideal S128x256 .f32) (ix2 ⟨o.val, h⟩ k)
      else (V (Proc.devRef .tc main_v171) : FVec Ideal S128x256 .f32) (ix2 ⟨o.val - 128, by omega⟩ k) := by
  after_reads_at

theorem trans1 (o : Fin 256) (k : Fin 128) : (StableHlo.after (hostOps1 (F := Ideal)) V (Proc.devRef .tc main_v208) : FVec Ideal S256x128 .f32) (ix2 o k)
    = (V (Proc.devRef .tc main_v105) : FVec Ideal S128x256 .f32) (ix2 k o) := by
  after_reads_at

theorem trans2 (o : Fin 256) (k : Fin 128) : (StableHlo.after (hostOps1 (F := Ideal)) V (Proc.devRef .tc main_v209) : FVec Ideal S256x128 .f32) (ix2 o k)
    = (V (Proc.devRef .tc main_v171) : FVec Ideal S128x256 .f32) (ix2 k o) := by
  after_reads_at

/-- The topics' bias, scale and shift as three rows, with five rows more. -/
def rows3 (a b c : FVec Ideal S256 .f32) (z : IVec S_ 32) : FVec Ideal S8x256 .f32 :=
  pad S8x256 ![0, 0] ![5, 0] ![0, 0] (concatenate S3x256 0 [⟨S1x256, broadcastInDim S1x256 ![1] bcast_S256_S1x256_1 a⟩,
    ⟨S1x256, broadcastInDim S1x256 ![1] bcast_S256_S1x256_1 b⟩, ⟨S1x256, broadcastInDim S1x256 ![1] bcast_S256_S1x256_1 c⟩]
    concatenates_S1x256_S1x256_S1x256_S3x256_d0) (sitofp (F := Ideal) .f32 z) pads_S3x256_S8x256_050_000 h_S_

theorem rows3_eq : (StableHlo.after (hostOps0_17 (F := Ideal)) (StableHlo.after (hostOps0_16 (F := Ideal)) V) (Proc.devRef .tc main_v180) : FVec Ideal S8x256 .f32)
    = rows3 (V (Proc.devRef .tc main_arg7)) (V (Proc.devRef .tc main_arg8)) (V (Proc.devRef .tc main_arg9)) (constantI S_ 32 0#32) := by rfl

theorem rows3_0 (a b c : FVec Ideal S256 .f32) (z : IVec S_ 32) (k : Fin 256) : rows3 a b c z (ix2 0 k) = a (ix1 k) := by
  pointwise [rows3]

theorem rows3_1 (a b c : FVec Ideal S256 .f32) (z : IVec S_ 32) (k : Fin 256) : rows3 a b c z (ix2 1 k) = b (ix1 k) := by
  pointwise [rows3]

theorem rows3_2 (a b c : FVec Ideal S256 .f32) (z : IVec S_ 32) (k : Fin 256) : rows3 a b c z (ix2 2 k) = c (ix1 k) := by
  pointwise [rows3]

section stats
variable {y : Fin 4 → Fin 256 → Fin 2048 → ℝ} {g be : Fin 256 → ℝ}
  (hg : ∀ o, (V (Proc.devRef .tc main_arg4) : FVec Ideal S256 .f32) (ix1 o) = (g o : EReal))
  (hbe : ∀ o, (V (Proc.devRef .tc main_arg5) : FVec Ideal S256 .f32) (ix1 o) = (be o : EReal))
  (h0 : ∀ i o, (V (Proc.devRef .tc main_v185_1) : FVec Ideal S4x256x128 .f32) (ix3 i o 0) = ((∑ t, y i o t : ℝ) : EReal))
  (h1 : ∀ i o, (V (Proc.devRef .tc main_v185_1) : FVec Ideal S4x256x128 .f32) (ix3 i o 1) = ((∑ t, y i o t * y i o t : ℝ) : EReal))

include h0 h1 hg in
theorem scale_at (o : Fin 256) (k : Fin 128) : (StableHlo.after (hostOps1 (F := Ideal)) V (Proc.devRef .tc main_v205) : FVec Ideal S256x128 .f32) (ix2 o k)
    = ((g o * (Real.sqrt (vari y 8192 o + eps))⁻¹ : ℝ) : EReal) := by
  after_reads_at
  rw [hg, EReal.coe_mul, ← rsqrt_real (Real.sqrt_pos.mp (root_pos y 8192 (by norm_num) o))]
  exact congrArg (fun z => (g o : EReal) * Ideal.rsqrt z) (vari_eq h0 h1 o)

include h0 h1 hg hbe in
theorem shift_at (o : Fin 256) (k : Fin 128) : (StableHlo.after (hostOps1 (F := Ideal)) V (Proc.devRef .tc main_v207) : FVec Ideal S256x128 .f32) (ix2 o k)
    = ((be o - mean y 8192 o * (g o * (Real.sqrt (vari y 8192 o + eps))⁻¹) : ℝ) : EReal) := by
  after_reads_at
  rw [hg, hbe, EReal.coe_sub, EReal.coe_mul, EReal.coe_mul, ← rsqrt_real (Real.sqrt_pos.mp (root_pos y 8192 (by norm_num) o))]
  exact congrArg₂ (fun w z => (be o : EReal) - w * ((g o : EReal) * Ideal.rsqrt z)) (mean_eq h0 o) (vari_eq h0 h1 o)

end stats

end stretches

end Cert.Host
end
-- ==== Proof.R0.lean ====
/-
  What the convolution's pipeline leaves in its two arrays: the convolution's value, and per batch element and channel
  the sum and the sum of squares along the row.
-/
module

public import proofs.«01_k».proof.Proof.K0
public import proofs.«01_k».proof.Proof.K1
public import Idealize.ShloMosaic.Lib.Pipeline.ValueKit

@[expose] public section

set_option maxRecDepth 16384
noncomputable section

open Idealize.ShloMosaic Idealize.ShloMosaic.TcCoe Idealize.SL.Sem Idealize.ShloMosaic.StableHlo
open Idealize.ShloMosaic.Pipeline (Dat)

namespace Cert.R0

open Cert.KernelIdeal Cert.KernelIdeal.Gen Cert.Num Cert.Spec

theorem idx : ∀ t : Fin cfg0.N, win0_0.index t = ![t.val, 0, 0] ∧ win0_1.index t = ![0, 0] ∧ win0_2.index t = ![0, 0] ∧ win0_3.index t = ![0, 0]
    ∧ win0_4.index t = ![0, 0] ∧ win0_5.index t = ![t.val, 0, 0] ∧ win0_6.index t = ![t.val, 0, 0] ∧ t.val < 4 :=
  (by decide +kernel : ∀ t : Fin grid0.N, _)

variable (V : (c : Dev nD) → (b : Ref sig .tc) → Buf (Elt Ideal) ((c : Thread nD τ).loc b)) (c : Dev nD)
  {X : Fin 4 → Fin 256 → Fin 2048 → ℝ} {W : Fin 256 → Fin 64 → Fin 3 → ℝ} {b : Fin 256 → ℝ}
  (hX : ∀ i ch s, (V c main_arg0 : FVec Ideal S4x256x2048 .f32) (ix3 i ch s) = (X i ch s : EReal))
  (h0 : K0.Tap (V c main_v8) fun o x => W o x 0) (h1 : K0.Tap (V c main_v17) fun o x => W o x 1) (h2 : K0.Tap (V c main_v26) fun o x => W o x 2)
  (hb : ∀ o, (V c main_v175 : FVec Ideal S256x128 .f32) (ix2 o 0) = (b o : EReal))

theorem ib1 (t : Fin cfg0.N) : (iblk0 V c 1 t : FVec Ideal S256x256 .f32) = V c main_v8 := by blk_ext! [iblk0, idx t]
theorem ib2 (t : Fin cfg0.N) : (iblk0 V c 2 t : FVec Ideal S256x256 .f32) = V c main_v17 := by blk_ext! [iblk0, idx t]
theorem ib3 (t : Fin cfg0.N) : (iblk0 V c 3 t : FVec Ideal S256x256 .f32) = V c main_v26 := by blk_ext! [iblk0, idx t]
theorem ib4 (t : Fin cfg0.N) : (iblk0 V c 4 t : FVec Ideal S256x128 .f32) = V c main_v175 := by blk_ext! [iblk0, idx t]
include hX in
theorem ib0 (t : Fin cfg0.N) (ch : Fin 256) (s : Fin 2048) :
    (iblk0 V c 0 t : FVec Ideal S1x256x2048 .f32) (ix3 0 ch s) = (X ⟨t.val, (idx t).2.2.2.2.2.2.2⟩ ch s : EReal) := by
  rw [← hX]
  blk_ext [iblk0, idx t]

include hb in
theorem ib4_at (t : Fin cfg0.N) (o : Fin 256) : (View.ld (iblk0 V c 4 t : FVec Ideal S256x128 .f32) r0_2 : FVec Ideal S256x1 .f32) (ix2 o 0) = (b o : EReal) := by
  rw [← hb, ib4]
  pointwise []

include hX h0 h1 h2 hb in
theorem y_pt (t : Fin cfg0.N) (y : S1x256x2048.Idx) :
    k0_pay3 (iblk0 V c 0 t) (iblk0 V c 1 t) (iblk0 V c 2 t) (iblk0 V c 3 t) (View.ld (iblk0 V c 4 t) r0_2) y
      = (cY X W b ⟨t.val, (idx t).2.2.2.2.2.2.2⟩ (y 1) (y 2) : EReal) := by
  obtain ⟨o, s, rfl⟩ : ∃ o s, y = ix3 0 o s := ⟨y 1, y 2, K1.idx3_eq y 0 (y 1) (y 2) (Nat.lt_one_iff.mp (y 0).isLt) rfl rfl⟩
  exact K0.out5_at (ib0 V c hX t) (by rw [ib1]; exact h0) (by rw [ib2]; exact h1) (by rw [ib3]; exact h2) (ib4_at V c hb t) o s

include hX h0 h1 h2 hb in
theorem y_at (i : Fin 4) (o : Fin 256) (s : Fin 2048) :
    ((dat0 V c).arrAt 5 cfg0.N : FVec Ideal S4x256x2048 .f32) (ix3 i o s) = (cY X W b i o s : EReal) := by
  have e : (dat0 V c).arrAt 5 cfg0.N = ((fun i => ((cY X W b (i 0) (i 1) (i 2) : ℝ) : EReal)) : FVec Ideal S4x256x2048 .f32) := by
    refine (dat0 V c).arrAt_eq_of_covers 5 _ (by decide +kernel) fun t _ y => ?_
    blk_simp
    rw [after0_5]
    frame_out
    have e0 : (((View.whole main_v185_0).slice (win0_5.rect t)).emb y 0 : Fin 4) = ⟨t.val, (idx t).2.2.2.2.2.2.2⟩ :=
      Fin.ext (by blk_simp [idx t])
    have e1 : (((View.whole main_v185_0).slice (win0_5.rect t)).emb y 1 : Fin 256) = y 1 := Fin.ext (by blk_simp [idx t])
    have e2 : (((View.whole main_v185_0).slice (win0_5.rect t)).emb y 2 : Fin 2048) = y 2 := Fin.ext (by blk_simp [idx t])
    exact (y_pt V c hX h0 h1 h2 hb t y).trans (by rw [e0, e1, e2]; rfl)
  exact congrFun e _

/-- The two statistics of a row, one column each. -/
def Stat (X : Fin 4 → Fin 256 → Fin 2048 → ℝ) (W : Fin 256 → Fin 64 → Fin 3 → ℝ) (b : Fin 256 → ℝ) (i : Fin 4) (o : Fin 256) (k : ℕ) (v : EReal) : Prop :=
  (k = 0 → v = ((∑ t, cY X W b i o t : ℝ) : EReal)) ∧ (k = 1 → v = ((∑ t, cY X W b i o t * cY X W b i o t : ℝ) : EReal))

include hX h0 h1 h2 hb in
theorem stat_pt (t : Fin cfg0.N) (y : S1x256x128.Idx) :
    Stat X W b ⟨t.val, (idx t).2.2.2.2.2.2.2⟩ (y 1) (y 2).val
      (k0_pay1 (k0_pay4 (iblk0 V c 0 t) (iblk0 V c 1 t) (iblk0 V c 2 t) (iblk0 V c 3 t) (View.ld (iblk0 V c 4 t) r0_2)) y) := by
  have w0 : K0.Tap (iblk0 V c 1 t) fun o x => W o x 0 := by rw [ib1]; exact h0
  have w1 : K0.Tap (iblk0 V c 2 t) fun o x => W o x 1 := by rw [ib2]; exact h1
  have w2 : K0.Tap (iblk0 V c 3 t) fun o x => W o x 2 := by rw [ib3]; exact h2
  obtain ⟨o, s, rfl⟩ : ∃ o s, y = ix3 0 o s := ⟨y 1, y 2, K1.idx3_eq y 0 (y 1) (y 2) (Nat.lt_one_iff.mp (y 0).isLt) rfl rfl⟩
  constructor
  · intro h
    obtain rfl : s = 0 := Fin.ext h
    exact K0.sum_at (ib0 V c hX t) w0 w1 w2 (ib4_at V c hb t) o
  · intro h
    obtain rfl : s = 1 := Fin.ext h
    exact K0.sq_at (ib0 V c hX t) w0 w1 w2 (ib4_at V c hb t) o

include hX h0 h1 h2 hb in
theorem stats_at (j : S4x256x128.Idx) : Stat X W b (j 0) (j 1) (j 2).val (((dat0 V c).arrAt 6 cfg0.N : FVec Ideal S4x256x128 .f32) j) := by
  refine (dat0 V c).arrAt_forall_of_covers 6 (fun j v => Stat X W b (j 0) (j 1) (j 2).val v) (by decide +kernel) (fun t _ y => ?_) j
  blk_simp
  rw [after0_6]
  frame_out
  have e0 : (((View.whole main_v185_1).slice (win0_6.rect t)).emb y 0 : Fin 4) = ⟨t.val, (idx t).2.2.2.2.2.2.2⟩ :=
    Fin.ext (by blk_simp [idx t])
  have e1 : (((View.whole main_v185_1).slice (win0_6.rect t)).emb y 1 : Fin 256) = y 1 := Fin.ext (by blk_simp [idx t])
  have e2 : win0_6.index t 2 * 128 + (y 2).val = (y 2).val := by blk_simp [idx t]
  rw [e0, e1, e2]
  exact stat_pt V c hX h0 h1 h2 hb t y

end Cert.R0
end
-- ==== Proof.R1.lean ====
/-
  What the topics' pipeline leaves in its four arrays: the topics' features, their messages for the two layers and their
  squared lengths.
-/
module

public import proofs.«01_k».proof.Proof.K1
public import Idealize.ShloMosaic.Lib.Pipeline.ValueKit

@[expose] public section

set_option maxRecDepth 16384
noncomputable section

open Idealize.ShloMosaic Idealize.ShloMosaic.TcCoe Idealize.SL.Sem Idealize.ShloMosaic.StableHlo
open Idealize.ShloMosaic.Pipeline (Dat)

namespace Cert.R1

open Cert.KernelIdeal Cert.KernelIdeal.Gen Cert.Num Cert.Spec

theorem idx : ∀ t : Fin cfg1.N, win1_0.index t = ![0, 0, 0] ∧ win1_1.index t = ![0, 0] ∧ win1_2.index t = ![0, 0] ∧ win1_3.index t = ![0, 0]
    ∧ win1_4.index t = ![0, 0] ∧ win1_5.index t = ![0, 0, 0] ∧ win1_6.index t = ![0, 0, 0] ∧ win1_7.index t = ![0, 0, 0] ∧ win1_8.index t = ![0, 0, 0] :=
  (by decide +kernel : ∀ t : Fin grid1.N, _)

variable (V : (c : Dev nD) → (b : Ref sig .tc) → Buf (Elt Ideal) ((c : Thread nD τ).loc b)) (c : Dev nD)

theorem ib0 (t : Fin cfg1.N) : (iblk1 V c 0 t : FVec Ideal S4x128x16 .f32) = V c main_arg1 := by blk_ext! [iblk1, idx t]
theorem ib1 (t : Fin cfg1.N) : (iblk1 V c 1 t : FVec Ideal S16x256 .f32) = V c main_v39 := by blk_ext! [iblk1, idx t]
theorem ib2 (t : Fin cfg1.N) : (iblk1 V c 2 t : FVec Ideal S8x256 .f32) = V c main_v180 := by blk_ext! [iblk1, idx t]
theorem ib3 (t : Fin cfg1.N) : (iblk1 V c 3 t : FVec Ideal S256x128 .f32) = V c main_v208 := by blk_ext! [iblk1, idx t]
theorem ib4 (t : Fin cfg1.N) : (iblk1 V c 4 t : FVec Ideal S256x128 .f32) = V c main_v209 := by blk_ext! [iblk1, idx t]

theorem arr5 : ((dat1 V c).arrAt 5 cfg1.N : FVec Ideal S4x128x256 .f32)
    = out1_5 (V c main_arg1 : FVec Ideal S4x128x16 .f32) (V c main_v39 : FVec Ideal S16x256 .f32) (V c main_v180 : FVec Ideal S8x256 .f32)
      (V c main_v208 : FVec Ideal S256x128 .f32) (V c main_v209 : FVec Ideal S256x128 .f32) := by
  refine (dat1 V c).arrAt_eq_of_covers 5 _ (by decide +kernel) fun t _ y => ?_
  blk_simp
  rw [after1_5, ib0, ib1, ib2, ib3, ib4]
  exact congrArg _ (by blk_ext [idx t])

theorem arr6 : ((dat1 V c).arrAt 6 cfg1.N : FVec Ideal S4x128x128 .f32)
    = out1_6 (V c main_arg1 : FVec Ideal S4x128x16 .f32) (V c main_v39 : FVec Ideal S16x256 .f32) (V c main_v180 : FVec Ideal S8x256 .f32)
      (V c main_v208 : FVec Ideal S256x128 .f32) (V c main_v209 : FVec Ideal S256x128 .f32) := by
  refine (dat1 V c).arrAt_eq_of_covers 6 _ (by decide +kernel) fun t _ y => ?_
  blk_simp
  rw [after1_6, ib0, ib1, ib2, ib3, ib4]
  exact congrArg _ (by blk_ext [idx t])

theorem arr7 : ((dat1 V c).arrAt 7 cfg1.N : FVec Ideal S4x128x128 .f32)
    = out1_7 (V c main_arg1 : FVec Ideal S4x128x16 .f32) (V c main_v39 : FVec Ideal S16x256 .f32) (V c main_v180 : FVec Ideal S8x256 .f32)
      (V c main_v208 : FVec Ideal S256x128 .f32) (V c main_v209 : FVec Ideal S256x128 .f32) := by
  refine (dat1 V c).arrAt_eq_of_covers 7 _ (by decide +kernel) fun t _ y => ?_
  blk_simp
  rw [after1_7, ib0, ib1, ib2, ib3, ib4]
  exact congrArg _ (by blk_ext [idx t])

theorem arr8 : ((dat1 V c).arrAt 8 cfg1.N : FVec Ideal S4x128x128 .f32)
    = out1_8 (V c main_arg1 : FVec Ideal S4x128x16 .f32) (V c main_v39 : FVec Ideal S16x256 .f32) (V c main_v180 : FVec Ideal S8x256 .f32)
      (V c main_v208 : FVec Ideal S256x128 .f32) (V c main_v209 : FVec Ideal S256x128 .f32) := by
  refine (dat1 V c).arrAt_eq_of_covers 8 _ (by decide +kernel) fun t _ y => ?_
  blk_simp
  rw [after1_8, ib0, ib1, ib2, ib3, ib4]
  exact congrArg _ (by blk_ext [idx t])

end Cert.R1
end
-- ==== Proof.K2.lean ====
/-
  The graph kernel's body as a composition of a few vector functions: the selection of the nearest topic, the masking, the
  picked column of messages, the six rounds and one layer.
-/
module

public import proofs.«01_k».proof.Proof.Gen.KernelIdeal.Frame
public import proofs.«01_k».proof.Proof.Spec
public import Idealize.ShloMosaic.Lib.Pipeline.ValueKit
public import Idealize.ShloMosaic.Lib.SortNet.Extract

@[expose] public section

set_option maxRecDepth 16384
noncomputable section

open Idealize.ShloMosaic Idealize.ShloMosaic.TcCoe Idealize.SL.Sem Idealize.ShloMosaic.StableHlo

namespace Cert.K2

open Cert.KernelIdeal Cert.KernelIdeal.Gen Cert.Num Cert.Spec

/-- The topics' numbers, down each column. -/
def nums : IVec S128x512 32 := iota .tc S128x512 32 [0] iota_S128x512_d0_w32

/-- Where the first smallest entry of each column lies. -/
def sel (d : FVec Ideal S128x512 .f32) : IVec S128x512 1 :=
  cmpi .eq nums (broadcastTo S128x512 (shapeCast S1x512 (multiReductionI .minsi [0] S512
    (select (cmpf .oeq d (broadcastTo S128x512 (shapeCast S1x512
      (multiReduction .minimumf [0] S512 d 0x7F800000#32 reduces_S128x512_S512 (.inl rfl) rfl) shapeCasts_S512_S1x512)
      broadcasts_S1x512_S128x512)) nums (broadcast S128x512 128#32))
    2147483647#32 reduces_S128x512_S512 rfl) shapeCasts_S512_S1x512) broadcasts_S1x512_S128x512)

/-- The distances with each column's chosen entry set far away. -/
def drop (d : FVec Ideal S128x512 .f32) : FVec Ideal S128x512 .f32 :=
  select (sel d) (broadcast S128x512 (Named.named κ "far" 0x7F61B1E6#32)) d

/-- The chosen topics' columns of `tm`. -/
def pickd (tm : FVec Ideal S128x128 .f32) (d : FVec Ideal S128x512 .f32) : FVec Ideal S128x512 .f32 :=
  matmul dot_S128x128_S128x512_S128x512_1_0_0_1_n_n none tm (sitofp .f32 (extui 32 (sel d) natLt_1_32))
    (constant S128x512 .f32 0x00000000#32)

/-- The greatest of six picks. -/
def rounds (tm : FVec Ideal S128x128 .f32) (d : FVec Ideal S128x512 .f32) : FVec Ideal S128x512 .f32 :=
  maximumf (maximumf (maximumf (maximumf (maximumf (maximumf (broadcast S128x512 (Scalar.ofBits .f32 0xFF800000#32))
    (pickd tm d)) (pickd tm (drop d))) (pickd tm (drop (drop d)))) (pickd tm (drop (drop (drop d)))))
    (pickd tm (drop (drop (drop (drop d)))))) (pickd tm (drop (drop (drop (drop (drop d))))))

/-- The distances of the columns of `x` to the rows of `tf`, the rows' squares given. -/
def dists (x : FVec Ideal S256x512 .f32) (tf : FVec Ideal S128x256 .f32) (t2 : FVec Ideal S128x1 .f32) : FVec Ideal S128x512 .f32 :=
  addf (subf (broadcastTo S128x512 (shapeCast S1x512 (multiReduction .add [0] S512 (mulf x x) 0x00000000#32 reduces_S256x512_S512 (.inl rfl) rfl)
      shapeCasts_S512_S1x512) broadcasts_S1x512_S128x512)
    (mulf (broadcast S128x512 (Scalar.ofBits .f32 0x40000000#32))
      (matmul dot_S128x256_S256x512_S128x512_1_0_0_1_n_n none tf x (constant S128x512 .f32 0x00000000#32))))
    (broadcastTo S128x512 t2 broadcasts_S128x1_S128x512)

/-- One layer on a block of columns. -/
def gcn (x : FVec Ideal S256x512 .f32) (tf : FVec Ideal S128x256 .f32) (t2 : FVec Ideal S128x1 .f32) (tm : FVec Ideal S128x128 .f32)
    (m : Vec Ideal S256x256 .f32) (b : Vec Ideal S256x1 .f32) : FVec Ideal S256x512 .f32 :=
  k2_pay18 x (rounds tm (dists x tf t2)) m b

theorem out_eq (x0 : Vec Ideal S1x256x512 .f32) (x1 : Vec Ideal S1x256x512 .f32) (x2 : Vec Ideal S1x128x256 .f32) (x3 : Vec Ideal S1x128x128 .f32) (x4 : Vec Ideal S1x128x128 .f32) (x5 : Vec Ideal S1x128x128 .f32) (x6 : Vec Ideal S256x128 .f32) (x7 : Vec Ideal S256x128 .f32) (x8 : Vec Ideal S256x256 .f32) (x9 : Vec Ideal S256x256 .f32) (x10 : Vec Ideal S256x128 .f32) (x11 : Vec Ideal S256x128 .f32) :
    out2_12 x0 x1 x2 x3 x4 x5 x6 x7 x8 x9 x10 x11 = View.canon [⟨r2_0, k2_pay1
      (gcn (gcn (k2_pay2 (View.ld x0 r2_0) (View.ld x6 r2_1) (View.ld x7 r2_1)) (k2_pay3 (View.ld x2 r2_2)) (k2_pay4 (View.ld x5 r2_3))
          (k2_pay5 (View.ld x3 r2_3)) (View.ld x8 r2_4) (View.ld x10 r2_1))
        (k2_pay3 (View.ld x2 r2_2)) (k2_pay4 (View.ld x5 r2_3)) (k2_pay19 (View.ld x4 r2_3)) (View.ld x9 r2_4) (View.ld x11 r2_1))
      (View.ld x1 r2_0)⟩] := rfl

/-! ## One column -/

/-- The least of the marked places' numbers. -/
theorem fold_minsi (P : Fin 128 → Prop) [DecidablePred P] (s : Fin 128) (hs : P s) (hmin : ∀ x, P x → s ≤ x) :
    Finset.fold IntOp.minsi (2147483647#32) (fun x : Fin 128 => if P x then BitVec.ofNat 32 x.val else 128#32) Finset.univ
      = BitVec.ofNat 32 s.val := by
  apply BitVec.eq_of_toInt_eq
  have hi : ∀ x : Fin 128, (BitVec.ofNat 32 x.val).toInt = (x.val : ℤ) := by decide
  have h := Finset.fold_hom (op := IntOp.minsi (w := 32)) (op' := (min : ℤ → ℤ → ℤ)) (m := BitVec.toInt)
    (b := 2147483647#32) (f := fun x : Fin 128 => if P x then BitVec.ofNat 32 x.val else 128#32) (s := Finset.univ)
    (fun a b => SortNet.toInt_minsi a b)
  rw [← h, hi s]
  apply le_antisymm
  · refine Finset.fold_min_le _ |>.mpr (Or.inr ⟨s, Finset.mem_univ _, ?_⟩)
    rw [if_pos hs, hi s]
  · refine Finset.le_fold_min _ |>.mpr ⟨?_, fun x _ => ?_⟩
    · have : (2147483647#32 : BitVec 32).toInt = 2147483647 := by decide
      rw [this]; have := s.isLt; omega
    · by_cases hx : P x
      · rw [if_pos hx, hi x]; exact_mod_cast hmin x hx
      · rw [if_neg hx]
        have : (128#32 : BitVec 32).toInt = 128 := by decide
        rw [this]; have := s.isLt; omega

/-- A column of the distances. -/
def col (d : FVec Ideal S128x512 .f32) (l : Fin 512) : Fin 128 → EReal := fun s => d (ix2 s l)

theorem sel_at (d : FVec Ideal S128x512 .f32) (s : Fin 128) (l : Fin 512) :
    sel d (ix2 s l) = if s = first (col d l) then 1#1 else 0#1 := by
  have hf := isFirst_first (col d l)
  have hmin : Finset.fold min (Ideal.ofBits .f32 2139095040#32) (fun x => d (ix2 x l)) Finset.univ = d (ix2 (first (col d l)) l) := by
    rw [bits_inf]
    refine le_antisymm (Finset.fold_min_le _ |>.mpr (Or.inr ⟨_, Finset.mem_univ _, le_refl _⟩))
      (Finset.le_fold_min _ |>.mpr ⟨le_top, fun x _ => ?_⟩)
    rcases hf x with h | ⟨h, _⟩
    · exact le_of_lt h
    · exact le_of_eq h
  pointwise [sel, nums]
  rw [hmin, fold_minsi (fun x => d (ix2 x l) = d (ix2 (first (col d l)) l)) (first (col d l)) rfl]
  · have : ∀ a b : Fin 128, IntOp.cmpi CmpIPredicate.eq (BitVec.ofNat 32 a.val) (BitVec.ofNat 32 b.val)
        = if a = b then 1#1 else 0#1 := by
      intro a b
      have h : BitVec.ofNat 32 a.val = BitVec.ofNat 32 b.val ↔ a = b := by
        constructor
        · intro h
          have h := congrArg BitVec.toNat h
          simp only [BitVec.toNat_ofNat] at h
          exact Fin.ext (by omega)
        · intro h; rw [h]
      by_cases hab : a = b
      · simp [IntOp.cmpi, hab]
      · have hne : (BitVec.ofNat 32 a.val == BitVec.ofNat 32 b.val) = false := by
          rw [beq_eq_false_iff_ne]; exact fun e => hab (h.mp e)
        rw [if_neg hab]; simp only [IntOp.cmpi, hne]; rfl
    exact this _ _
  · intro x hx
    rcases hf x with h | ⟨_, h⟩
    · exact absurd (lt_of_lt_of_eq h hx) (lt_irrefl _)
    · exact h

theorem far_eq : (Named.named κ "far" 0x7F61B1E6#32 : Ideal .f32) = (⊤ : EReal) := IdealRules.named_const.ideal_named_scalar _ _ _ _ rfl

theorem drop_col (d : FVec Ideal S128x512 .f32) (l : Fin 512) : col (drop d) l = maskAt (col d l) (first (col d l)) := by
  funext s
  show drop d (ix2 s l) = _
  pointwise [drop]
  rw [sel_at, far_eq]
  unfold maskAt
  by_cases h : s = first (col d l)
  · rw [if_pos h, if_pos h]; rfl
  · rw [if_neg h, if_neg h]; rfl

theorem pickd_at (tm : FVec Ideal S128x128 .f32) (d : FVec Ideal S128x512 .f32) (r : Fin 128) (l : Fin 512) :
    pickd tm d (ix2 r l) = tm (ix2 r (first (col d l))) := by
  pointwise [pickd]
  rw [← sum_pick (fun k => tm (ix2 r k)) (first (col d l))]
  refine Finset.sum_congr rfl fun x _ => ?_
  rw [sel_at]
  congr 1
  by_cases h : x = first (col d l)
  · rw [if_pos h, if_pos h]; norm_num [FloatOps.sitofp]
  · rw [if_neg h, if_neg h]; norm_num [FloatOps.sitofp]

theorem rounds_at (tm : FVec Ideal S128x128 .f32) (d : FVec Ideal S128x512 .f32) (r : Fin 128) (l : Fin 512) :
    rounds tm d (ix2 r l) = (Finset.univ : Finset (Fin 6)).fold max ⊥ fun k => tm (ix2 r (near (col d l) k.val)) := by
  rw [fold_max_six]
  pointwise [rounds]
  simp only [pickd_at, drop_col, bits_ninf]
  rfl

theorem gcn_at {x : FVec Ideal S256x512 .f32} {tf : FVec Ideal S128x256 .f32} {t2 : FVec Ideal S128x1 .f32} {tm : FVec Ideal S128x128 .f32}
    {m : Vec Ideal S256x256 .f32} {b : Vec Ideal S256x1 .f32} {l : Fin 512} {x' : Fin 256 → ℝ} {tf' : Fin 256 → Fin 128 → ℝ}
    {W : Fin 32 → Fin 8 → Fin 16 → ℝ} {b' : Fin 256 → EReal}
    (hx : ∀ c, x (ix2 c l) = (x' c : EReal)) (htf : ∀ s c, tf (ix2 s c) = (tf' c s : EReal))
    (ht2 : ∀ s, t2 (ix2 s 0) = ((∑ c, tf' c s * tf' c s : ℝ) : EReal))
    (htm : ∀ r s, tm (ix2 r s) = (own (fun c => tf' c s) W ⟨128 + r.val, by omega⟩ : EReal))
    (hm : ∀ (c : Fin 256) (v : Fin 256 → ℝ), (∑ k, m (ix2 c k) * (v k : EReal)) = (own v W c : EReal))
    (hb : ∀ c, b (ix2 c 0) = b' c) (c : Fin 256) :
    gcn x tf t2 tm m b (ix2 c l) = layer x' tf' W b' c := by
  have hd : col (dists x tf t2) l = fun s => (dist x' tf' s : EReal) := by
    funext s
    show dists x tf t2 (ix2 s l) = _
    pointwise [dists]
    simp only [hx, htf, ht2, bits_two, ← EReal.coe_mul, ← coe_sum, ← EReal.coe_sub, ← EReal.coe_add]
    unfold Cert.Spec.dist
    congr 4
    exact Finset.sum_congr rfl fun c _ => mul_comm _ _
  unfold gcn
  pointwise [k2_pay18]
  simp only [hx, hm, rounds_at, hd, hb]
  unfold layer agg
  by_cases h : c.val < 128
  · rw [dif_pos h, if_pos h]
  · rw [dif_neg h, if_neg h]
    have e : ∀ p, (⟨128 + (c.val - 128), p⟩ : Fin 256) = c := fun p => Fin.ext (by show 128 + (c.val - 128) = c.val; omega)
    simp only [htm, e, sub_eq_add_neg, EReal.coe_neg]
    rfl

end Cert.K2
end
-- ==== Proof.R2.lean ====
/-
  What the graph network's pipeline leaves in its array.
-/
module

public import proofs.«01_k».proof.Proof.K2
public import proofs.«01_k».proof.Proof.K1
public import Idealize.ShloMosaic.Lib.Pipeline.ValueKit

@[expose] public section

set_option maxRecDepth 16384
noncomputable section

open Idealize.ShloMosaic Idealize.ShloMosaic.TcCoe Idealize.SL.Sem Idealize.ShloMosaic.StableHlo
open Idealize.ShloMosaic.Pipeline (Dat)

namespace Cert.R2

open Cert.KernelIdeal Cert.KernelIdeal.Gen Cert.Num Cert.Spec

section point
variable {x0 x1 : Vec Ideal S1x256x512 .f32} {x2 : Vec Ideal S1x128x256 .f32} {x3 x4 x5 : Vec Ideal S1x128x128 .f32}
  {x6 x7 : Vec Ideal S256x128 .f32} {x8 x9 : Vec Ideal S256x256 .f32} {x10 x11 : Vec Ideal S256x128 .f32}
  {l : Fin 512} {y x a d : Fin 256 → ℝ} {tf : Fin 256 → Fin 128 → ℝ} {W1 W2 : Fin 32 → Fin 8 → Fin 16 → ℝ} {b1 : Fin 256 → ℝ} {b2 : Fin 256 → EReal}
  (hy : ∀ c, x0 (ix3 0 c l) = (y c : EReal)) (hx : ∀ c, x1 (ix3 0 c l) = (x c : EReal))
  (htf : ∀ s c, x2 (ix3 0 s c) = (tf c s : EReal))
  (h1 : ∀ r s, x3 (ix3 0 r s) = (own (fun c => tf c s) W1 ⟨128 + r.val, up_lt r⟩ : EReal))
  (h2 : ∀ r s, x4 (ix3 0 r s) = (own (fun c => tf c s) W2 ⟨128 + r.val, up_lt r⟩ : EReal))
  (ht : ∀ s, x5 (ix3 0 s 0) = ((∑ c, tf c s * tf c s : ℝ) : EReal))
  (ha : ∀ c, x6 (ix2 c 0) = (a c : EReal)) (hd : ∀ c, x7 (ix2 c 0) = (d c : EReal))
  (hm1 : ∀ (c : Fin 256) (v : Fin 256 → ℝ), (∑ k, x8 (ix2 c k) * (v k : EReal)) = (own v W1 c : EReal))
  (hm2 : ∀ (c : Fin 256) (v : Fin 256 → ℝ), (∑ k, x9 (ix2 c k) * (v k : EReal)) = (own v W2 c : EReal))
  (hb1 : ∀ c, x10 (ix2 c 0) = (b1 c : EReal)) (hb2 : ∀ c, x11 (ix2 c 0) = b2 c)

include hy ha hd in
theorem base_at (c : Fin 256) : k2_pay2 (View.ld x0 r2_0) (View.ld x6 r2_1) (View.ld x7 r2_1) (ix2 c l) = ((max (y c * a c + d c) 0 : ℝ) : EReal) := by
  pointwise [k2_pay2]
  rw [hy, ha, hd, coe_max, EReal.coe_add, EReal.coe_mul, EReal.coe_zero]

include hy hx htf h1 h2 ht ha hd hm1 hm2 hb1 hb2 in
theorem out_at (c : Fin 256) : out2_12 x0 x1 x2 x3 x4 x5 x6 x7 x8 x9 x10 x11 (ix3 0 c l)
    = layer (fun c => layerR (fun c => max (y c * a c + d c) 0) tf W1 b1 c) tf W2 b2 c + (x c : EReal) := by
  have etf : ∀ s c, k2_pay3 (View.ld x2 r2_2) (ix2 s c) = (tf c s : EReal) := fun s c => by
    rw [← htf]; pointwise [k2_pay3]
  have et : ∀ s, k2_pay4 (View.ld x5 r2_3) (ix2 s 0) = ((∑ c, tf c s * tf c s : ℝ) : EReal) := fun s => by
    rw [← ht]; pointwise [k2_pay4]
  have e1 : ∀ r s, k2_pay5 (View.ld x3 r2_3) (ix2 r s) = (own (fun c => tf c s) W1 ⟨128 + r.val, up_lt r⟩ : EReal) := fun r s => by
    rw [← h1]; pointwise [k2_pay5]
  have e2 : ∀ r s, k2_pay19 (View.ld x4 r2_3) (ix2 r s) = (own (fun c => tf c s) W2 ⟨128 + r.val, up_lt r⟩ : EReal) := fun r s => by
    rw [← h2]; pointwise [k2_pay19]
  have f1 := K2.gcn_at (base_at hy ha hd) etf et e1 (m := View.ld x8 r2_4) (b := View.ld x10 r2_1) (b' := fun c => (b1 c : EReal)) (W := W1)
    (fun c v => by rw [← hm1]; pointwise []) (fun c => by rw [← hb1]; pointwise [])
  have f2 := K2.gcn_at (fun c => (f1 c).trans (layer_eq _ _ _ _ c)) etf et e2 (m := View.ld x9 r2_4) (b := View.ld x11 r2_1) (b' := b2) (W := W2)
    (fun c v => by rw [← hm2]; pointwise []) (fun c => by rw [← hb2]; pointwise [])
  rw [K2.out_eq]
  have p : ∀ (G : FVec Ideal S256x512 .f32) (c : Fin 256), k2_pay1 G (View.ld x1 r2_0) (ix3 0 c l) = G (ix2 c l) + x1 (ix3 0 c l) :=
    fun G c => by pointwise [k2_pay1]
  canon_tiles x' h
  obtain rfl := K1.idx3_eq x' 0 c l (Nat.lt_one_iff.mp x'0_lt) h1.symm h2.symm
  rw [p, f2, hx]

end point

theorem idx : ∀ t : Fin cfg2.N, win2_0.index t = ![t.val / 4, 0, t.val % 4] ∧ win2_1.index t = ![t.val / 4, 0, t.val % 4]
    ∧ win2_2.index t = ![t.val / 4, 0, 0] ∧ win2_3.index t = ![t.val / 4, 0, 0] ∧ win2_4.index t = ![t.val / 4, 0, 0] ∧ win2_5.index t = ![t.val / 4, 0, 0]
    ∧ win2_6.index t = ![0, 0] ∧ win2_7.index t = ![0, 0] ∧ win2_8.index t = ![0, 0] ∧ win2_9.index t = ![0, 0] ∧ win2_10.index t = ![0, 0]
    ∧ win2_11.index t = ![0, 0] ∧ win2_12.index t = ![t.val / 4, 0, t.val % 4] :=
  (by decide +kernel : ∀ t : Fin grid2.N, _)
theorem lt16 : ∀ t : Fin cfg2.N, t.val < 16 := (by decide +kernel : ∀ t : Fin grid2.N, _)

/-- The batch element of a grid point. -/
def bat (t : Fin cfg2.N) : Fin 4 := ⟨t.val / 4, by have := lt16 t; omega⟩
/-- The row position of a grid point's column. -/
def pos (t : Fin cfg2.N) (l : Fin 512) : Fin 2048 := ⟨t.val % 4 * 512 + l.val, by omega⟩

variable (V : (c : Dev nD) → (b : Ref sig .tc) → Buf (Elt Ideal) ((c : Thread nD τ).loc b)) (c : Dev nD)

theorem ib0 (t : Fin cfg2.N) (ch : Fin 256) (l : Fin 512) : (iblk2 V c 0 t : FVec Ideal S1x256x512 .f32) (ix3 0 ch l)
    = (V c main_v185_0 : FVec Ideal S4x256x2048 .f32) (ix3 (bat t) ch (pos t l)) := by blk_ext [iblk2, idx t, bat, pos]
theorem ib1 (t : Fin cfg2.N) (ch : Fin 256) (l : Fin 512) : (iblk2 V c 1 t : FVec Ideal S1x256x512 .f32) (ix3 0 ch l)
    = (V c main_arg0 : FVec Ideal S4x256x2048 .f32) (ix3 (bat t) ch (pos t l)) := by blk_ext [iblk2, idx t, bat, pos]
theorem ib2 (t : Fin cfg2.N) (s : Fin 128) (ch : Fin 256) : (iblk2 V c 2 t : FVec Ideal S1x128x256 .f32) (ix3 0 s ch)
    = (V c main_v210_0 : FVec Ideal S4x128x256 .f32) (ix3 (bat t) s ch) := by blk_ext [iblk2, idx t, bat, pos]
theorem ib3 (t : Fin cfg2.N) (r s : Fin 128) : (iblk2 V c 3 t : FVec Ideal S1x128x128 .f32) (ix3 0 r s)
    = (V c main_v210_1 : FVec Ideal S4x128x128 .f32) (ix3 (bat t) r s) := by blk_ext [iblk2, idx t, bat, pos]
theorem ib4 (t : Fin cfg2.N) (r s : Fin 128) : (iblk2 V c 4 t : FVec Ideal S1x128x128 .f32) (ix3 0 r s)
    = (V c main_v210_2 : FVec Ideal S4x128x128 .f32) (ix3 (bat t) r s) := by blk_ext [iblk2, idx t, bat, pos]
theorem ib5 (t : Fin cfg2.N) (r s : Fin 128) : (iblk2 V c 5 t : FVec Ideal S1x128x128 .f32) (ix3 0 r s)
    = (V c main_v210_3 : FVec Ideal S4x128x128 .f32) (ix3 (bat t) r s) := by blk_ext [iblk2, idx t, bat, pos]
theorem ib6 (t : Fin cfg2.N) : (iblk2 V c 6 t : FVec Ideal S256x128 .f32) = V c main_v205 := by blk_ext! [iblk2, idx t]
theorem ib7 (t : Fin cfg2.N) : (iblk2 V c 7 t : FVec Ideal S256x128 .f32) = V c main_v207 := by blk_ext! [iblk2, idx t]
theorem ib8 (t : Fin cfg2.N) : (iblk2 V c 8 t : FVec Ideal S256x256 .f32) = V c main_v172 := by blk_ext! [iblk2, idx t]
theorem ib9 (t : Fin cfg2.N) : (iblk2 V c 9 t : FVec Ideal S256x256 .f32) = V c main_v173 := by blk_ext! [iblk2, idx t]
theorem ib10 (t : Fin cfg2.N) : (iblk2 V c 10 t : FVec Ideal S256x128 .f32) = V c main_v182 := by blk_ext! [iblk2, idx t]
theorem ib11 (t : Fin cfg2.N) : (iblk2 V c 11 t : FVec Ideal S256x128 .f32) = V c main_v184 := by blk_ext! [iblk2, idx t]

/-- A layer's weights as the rows of one matrix. -/
def Rows (w : FVec Ideal S256x256 .f32) (W : Fin 32 → Fin 8 → Fin 16 → ℝ) : Prop :=
  ∀ (c : Fin 256) (v : Fin 256 → ℝ), (∑ k, w (ix2 c k) * (v k : EReal)) = (own v W c : EReal)

variable {y x : Fin 4 → Fin 256 → Fin 2048 → ℝ} {a d : Fin 256 → ℝ} {tf : Fin 4 → Fin 256 → Fin 128 → ℝ} {W1 W2 : Fin 32 → Fin 8 → Fin 16 → ℝ}
  {b1 : Fin 256 → ℝ} {b2 : Fin 256 → EReal}
  (hy : ∀ i o t, (V c main_v185_0 : FVec Ideal S4x256x2048 .f32) (ix3 i o t) = (y i o t : EReal))
  (hx : ∀ i o t, (V c main_arg0 : FVec Ideal S4x256x2048 .f32) (ix3 i o t) = (x i o t : EReal))
  (htf : ∀ i s o, (V c main_v210_0 : FVec Ideal S4x128x256 .f32) (ix3 i s o) = (tf i o s : EReal))
  (h1 : ∀ i r s, (V c main_v210_1 : FVec Ideal S4x128x128 .f32) (ix3 i r s) = (own (fun o => tf i o s) W1 ⟨128 + r.val, up_lt r⟩ : EReal))
  (h2 : ∀ i r s, (V c main_v210_2 : FVec Ideal S4x128x128 .f32) (ix3 i r s) = (own (fun o => tf i o s) W2 ⟨128 + r.val, up_lt r⟩ : EReal))
  (ht : ∀ i s r, (V c main_v210_3 : FVec Ideal S4x128x128 .f32) (ix3 i s r) = ((∑ o, tf i o s * tf i o s : ℝ) : EReal))
  (ha : ∀ o, (V c main_v205 : FVec Ideal S256x128 .f32) (ix2 o 0) = (a o : EReal)) (hd : ∀ o, (V c main_v207 : FVec Ideal S256x128 .f32) (ix2 o 0) = (d o : EReal))
  (hm1 : Rows (V c main_v172) W1) (hm2 : Rows (V c main_v173) W2)
  (hb1 : ∀ o, (V c main_v182 : FVec Ideal S256x128 .f32) (ix2 o 0) = (b1 o : EReal)) (hb2 : ∀ o, (V c main_v184 : FVec Ideal S256x128 .f32) (ix2 o 0) = b2 o)

/-- The final value at an index. -/
def fin (y x : Fin 4 → Fin 256 → Fin 2048 → ℝ) (a d : Fin 256 → ℝ) (tf : Fin 4 → Fin 256 → Fin 128 → ℝ) (W1 W2 : Fin 32 → Fin 8 → Fin 16 → ℝ)
    (b1 : Fin 256 → ℝ) (b2 : Fin 256 → EReal) (i : Fin 4) (o : Fin 256) (t : Fin 2048) : EReal :=
  layer (fun c => layerR (fun c => max (y i c t * a c + d c) 0) (tf i) W1 b1 c) (tf i) W2 b2 o + (x i o t : EReal)

include hy hx htf h1 h2 ht ha hd hm1 hm2 hb1 hb2

theorem out_pt (t : Fin cfg2.N) (j : S1x256x512.Idx) :
    out2_12 (iblk2 V c 0 t) (iblk2 V c 1 t) (iblk2 V c 2 t) (iblk2 V c 3 t) (iblk2 V c 4 t) (iblk2 V c 5 t) (iblk2 V c 6 t) (iblk2 V c 7 t)
      (iblk2 V c 8 t) (iblk2 V c 9 t) (iblk2 V c 10 t) (iblk2 V c 11 t) j = fin y x a d tf W1 W2 b1 b2 (bat t) (j 1) (pos t (j 2)) := by
  obtain ⟨o, s, rfl⟩ : ∃ o s, j = ix3 0 o s := ⟨j 1, j 2, K1.idx3_eq j 0 (j 1) (j 2) (Nat.lt_one_iff.mp (j 0).isLt) rfl rfl⟩
  exact out_at (y := fun o => y (bat t) o (pos t s)) (x := fun o => x (bat t) o (pos t s)) (tf := tf (bat t)) (a := a) (d := d) (W1 := W1) (W2 := W2) (b1 := b1) (b2 := b2)
    (fun o => (ib0 V c t o s).trans (hy ..)) (fun o => (ib1 V c t o s).trans (hx ..)) (fun s o => (ib2 V c t s o).trans (htf ..))
    (fun r s => (ib3 V c t r s).trans (h1 ..)) (fun r s => (ib4 V c t r s).trans (h2 ..)) (fun s => (ib5 V c t s 0).trans (ht ..))
    (by rw [ib6]; exact ha) (by rw [ib7]; exact hd) (by rw [ib8]; exact hm1) (by rw [ib9]; exact hm2) (by rw [ib10]; exact hb1) (by rw [ib11]; exact hb2) o

theorem arr_at (i : Fin 4) (o : Fin 256) (t : Fin 2048) :
    ((dat2 V c).arrAt 12 cfg2.N : FVec Ideal S4x256x2048 .f32) (ix3 i o t) = fin y x a d tf W1 W2 b1 b2 i o t := by
  have e : (dat2 V c).arrAt 12 cfg2.N = ((fun j => fin y x a d tf W1 W2 b1 b2 (j 0) (j 1) (j 2)) : FVec Ideal S4x256x2048 .f32) := by
    refine (dat2 V c).arrAt_eq_of_covers 12 _ (by decide +kernel) fun t _ j => ?_
    blk_simp
    rw [after2_12]
    have e0 : (((View.whole main_v211).slice (win2_12.rect t)).emb j 0 : Fin 4) = bat t := Fin.ext (by blk_simp [idx t, bat])
    have e1 : (((View.whole main_v211).slice (win2_12.rect t)).emb j 1 : Fin 256) = j 1 := Fin.ext (by blk_simp [idx t])
    have e2 : (((View.whole main_v211).slice (win2_12.rect t)).emb j 2 : Fin 2048) = pos t (j 2) := Fin.ext (by blk_simp [idx t, pos])
    exact (out_pt V c hy hx htf h1 h2 ht ha hd hm1 hm2 hb1 hb2 t j).trans (by rw [e0, e1, e2])
  exact congrFun e _

end Cert.R2
end
-- ==== Proof.KRun.lean ====
/-
  The idealized kernel's result array after the whole run: the network's value.
-/
module

public import proofs.«01_k».proof.Proof.HostRun
public import proofs.«01_k».proof.Proof.R0
public import proofs.«01_k».proof.Proof.R1
public import proofs.«01_k».proof.Proof.R2

@[expose] public section

set_option maxRecDepth 16384
noncomputable section

open Idealize.ShloMosaic Idealize.ShloMosaic.TcCoe Idealize.SL.Sem Idealize.ShloMosaic.StableHlo

namespace Cert.KRun

set_option maxHeartbeats 1600000
open Cert.KernelIdeal Cert.KernelIdeal.Gen Cert.Num Cert.Spec Cert.Host

variable (m : (ℓ : Loc nD τ sig) → Buf (Elt Ideal) ℓ) (ρ : Dev nD → PrngReg) (c : Dev nD)

theorem keep_v8_19 : W19 m ρ c (Proc.devRef .tc main_v8) = W2 m ρ c (Proc.devRef .tc main_v8) :=
  (W19_of m ρ c main_v8 (by decide)).trans
    ((W18_of m ρ c main_v8 (by decide)).trans
    ((W17_of m ρ c main_v8 (by decide)).trans
    ((W16_of m ρ c main_v8 (by decide)).trans
    ((W15_of m ρ c main_v8 (by decide)).trans
    ((W14_of m ρ c main_v8 (by decide)).trans
    ((W13_of m ρ c main_v8 (by decide)).trans
    ((W12_of m ρ c main_v8 (by decide)).trans
    ((W11_of m ρ c main_v8 (by decide)).trans
    ((W10_of m ρ c main_v8 (by decide)).trans
    ((W9_of m ρ c main_v8 (by decide)).trans
    ((W8_of m ρ c main_v8 (by decide)).trans
    ((W7_of m ρ c main_v8 (by decide)).trans
    ((W6_of m ρ c main_v8 (by decide)).trans
    ((W5_of m ρ c main_v8 (by decide)).trans
    ((W4_of m ρ c main_v8 (by decide)).trans
    (W3_of m ρ c main_v8 (by decide)))))))))))))))))

theorem keep_v17_19 : W19 m ρ c (Proc.devRef .tc main_v17) = W4 m ρ c (Proc.devRef .tc main_v17) :=
  (W19_of m ρ c main_v17 (by decide)).trans
    ((W18_of m ρ c main_v17 (by decide)).trans
    ((W17_of m ρ c main_v17 (by decide)).trans
    ((W16_of m ρ c main_v17 (by decide)).trans
    ((W15_of m ρ c main_v17 (by decide)).trans
    ((W14_of m ρ c main_v17 (by decide)).trans
    ((W13_of m ρ c main_v17 (by decide)).trans
    ((W12_of m ρ c main_v17 (by decide)).trans
    ((W11_of m ρ c main_v17 (by decide)).trans
    ((W10_of m ρ c main_v17 (by decide)).trans
    ((W9_of m ρ c main_v17 (by decide)).trans
    ((W8_of m ρ c main_v17 (by decide)).trans
    ((W7_of m ρ c main_v17 (by decide)).trans
    ((W6_of m ρ c main_v17 (by decide)).trans
    (W5_of m ρ c main_v17 (by decide)))))))))))))))

theorem keep_v26_19 : W19 m ρ c (Proc.devRef .tc main_v26) = W6 m ρ c (Proc.devRef .tc main_v26) :=
  (W19_of m ρ c main_v26 (by decide)).trans
    ((W18_of m ρ c main_v26 (by decide)).trans
    ((W17_of m ρ c main_v26 (by decide)).trans
    ((W16_of m ρ c main_v26 (by decide)).trans
    ((W15_of m ρ c main_v26 (by decide)).trans
    ((W14_of m ρ c main_v26 (by decide)).trans
    ((W13_of m ρ c main_v26 (by decide)).trans
    ((W12_of m ρ c main_v26 (by decide)).trans
    ((W11_of m ρ c main_v26 (by decide)).trans
    ((W10_of m ρ c main_v26 (by decide)).trans
    ((W9_of m ρ c main_v26 (by decide)).trans
    ((W8_of m ρ c main_v26 (by decide)).trans
    (W7_of m ρ c main_v26 (by decide)))))))))))))

theorem keep_v175_19 : W19 m ρ c (Proc.devRef .tc main_v175) = W17 m ρ c (Proc.devRef .tc main_v175) :=
  (W19_of m ρ c main_v175 (by decide)).trans
    (W18_of m ρ c main_v175 (by decide))

theorem keep_v39_21 : W21 m ρ c (Proc.devRef .tc main_v39) = W8 m ρ c (Proc.devRef .tc main_v39) :=
  (W21_of m ρ c main_v39 (by decide)).trans
    ((W20_of m ρ c main_v39 (by decide +kernel)).trans
    ((W19_of m ρ c main_v39 (by decide)).trans
    ((W18_of m ρ c main_v39 (by decide)).trans
    ((W17_of m ρ c main_v39 (by decide)).trans
    ((W16_of m ρ c main_v39 (by decide)).trans
    ((W15_of m ρ c main_v39 (by decide)).trans
    ((W14_of m ρ c main_v39 (by decide)).trans
    ((W13_of m ρ c main_v39 (by decide)).trans
    ((W12_of m ρ c main_v39 (by decide)).trans
    ((W11_of m ρ c main_v39 (by decide)).trans
    ((W10_of m ρ c main_v39 (by decide)).trans
    (W9_of m ρ c main_v39 (by decide)))))))))))))

theorem keep_v180_21 : W21 m ρ c (Proc.devRef .tc main_v180) = W18 m ρ c (Proc.devRef .tc main_v180) :=
  (W21_of m ρ c main_v180 (by decide)).trans
    ((W20_of m ρ c main_v180 (by decide +kernel)).trans
    (W19_of m ρ c main_v180 (by decide)))

theorem keep_v105_20 : W20 m ρ c (Proc.devRef .tc main_v105) = W12 m ρ c (Proc.devRef .tc main_v105) :=
  (W20_of m ρ c main_v105 (by decide +kernel)).trans
    ((W19_of m ρ c main_v105 (by decide)).trans
    ((W18_of m ρ c main_v105 (by decide)).trans
    ((W17_of m ρ c main_v105 (by decide)).trans
    ((W16_of m ρ c main_v105 (by decide)).trans
    ((W15_of m ρ c main_v105 (by decide)).trans
    ((W14_of m ρ c main_v105 (by decide)).trans
    (W13_of m ρ c main_v105 (by decide))))))))

theorem keep_v171_20 : W20 m ρ c (Proc.devRef .tc main_v171) = W16 m ρ c (Proc.devRef .tc main_v171) :=
  (W20_of m ρ c main_v171 (by decide +kernel)).trans
    ((W19_of m ρ c main_v171 (by decide)).trans
    ((W18_of m ρ c main_v171 (by decide)).trans
    (W17_of m ρ c main_v171 (by decide))))

theorem keep_v72_16 : W16 m ρ c (Proc.devRef .tc main_v72) = W10 m ρ c (Proc.devRef .tc main_v72) :=
  (W16_of m ρ c main_v72 (by decide)).trans
    ((W15_of m ρ c main_v72 (by decide)).trans
    ((W14_of m ρ c main_v72 (by decide)).trans
    ((W13_of m ρ c main_v72 (by decide)).trans
    ((W12_of m ρ c main_v72 (by decide)).trans
    (W11_of m ρ c main_v72 (by decide))))))

theorem keep_v105_16 : W16 m ρ c (Proc.devRef .tc main_v105) = W12 m ρ c (Proc.devRef .tc main_v105) :=
  (W16_of m ρ c main_v105 (by decide)).trans
    ((W15_of m ρ c main_v105 (by decide)).trans
    ((W14_of m ρ c main_v105 (by decide)).trans
    (W13_of m ρ c main_v105 (by decide))))

theorem keep_v138_16 : W16 m ρ c (Proc.devRef .tc main_v138) = W14 m ρ c (Proc.devRef .tc main_v138) :=
  (W16_of m ρ c main_v138 (by decide)).trans
    (W15_of m ρ c main_v138 (by decide))

theorem keep_v172_22 : W22 m ρ c (Proc.devRef .tc main_v172) = W17 m ρ c (Proc.devRef .tc main_v172) :=
  (W22_of m ρ c main_v172 (by decide +kernel)).trans
    ((W21_of m ρ c main_v172 (by decide)).trans
    ((W20_of m ρ c main_v172 (by decide +kernel)).trans
    ((W19_of m ρ c main_v172 (by decide)).trans
    (W18_of m ρ c main_v172 (by decide)))))

theorem keep_v173_22 : W22 m ρ c (Proc.devRef .tc main_v173) = W17 m ρ c (Proc.devRef .tc main_v173) :=
  (W22_of m ρ c main_v173 (by decide +kernel)).trans
    ((W21_of m ρ c main_v173 (by decide)).trans
    ((W20_of m ρ c main_v173 (by decide +kernel)).trans
    ((W19_of m ρ c main_v173 (by decide)).trans
    (W18_of m ρ c main_v173 (by decide)))))

theorem keep_v182_22 : W22 m ρ c (Proc.devRef .tc main_v182) = W19 m ρ c (Proc.devRef .tc main_v182) :=
  (W22_of m ρ c main_v182 (by decide +kernel)).trans
    ((W21_of m ρ c main_v182 (by decide)).trans
    (W20_of m ρ c main_v182 (by decide +kernel)))

theorem keep_v184_22 : W22 m ρ c (Proc.devRef .tc main_v184) = W19 m ρ c (Proc.devRef .tc main_v184) :=
  (W22_of m ρ c main_v184 (by decide +kernel)).trans
    ((W21_of m ρ c main_v184 (by decide)).trans
    (W20_of m ρ c main_v184 (by decide +kernel)))

theorem keep_v205_22 : W22 m ρ c (Proc.devRef .tc main_v205) = W21 m ρ c (Proc.devRef .tc main_v205) :=
  W22_of m ρ c main_v205 (by decide +kernel)

theorem keep_v207_22 : W22 m ρ c (Proc.devRef .tc main_v207) = W21 m ρ c (Proc.devRef .tc main_v207) :=
  W22_of m ρ c main_v207 (by decide +kernel)

theorem keep_v185_0_22 : W22 m ρ c (Proc.devRef .tc main_v185_0) = W20 m ρ c (Proc.devRef .tc main_v185_0) :=
  (W22_of m ρ c main_v185_0 (by decide +kernel)).trans
    (W21_of m ρ c main_v185_0 (by decide))

variable {X : Fin 4 → Fin 256 → Fin 2048 → ℝ} {T : Fin 4 → Fin 128 → Fin 16 → EReal} {W1 : Fin 256 → Fin 64 → Fin 3 → ℝ}
  {b1 g1 be1 : Fin 256 → ℝ} {Wt : Fin 256 → Fin 4 → EReal} {bt : Fin 256 → EReal} {gt bet : Fin 256 → ℝ} {Wg1 : Fin 32 → Fin 8 → Fin 16 → ℝ}
  {bg1 : Fin 256 → ℝ} {Wg2 : Fin 32 → Fin 8 → Fin 16 → ℝ}
  (hX : ∀ i o t, (m ((c : Thread nD τ).loc main_arg0) : FVec Ideal S4x256x2048 .f32) (ix3 i o t) = (X i o t : EReal))
  (hT : ∀ i t j, (m ((c : Thread nD τ).loc main_arg1) : FVec Ideal S4x128x16 .f32) (ix3 i t j) = T i t j)
  (hW1 : ∀ o x d, (m ((c : Thread nD τ).loc main_arg2) : FVec Ideal S256x64x3 .f32) (ix3 o x d) = (W1 o x d : EReal))
  (hb1 : ∀ o, (m ((c : Thread nD τ).loc main_arg3) : FVec Ideal S256 .f32) (ix1 o) = (b1 o : EReal))
  (hg1 : ∀ o, (m ((c : Thread nD τ).loc main_arg4) : FVec Ideal S256 .f32) (ix1 o) = (g1 o : EReal))
  (hbe1 : ∀ o, (m ((c : Thread nD τ).loc main_arg5) : FVec Ideal S256 .f32) (ix1 o) = (be1 o : EReal))
  (hWt : ∀ o x, (m ((c : Thread nD τ).loc main_arg6) : FVec Ideal S256x4x1 .f32) (ix3 o x 0) = Wt o x)
  (hbt : ∀ o, (m ((c : Thread nD τ).loc main_arg7) : FVec Ideal S256 .f32) (ix1 o) = bt o)
  (hgt : ∀ o, (m ((c : Thread nD τ).loc main_arg8) : FVec Ideal S256 .f32) (ix1 o) = (gt o : EReal))
  (hbet : ∀ o, (m ((c : Thread nD τ).loc main_arg9) : FVec Ideal S256 .f32) (ix1 o) = (bet o : EReal))
  (hWg1 : ∀ g x y, (m ((c : Thread nD τ).loc main_arg10) : FVec Ideal S32x8x16 .f32) (ix3 g x y) = (Wg1 g x y : EReal))
  (hbg1 : ∀ o, (m ((c : Thread nD τ).loc main_arg11) : FVec Ideal S256 .f32) (ix1 o) = (bg1 o : EReal))
  (hWg2 : ∀ g x y, (m ((c : Thread nD τ).loc main_arg12) : FVec Ideal S32x8x16 .f32) (ix3 g x y) = (Wg2 g x y : EReal))

include hW1 in
theorem tap_v8 : K0.Tap (W19 m ρ c (Proc.devRef .tc main_v8) : FVec Ideal S256x256 .f32) (fun o x => W1 o x 0) := by
  rw [keep_v8_19]
  exact Host.tap0 (W0 m ρ c) fun o x d => (congrFun (W0_args m ρ c main_arg2 (by decide)) _).trans (hW1 o x d)

include hW1 in
theorem tap_v17 : K0.Tap (W19 m ρ c (Proc.devRef .tc main_v17) : FVec Ideal S256x256 .f32) (fun o x => W1 o x 1) := by
  rw [keep_v17_19]
  exact Host.tap1 (W2 m ρ c) fun o x d => (congrFun (W2_args m ρ c main_arg2 (by decide)) _).trans (hW1 o x d)

include hW1 in
theorem tap_v26 : K0.Tap (W19 m ρ c (Proc.devRef .tc main_v26) : FVec Ideal S256x256 .f32) (fun o x => W1 o x 2) := by
  rw [keep_v26_19]
  exact Host.tap2 (W4 m ρ c) fun o x d => (congrFun (W4_args m ρ c main_arg2 (by decide)) _).trans (hW1 o x d)

include hb1 in
theorem bias1 (o : Fin 256) : (W19 m ρ c (Proc.devRef .tc main_v175) : FVec Ideal S256x128 .f32) (ix2 o 0) = (b1 o : EReal) := by
  rw [keep_v175_19]
  exact (spread_b1 (W16 m ρ c) o 0).trans ((congrFun (W16_args m ρ c main_arg3 (by decide)) _).trans (hb1 o))

include hX in
theorem x19 (i : Fin 4) (o : Fin 256) (t : Fin 2048) : (W19 m ρ c (Proc.devRef .tc main_arg0) : FVec Ideal S4x256x2048 .f32) (ix3 i o t) = (X i o t : EReal) :=
  (congrFun (W19_args m ρ c main_arg0 (by decide)) _).trans (hX i o t)

include hX hW1 hb1 in
theorem y20 (i : Fin 4) (o : Fin 256) (t : Fin 2048) : (W20 m ρ c (Proc.devRef .tc main_v185_0) : FVec Ideal S4x256x2048 .f32) (ix3 i o t) = (cY X W1 b1 i o t : EReal) :=
  (congrFun (W20_arr m ρ c 5) _).trans (R0.y_at (V19 m ρ) c (x19 m ρ c hX) (tap_v8 m ρ c hW1) (tap_v17 m ρ c hW1) (tap_v26 m ρ c hW1) (bias1 m ρ c hb1) i o t)

include hX hW1 hb1 in
theorem stat20 (j : S4x256x128.Idx) : R0.Stat X W1 b1 (j 0) (j 1) (j 2).val ((W20 m ρ c (Proc.devRef .tc main_v185_1) : FVec Ideal S4x256x128 .f32) j) := by
  have h := R0.stats_at (V19 m ρ) c (x19 m ρ c hX) (tap_v8 m ρ c hW1) (tap_v17 m ρ c hW1) (tap_v26 m ρ c hW1) (bias1 m ρ c hb1) j
  rwa [← congrFun (W20_arr m ρ c 6) j] at h

include hX hW1 hb1 in
theorem sum20 (i : Fin 4) (o : Fin 256) : (W20 m ρ c (Proc.devRef .tc main_v185_1) : FVec Ideal S4x256x128 .f32) (ix3 i o 0) = ((∑ t, cY X W1 b1 i o t : ℝ) : EReal) :=
  (stat20 m ρ c hX hW1 hb1 (ix3 i o 0)).1 rfl

include hX hW1 hb1 in
theorem sq20 (i : Fin 4) (o : Fin 256) : (W20 m ρ c (Proc.devRef .tc main_v185_1) : FVec Ideal S4x256x128 .f32) (ix3 i o 1)
    = ((∑ t, cY X W1 b1 i o t * cY X W1 b1 i o t : ℝ) : EReal) :=
  (stat20 m ρ c hX hW1 hb1 (ix3 i o 1)).2 rfl

include hX hW1 hb1 hg1 in
theorem scale22 (o : Fin 256) : (W22 m ρ c (Proc.devRef .tc main_v205) : FVec Ideal S256x128 .f32) (ix2 o 0)
    = ((g1 o * (Real.sqrt (vari (cY X W1 b1) 8192 o + eps))⁻¹ : ℝ) : EReal) := by
  rw [keep_v205_22]
  exact scale_at (W20 m ρ c) (fun o => (congrFun (W20_args m ρ c main_arg4 (by decide)) _).trans (hg1 o)) (sum20 m ρ c hX hW1 hb1) (sq20 m ρ c hX hW1 hb1) o 0

include hX hW1 hb1 hg1 hbe1 in
theorem shift22 (o : Fin 256) : (W22 m ρ c (Proc.devRef .tc main_v207) : FVec Ideal S256x128 .f32) (ix2 o 0)
    = ((be1 o - mean (cY X W1 b1) 8192 o * (g1 o * (Real.sqrt (vari (cY X W1 b1) 8192 o + eps))⁻¹) : ℝ) : EReal) := by
  rw [keep_v207_22]
  exact shift_at (W20 m ρ c) (fun o => (congrFun (W20_args m ρ c main_arg4 (by decide)) _).trans (hg1 o))
    (fun o => (congrFun (W20_args m ρ c main_arg5 (by decide)) _).trans (hbe1 o)) (sum20 m ρ c hX hW1 hb1) (sq20 m ρ c hX hW1 hb1) o 0

include hWg1 in
theorem half_v72 : Half (W10 m ρ c (Proc.devRef .tc main_v72) : FVec Ideal S128x256 .f32) Wg1 0 :=
  Host.half1a (W8 m ρ c) fun g x y => (congrFun (W8_args m ρ c main_arg10 (by decide)) _).trans (hWg1 g x y)

include hWg1 in
theorem half_v105 : Half (W12 m ρ c (Proc.devRef .tc main_v105) : FVec Ideal S128x256 .f32) Wg1 1 :=
  Host.half1b (W10 m ρ c) fun g x y => (congrFun (W10_args m ρ c main_arg10 (by decide)) _).trans (hWg1 g x y)

include hWg2 in
theorem half_v138 : Half (W14 m ρ c (Proc.devRef .tc main_v138) : FVec Ideal S128x256 .f32) Wg2 0 :=
  Host.half2a (W12 m ρ c) fun g x y => (congrFun (W12_args m ρ c main_arg12 (by decide)) _).trans (hWg2 g x y)

include hWg2 in
theorem half_v171 : Half (W16 m ρ c (Proc.devRef .tc main_v171) : FVec Ideal S128x256 .f32) Wg2 1 :=
  Host.half2b (W14 m ρ c) fun g x y => (congrFun (W14_args m ρ c main_arg12 (by decide)) _).trans (hWg2 g x y)

include hWg1 in
theorem rows1 : R2.Rows (W22 m ρ c (Proc.devRef .tc main_v172) : FVec Ideal S256x256 .f32) Wg1 := by
  intro r v
  rw [keep_v172_22]
  have e : ∀ k, (W17 m ρ c (Proc.devRef .tc main_v172) : FVec Ideal S256x256 .f32) (ix2 r k) = _ := fun k => both1 (W16 m ρ c) r k
  by_cases h : r.val < 128
  · have e' : ∀ k, (W17 m ρ c (Proc.devRef .tc main_v172) : FVec Ideal S256x256 .f32) (ix2 r k) = (W16 m ρ c (Proc.devRef .tc main_v72) : FVec Ideal S128x256 .f32) (ix2 ⟨r.val, h⟩ k) :=
      fun k => (e k).trans (dif_pos h)
    rw [Finset.sum_congr rfl fun k _ => congrArg (· * (v k : EReal)) (e' k), keep_v72_16]
    exact half_v72 m ρ c hWg1 ⟨r.val, h⟩ r (by simp) v
  · have e' : ∀ k, (W17 m ρ c (Proc.devRef .tc main_v172) : FVec Ideal S256x256 .f32) (ix2 r k) = (W16 m ρ c (Proc.devRef .tc main_v105) : FVec Ideal S128x256 .f32) (ix2 ⟨r.val - 128, by omega⟩ k) :=
      fun k => (e k).trans (dif_neg h)
    rw [Finset.sum_congr rfl fun k _ => congrArg (· * (v k : EReal)) (e' k), keep_v105_16]
    exact half_v105 m ρ c hWg1 ⟨r.val - 128, by omega⟩ r (by dsimp only; omega) v

include hWg2 in
theorem rows2 : R2.Rows (W22 m ρ c (Proc.devRef .tc main_v173) : FVec Ideal S256x256 .f32) Wg2 := by
  intro r v
  rw [keep_v173_22]
  have e : ∀ k, (W17 m ρ c (Proc.devRef .tc main_v173) : FVec Ideal S256x256 .f32) (ix2 r k) = _ := fun k => both2 (W16 m ρ c) r k
  by_cases h : r.val < 128
  · have e' : ∀ k, (W17 m ρ c (Proc.devRef .tc main_v173) : FVec Ideal S256x256 .f32) (ix2 r k) = (W16 m ρ c (Proc.devRef .tc main_v138) : FVec Ideal S128x256 .f32) (ix2 ⟨r.val, h⟩ k) :=
      fun k => (e k).trans (dif_pos h)
    rw [Finset.sum_congr rfl fun k _ => congrArg (· * (v k : EReal)) (e' k), keep_v138_16]
    exact half_v138 m ρ c hWg2 ⟨r.val, h⟩ r (by simp) v
  · have e' : ∀ k, (W17 m ρ c (Proc.devRef .tc main_v173) : FVec Ideal S256x256 .f32) (ix2 r k) = (W16 m ρ c (Proc.devRef .tc main_v171) : FVec Ideal S128x256 .f32) (ix2 ⟨r.val - 128, by omega⟩ k) :=
      fun k => (e k).trans (dif_neg h)
    rw [Finset.sum_congr rfl fun k _ => congrArg (· * (v k : EReal)) (e' k)]
    exact half_v171 m ρ c hWg2 ⟨r.val - 128, by omega⟩ r (by dsimp only; omega) v

include hWg1 in
theorem cols1 (r : Fin 128) (v : Fin 256 → ℝ) : (∑ k, (v k : EReal) * (W21 m ρ c (Proc.devRef .tc main_v208) : FVec Ideal S256x128 .f32) (ix2 k r)) = (own v Wg1 ⟨128 + r.val, by omega⟩ : EReal) := by
  have e : ∀ k, (W21 m ρ c (Proc.devRef .tc main_v208) : FVec Ideal S256x128 .f32) (ix2 k r) = (W12 m ρ c (Proc.devRef .tc main_v105) : FVec Ideal S128x256 .f32) (ix2 r k) :=
    fun k => (trans1 (W20 m ρ c) k r).trans (congrFun (keep_v105_20 m ρ c) _)
  rw [Finset.sum_congr rfl fun k _ => (congrArg ((v k : EReal) * ·) (e k)).trans (mul_comm _ _)]
  exact half_v105 m ρ c hWg1 r ⟨128 + r.val, by omega⟩ (by simp) v

include hWg2 in
theorem cols2 (r : Fin 128) (v : Fin 256 → ℝ) : (∑ k, (v k : EReal) * (W21 m ρ c (Proc.devRef .tc main_v209) : FVec Ideal S256x128 .f32) (ix2 k r)) = (own v Wg2 ⟨128 + r.val, by omega⟩ : EReal) := by
  have e : ∀ k, (W21 m ρ c (Proc.devRef .tc main_v209) : FVec Ideal S256x128 .f32) (ix2 k r) = (W16 m ρ c (Proc.devRef .tc main_v171) : FVec Ideal S128x256 .f32) (ix2 r k) :=
    fun k => (trans2 (W20 m ρ c) k r).trans (congrFun (keep_v171_20 m ρ c) _)
  rw [Finset.sum_congr rfl fun k _ => (congrArg ((v k : EReal) * ·) (e k)).trans (mul_comm _ _)]
  exact half_v171 m ρ c hWg2 r ⟨128 + r.val, by omega⟩ (by simp) v

include hWt in
theorem topic21 (o : Fin 256) (v : Fin 16 → EReal) : ∑ j, v j * (W21 m ρ c (Proc.devRef .tc main_v39) : FVec Ideal S16x256 .f32) (ix2 j o)
    = ∑ x : Fin 4, Wt o x * v ⟨o.val / 64 * 4 + x.val, by omega⟩ := by
  rw [keep_v39_21]
  exact Host.topic (W6 m ρ c) (fun o x => (congrFun (W6_args m ρ c main_arg6 (by decide)) _).trans (hWt o x)) o v

include hbt in
theorem row0 (o : Fin 256) : (W21 m ρ c (Proc.devRef .tc main_v180) : FVec Ideal S8x256 .f32) (ix2 0 o) = bt o := by
  rw [keep_v180_21]
  exact (congrFun (rows3_eq (W16 m ρ c)) _).trans ((rows3_0 _ _ _ _ o).trans ((congrFun (W16_args m ρ c main_arg7 (by decide)) _).trans (hbt o)))

include hgt in
theorem row1 (o : Fin 256) : (W21 m ρ c (Proc.devRef .tc main_v180) : FVec Ideal S8x256 .f32) (ix2 1 o) = (gt o : EReal) := by
  rw [keep_v180_21]
  exact (congrFun (rows3_eq (W16 m ρ c)) _).trans ((rows3_1 _ _ _ _ o).trans ((congrFun (W16_args m ρ c main_arg8 (by decide)) _).trans (hgt o)))

include hbet in
theorem row2 (o : Fin 256) : (W21 m ρ c (Proc.devRef .tc main_v180) : FVec Ideal S8x256 .f32) (ix2 2 o) = (bet o : EReal) := by
  rw [keep_v180_21]
  exact (congrFun (rows3_eq (W16 m ρ c)) _).trans ((rows3_2 _ _ _ _ o).trans ((congrFun (W16_args m ρ c main_arg9 (by decide)) _).trans (hbet o)))

include hT in
theorem t21 (i : Fin 4) (t : Fin 128) (j : Fin 16) : (W21 m ρ c (Proc.devRef .tc main_arg1) : FVec Ideal S4x128x16 .f32) (ix3 i t j) = T i t j :=
  (congrFun (W21_args m ρ c main_arg1 (by decide)) _).trans (hT i t j)

include hT hWt hbt hgt hbet in
theorem tf22 (i : Fin 4) (s : Fin 128) (o : Fin 256) : (W22 m ρ c (Proc.devRef .tc main_v210_0) : FVec Ideal S4x128x256 .f32) (ix3 i s o) = (feat T Wt bt gt bet i o s : EReal) :=
  (congrFun ((W22_arr m ρ c 5).trans (R1.arr5 (V21 m ρ) c)) _).trans
    (K1.tf_at (t21 m ρ c hT) (topic21 m ρ c hWt) (row0 m ρ c hbt) (row1 m ρ c hgt) (row2 m ρ c hbet) i s o)

include hT hWt hbt hgt hbet hWg1 in
theorem tm1_22 (i : Fin 4) (r s : Fin 128) : (W22 m ρ c (Proc.devRef .tc main_v210_1) : FVec Ideal S4x128x128 .f32) (ix3 i r s)
    = (own (fun o => feat T Wt bt gt bet i o s) Wg1 ⟨128 + r.val, by omega⟩ : EReal) :=
  (congrFun ((W22_arr m ρ c 6).trans (R1.arr6 (V21 m ρ) c)) _).trans
    (K1.tm1_at (t21 m ρ c hT) (topic21 m ρ c hWt) (row0 m ρ c hbt) (row1 m ρ c hgt) (row2 m ρ c hbet) (cols1 m ρ c hWg1) i r s)

include hT hWt hbt hgt hbet hWg2 in
theorem tm2_22 (i : Fin 4) (r s : Fin 128) : (W22 m ρ c (Proc.devRef .tc main_v210_2) : FVec Ideal S4x128x128 .f32) (ix3 i r s)
    = (own (fun o => feat T Wt bt gt bet i o s) Wg2 ⟨128 + r.val, by omega⟩ : EReal) :=
  (congrFun ((W22_arr m ρ c 7).trans (R1.arr7 (V21 m ρ) c)) _).trans
    (K1.tm2_at (t21 m ρ c hT) (topic21 m ρ c hWt) (row0 m ρ c hbt) (row1 m ρ c hgt) (row2 m ρ c hbet) (cols2 m ρ c hWg2) i r s)

include hT hWt hbt hgt hbet in
theorem t2_22 (i : Fin 4) (s r : Fin 128) : (W22 m ρ c (Proc.devRef .tc main_v210_3) : FVec Ideal S4x128x128 .f32) (ix3 i s r)
    = ((∑ o, feat T Wt bt gt bet i o s * feat T Wt bt gt bet i o s : ℝ) : EReal) :=
  (congrFun ((W22_arr m ρ c 8).trans (R1.arr8 (V21 m ρ) c)) _).trans
    (K1.t2_at (t21 m ρ c hT) (topic21 m ρ c hWt) (row0 m ρ c hbt) (row1 m ρ c hgt) (row2 m ρ c hbet) i s r)

include hX hW1 hb1 in
theorem y22 (i : Fin 4) (o : Fin 256) (t : Fin 2048) : (W22 m ρ c (Proc.devRef .tc main_v185_0) : FVec Ideal S4x256x2048 .f32) (ix3 i o t) = (cY X W1 b1 i o t : EReal) := by
  rw [keep_v185_0_22]
  exact y20 m ρ c hX hW1 hb1 i o t

include hX in
theorem x22 (i : Fin 4) (o : Fin 256) (t : Fin 2048) : (W22 m ρ c (Proc.devRef .tc main_arg0) : FVec Ideal S4x256x2048 .f32) (ix3 i o t) = (X i o t : EReal) :=
  (congrFun (W22_args m ρ c main_arg0 (by decide)) _).trans (hX i o t)

include hbg1 in
theorem bias22 (o : Fin 256) : (W22 m ρ c (Proc.devRef .tc main_v182) : FVec Ideal S256x128 .f32) (ix2 o 0) = (bg1 o : EReal) := by
  rw [keep_v182_22]
  exact (spread_bg1 (W18 m ρ c) o 0).trans ((congrFun (W18_args m ρ c main_arg11 (by decide)) _).trans (hbg1 o))

theorem bias22' (o : Fin 256) : (W22 m ρ c (Proc.devRef .tc main_v184) : FVec Ideal S256x128 .f32) (ix2 o 0)
    = (m ((c : Thread nD τ).loc main_arg13) : FVec Ideal S256 .f32) (ix1 o) := by
  rw [keep_v184_22]
  exact (spread_bg2 (W18 m ρ c) o 0).trans (congrFun (W18_args m ρ c main_arg13 (by decide)) _)

include hX hT hW1 hb1 hg1 hbe1 hWt hbt hgt hbet hWg1 hbg1 hWg2 in
/-- The kernel's result at an index, over the reals its arguments hold. -/
theorem net_at (i : Fin 4) (o : Fin 256) (t : Fin 2048) : (W23 m ρ c (Proc.devRef .tc main_v211) : FVec Ideal S4x256x2048 .f32) (ix3 i o t)
    = net X T W1 b1 g1 be1 Wt bt gt bet Wg1 bg1 Wg2 (fun o => (m ((c : Thread nD τ).loc main_arg13) : FVec Ideal S256 .f32) (ix1 o)) i o t := by
  refine (congrFun (W23_arr m ρ c 12) _).trans ((R2.arr_at (V22 m ρ) c (y22 m ρ c hX hW1 hb1) (x22 m ρ c hX) (tf22 m ρ c hT hWt hbt hgt hbet)
    (tm1_22 m ρ c hT hWt hbt hgt hbet hWg1) (tm2_22 m ρ c hT hWt hbt hgt hbet hWg2) (t2_22 m ρ c hT hWt hbt hgt hbet)
    (scale22 m ρ c hX hW1 hb1 hg1) (shift22 m ρ c hX hW1 hb1 hg1 hbe1) (rows1 m ρ c hWg1) (rows2 m ρ c hWg2) (bias22 m ρ c hbg1) (bias22' m ρ c) i o t).trans ?_)
  unfold R2.fin net base1 base0
  simp only [norm_affine]

end Cert.KRun
end
-- ==== Proof.KValue.lean ====
/-
  The idealized kernel's run: it ends with its result array at what the last boundary's contents say, its arguments as launched.
-/
module

public import proofs.«01_k».proof.Proof.Gen.KernelIdeal.Frame

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KRun

open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

-- the launch's implicit arguments are found by unifying with the conclusion, through plain definitions in a variable's type
set_option backward.isDefEq.respectTransparency.types false in
/-- The result array ends at the last boundary's contents, the argument arrays as launched. -/
theorem run : θ_run defs (onTc (τ := τ) (main (F := Ideal))) ⟨m, fun _ => 0, ρ⟩ (fun r => ∀ c : Dev nD,
      r.2.mem ((c.tc : Thread nD τ).loc main_v211) = W23 m ρ c (Proc.devRef .tc main_v211)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h _ => fun c =>
      ⟨h c _ (mem_uc main_v211 (by decide)),
       (h c _ (mem_uc main_arg0 (by decide))).trans (W23_main_arg0 m ρ c),
       (h c _ (mem_uc main_arg1 (by decide))).trans (W23_main_arg1 m ρ c),
       (h c _ (mem_uc main_arg2 (by decide))).trans (W23_main_arg2 m ρ c),
       (h c _ (mem_uc main_arg3 (by decide))).trans (W23_main_arg3 m ρ c),
       (h c _ (mem_uc main_arg4 (by decide))).trans (W23_main_arg4 m ρ c),
       (h c _ (mem_uc main_arg5 (by decide))).trans (W23_main_arg5 m ρ c),
       (h c _ (mem_uc main_arg6 (by decide))).trans (W23_main_arg6 m ρ c),
       (h c _ (mem_uc main_arg7 (by decide))).trans (W23_main_arg7 m ρ c),
       (h c _ (mem_uc main_arg8 (by decide))).trans (W23_main_arg8 m ρ c),
       (h c _ (mem_uc main_arg9 (by decide))).trans (W23_main_arg9 m ρ c),
       (h c _ (mem_uc main_arg10 (by decide))).trans (W23_main_arg10 m ρ c),
       (h c _ (mem_uc main_arg11 (by decide))).trans (W23_main_arg11 m ρ c),
       (h c _ (mem_uc main_arg12 (by decide))).trans (W23_main_arg12 m ρ c),
       (h c _ (mem_uc main_arg13 (by decide))).trans (W23_main_arg13 m ρ c)⟩)

end Cert.KRun
end
-- ==== Proof.Finite.lean ====
/-
  What the precondition says: every entry of the ten arguments it names is a real.
-/
module

public import proofs.«01_k».proof.Proof.Math
public import proofs.«01_k».proof.Pre_finite_inputs
public import Idealize.ShloMosaic.Lib.ReduceAll
public import Idealize.ShloMosaic.Lib.Tactic

@[expose] public section

noncomputable section

open Idealize.ShloMosaic

namespace Cert.Finite

open Cert.Pre_finite_inputs Cert.Num

/-- An extended real whose absolute value is below `⊤` is a real. -/
theorem real_of_abs (x : EReal) (h : max x (-x) < ⊤) : x = ((x.toReal : ℝ) : EReal) :=
  (EReal.coe_toReal (fun e => by simp [e] at h) (fun e => by simp [e] at h)).symm

instance : Subsingleton S_.Idx := ⟨fun a b => funext fun d => d.elim0⟩

/-- One conjunct of the precondition: the entries of one argument are reals. -/
theorem real_of_all {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant (F := Ideal) S_ .f32 0x7F800000#32)))
      (constantI S_ 1 1#1) hr hu j = 1#1) (i : s.Idx) : x i = (((x i : EReal).toReal : ℝ) : EReal) := by
  have h := Host.reduce_andi_all _ _ _ _ j e i
  refine real_of_abs _ ?_
  have h' : Ideal.cmp .olt (max (x i) (-(x i)) : EReal) (Ideal.ofBits .f32 0x7F800000#32) = 1#1 := h
  rw [bits_inf] at h'
  by_contra hn
  have h0 : Ideal.cmp .olt (max (x i) (-(x i)) : EReal) ⊤ = 0#1 := by unfold Ideal.cmp; simp [hn]
  rw [h0] at h'
  exact absurd h' (by decide)

/-- A conjunction of two bits that is one has both bits one. -/
theorem both {a b : IVec S_ 1} (j : S_.Idx) (h : andi a b j = 1#1) : a j = 1#1 ∧ b j = 1#1 := by
  have h' : a j &&& b j = 1#1 := h
  revert h'
  generalize a j = p
  generalize b j = q
  revert p q
  decide

variable [Facts]

/-- The precondition's program is one only when the ten arguments it names hold reals. -/
theorem reals (X : FVec Ideal S4x256x2048 .f32) (T : FVec Ideal S4x128x16 .f32) (W1 : FVec Ideal S256x64x3 .f32)
    (b1 g1 be1 : FVec Ideal S256 .f32) (Wt : FVec Ideal S256x4x1 .f32) (bt gt bet : FVec Ideal S256 .f32)
    (Wg1 : FVec Ideal S32x8x16 .f32) (bg1 : FVec Ideal S256 .f32) (Wg2 : FVec Ideal S32x8x16 .f32) (bg2 : FVec Ideal S256 .f32)
    (h : fn (F := Ideal) X T W1 b1 g1 be1 Wt bt gt bet Wg1 bg1 Wg2 bg2 = fun _ => 1#1) :
    (∀ i, X i = ((X i : EReal).toReal : EReal))
    ∧ (∀ i, W1 i = ((W1 i : EReal).toReal : EReal)) ∧ (∀ i, b1 i = ((b1 i : EReal).toReal : EReal))
    ∧ (∀ i, g1 i = ((g1 i : EReal).toReal : EReal)) ∧ (∀ i, be1 i = ((be1 i : EReal).toReal : EReal))

    ∧ (∀ i, gt i = ((gt i : EReal).toReal : EReal)) ∧ (∀ i, bet i = ((bet i : EReal).toReal : EReal))
    ∧ (∀ i, Wg1 i = ((Wg1 i : EReal).toReal : EReal)) ∧ (∀ i, bg1 i = ((bg1 i : EReal).toReal : EReal))
    ∧ (∀ i, Wg2 i = ((Wg2 i : EReal).toReal : EReal)) := by
  have h0 := congrFun h (fun d => d.elim0)
  obtain ⟨h0, p9⟩ := both _ h0
  obtain ⟨h0, p8⟩ := both _ h0
  obtain ⟨h0, p7⟩ := both _ h0
  obtain ⟨h0, p6⟩ := both _ h0
  obtain ⟨h0, p5⟩ := both _ h0
  obtain ⟨h0, p4⟩ := both _ h0
  obtain ⟨h0, p3⟩ := both _ h0
  obtain ⟨h0, p2⟩ := both _ h0
  obtain ⟨h0, p1⟩ := both _ h0
  obtain ⟨-, p0⟩ := both _ h0
  exact ⟨real_of_all X _ _ _ _ p0, real_of_all W1 _ _ _ _ p1, real_of_all b1 _ _ _ _ p2, real_of_all g1 _ _ _ _ p3,
    real_of_all be1 _ _ _ _ p4, real_of_all gt _ _ _ _ p5, real_of_all bet _ _ _ _ p6, real_of_all Wg1 _ _ _ _ p7,
    real_of_all bg1 _ _ _ _ p8, real_of_all Wg2 _ _ _ _ p9⟩

end Cert.Finite
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.RefRun
public import proofs.«01_k».proof.Proof.RefLayer
public import proofs.«01_k».proof.Proof.KRun
public import proofs.«01_k».proof.Proof.KValue
public import proofs.«01_k».proof.Proof.Finite
public import proofs.«01_k».proof.Proof.Gen.Pre_finite_inputs
public import Idealize.ShloMosaic.Adequacy
public import Idealize.ShloMosaic.Init

@[expose] public section

noncomputable section

namespace Cert.Proof

open Idealize.ShloMosaic Idealize.SL.Sem

/-- Both programs end with the network's value: the kernel by its run over the three regions, the reference by its one term. -/
theorem algebraic : Cert.algebraic_KernelIdeal_ReferenceIdeal_pre_finite_inputs := by
  intro m g m' g' hpre hagree
  refine ⟨_, Cert.KRun.run m g, ?_⟩
  refine (θ_run Cert.ReferenceIdeal.defs _ _).mono (fun _ h c => ⟨(h c).1.trans ?_, (h c).2⟩) (Cert.RefTerm.run_ref m' g')
  obtain ⟨a0, a1, a2, a3, a4, a5, a6, a7, a8, a9, a10, a11, a12, a13⟩ := hagree c
  rw [a0, a1, a2, a3, a4, a5, a6, a7, a8, a9, a10, a11, a12, a13]
  obtain ⟨hX, hW1, hb1, hg1, hbe1, hgt, hbet, hWg1, hbg1, hWg2⟩ :=
    Cert.Finite.reals _ _ _ _ _ _ _ _ _ _ _ _ _ _ (hpre c)
  funext j
  obtain ⟨i, o, t, rfl⟩ : ∃ i o t, j = ix3 i o t := ⟨j 0, j 1, j 2, funext fun d => by fin_cases d <;> rfl⟩
  refine (Cert.RefTerm.ref_real _ _ _ _ _ _ _ _ _ _ _ _ _ _
    (fun i o t => (_ : EReal).toReal) (fun i o t => (_ : EReal).toReal) (fun i => (_ : EReal).toReal)
    (fun i => (_ : EReal).toReal) (fun i => (_ : EReal).toReal)
    (fun i => (_ : EReal).toReal) (fun i => (_ : EReal).toReal) (fun i o t => (_ : EReal).toReal) (fun i => (_ : EReal).toReal)
    (fun i o t => (_ : EReal).toReal)
    (fun i o t => hX (ix3 i o t)) (fun i o t => hW1 (ix3 i o t)) (fun i => hb1 (ix1 i))
    (fun i => hg1 (ix1 i)) (fun i => hbe1 (ix1 i)) (fun i => hgt (ix1 i))
    (fun i => hbet (ix1 i)) (fun i o t => hWg1 (ix3 i o t)) (fun i => hbg1 (ix1 i)) (fun i o t => hWg2 (ix3 i o t)) i o t).trans ?_
  exact (Cert.KRun.net_at m g c (fun i o t => hX (ix3 i o t)) (fun _ _ _ => rfl) (fun i o t => hW1 (ix3 i o t))
    (fun i => hb1 (ix1 i)) (fun i => hg1 (ix1 i)) (fun i => hbe1 (ix1 i)) (fun _ _ => rfl) (fun _ => rfl)
    (fun i => hgt (ix1 i)) (fun i => hbet (ix1 i)) (fun i o t => hWg1 (ix3 i o t)) (fun i => hbg1 (ix1 i))
    (fun i o t => hWg2 (ix3 i o t)) i o t).symm

theorem claim : Cert.Claim := ⟨Cert.Kernel.Gen.facts, Cert.KernelIdeal.Gen.facts, Cert.ReferenceIdeal.Gen.facts, Cert.Pre_finite_inputs.Gen.facts,
  Claims.frame_p, Claims.frame_pi, fun m ρ _ => Claims.frame_pi m ρ trivial, Claims.frame_ri, fun m ρ _ => Claims.frame_ri m ρ trivial,
  Claims.preserves, algebraic⟩

end Cert.Proof

end
